-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S3x11008x4096 : Shape := ⟨3, ![3, 11008, 4096]⟩
abbrev S16x128 : Shape := ⟨2, ![16, 128]⟩
abbrev S64x256 : Shape := ⟨2, ![64, 256]⟩
abbrev S33024x4096 : Shape := ⟨2, ![33024, 4096]⟩
abbrev S33024x512 : Shape := ⟨2, ![33024, 512]⟩
abbrev S3x64x11008 : Shape := ⟨3, ![3, 64, 11008]⟩
abbrev S8x128 : Shape := ⟨2, ![8, 128]⟩
abbrev S256x128 : Shape := ⟨2, ![256, 128]⟩
abbrev S256x512 : Shape := ⟨2, ![256, 512]⟩
abbrev S1x64x256 : Shape := ⟨3, ![1, 64, 256]⟩
abbrev S2x512x128 : Shape := ⟨3, ![2, 512, 128]⟩
abbrev S2x512x2x128 : Shape := ⟨4, ![2, 512, 2, 128]⟩
abbrev S2x512x1x128 : Shape := ⟨4, ![2, 512, 1, 128]⟩
abbrev S256x2x128 : Shape := ⟨3, ![256, 2, 128]⟩
abbrev S256x1x128 : Shape := ⟨3, ![256, 1, 128]⟩
abbrev S64x128 : Shape := ⟨2, ![64, 128]⟩
abbrev S2x16x128 : Shape := ⟨3, ![2, 16, 128]⟩
abbrev S2x16x2x128 : Shape := ⟨4, ![2, 16, 2, 128]⟩
abbrev S2x16x1x128 : Shape := ⟨4, ![2, 16, 1, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S128x128 : Shape := ⟨2, ![128, 128]⟩
abbrev S1x4x128 : Shape := ⟨3, ![1, 4, 128]⟩
abbrev S1x4x2x128 : Shape := ⟨4, ![1, 4, 2, 128]⟩
abbrev S1x4x1x128 : Shape := ⟨4, ![1, 4, 1, 128]⟩
abbrev S4x128 : Shape := ⟨2, ![4, 128]⟩
abbrev S1x128 : Shape := ⟨2, ![1, 128]⟩
abbrev S8x1024 : Shape := ⟨2, ![8, 1024]⟩
abbrev S8x1024x1 : Shape := ⟨3, ![8, 1024, 1]⟩
abbrev S256x256 : Shape := ⟨2, ![256, 256]⟩
abbrev S32x256 : Shape := ⟨2, ![32, 256]⟩
abbrev S128x256 : Shape := ⟨2, ![128, 256]⟩
abbrev S1024x128 : Shape := ⟨2, ![1024, 128]⟩
abbrev S512x128 : Shape := ⟨2, ![512, 128]⟩
abbrev S1x512x128 : Shape := ⟨3, ![1, 512, 128]⟩
abbrev S1x512x2x128 : Shape := ⟨4, ![1, 512, 2, 128]⟩
abbrev S1x512x1x128 : Shape := ⟨4, ![1, 512, 1, 128]⟩
abbrev S64x2x128 : Shape := ⟨3, ![64, 2, 128]⟩
abbrev S64x1x128 : Shape := ⟨3, ![64, 1, 128]⟩
abbrev S8x2x128 : Shape := ⟨3, ![8, 2, 128]⟩
abbrev S8x1x128 : Shape := ⟨3, ![8, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x64x128 : Shape := ⟨3, ![1, 64, 128]⟩

abbrev nBuf : Space → Nat
  | .hbm => 8
  | .vmem => 82
  | .smem => 0
  | _ => 0

abbrev bufTy : (tb : Table) → Fin (tcTables nBuf tb) → BufTy
  | .hbm, ⟨0, _⟩ => ⟨S3x11008x4096, .bf16⟩
  | .hbm, ⟨1, _⟩ => ⟨S16x128, .f32⟩
  | .hbm, ⟨2, _⟩ => ⟨S16x128, .i32⟩
  | .hbm, ⟨3, _⟩ => ⟨S64x256, .bf16⟩
  | .hbm, ⟨4, _⟩ => ⟨S33024x4096, .bf16⟩
  | .hbm, ⟨5, _⟩ => ⟨S33024x512, .i32⟩
  | .hbm, ⟨6, _⟩ => ⟨S3x64x11008, .f32⟩
  | .hbm, ⟨7, _⟩ => ⟨S8x128, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | .local _ .vmem, ⟨29, _⟩ => ⟨S256x128, .bf16⟩
  | .local _ .vmem, ⟨30, _⟩ => ⟨S256x128, .bf16⟩
  | .local _ .vmem, ⟨31, _⟩ => ⟨S256x128, .bf16⟩
  | .local _ .vmem, ⟨32, _⟩ => ⟨S256x128, .bf16⟩
  | .local _ .vmem, ⟨33, _⟩ => ⟨S256x128, .bf16⟩
  | .local _ .vmem, ⟨34, _⟩ => ⟨S256x128, .bf16⟩
  | .local _ .vmem, ⟨35, _⟩ => ⟨S256x128, .bf16⟩
  | .local _ .vmem, ⟨36, _⟩ => ⟨S256x128, .bf16⟩
  | .local _ .vmem, ⟨37, _⟩ => ⟨S256x128, .bf16⟩
  | .local _ .vmem, ⟨38, _⟩ => ⟨S256x128, .bf16⟩
  | .local _ .vmem, ⟨39, _⟩ => ⟨S256x128, .bf16⟩
  | .local _ .vmem, ⟨40, _⟩ => ⟨S256x128, .bf16⟩
  | .local _ .vmem, ⟨41, _⟩ => ⟨S256x128, .bf16⟩
  | .local _ .vmem, ⟨42, _⟩ => ⟨S256x128, .bf16⟩
  | .local _ .vmem, ⟨43, _⟩ => ⟨S256x128, .bf16⟩
  | .local _ .vmem, ⟨44, _⟩ => ⟨S256x128, .bf16⟩
  | .local _ .vmem, ⟨45, _⟩ => ⟨S256x128, .bf16⟩
  | .local _ .vmem, ⟨46, _⟩ => ⟨S256x128, .bf16⟩
  | .local _ .vmem, ⟨47, _⟩ => ⟨S256x128, .bf16⟩
  | .local _ .vmem, ⟨48, _⟩ => ⟨S256x128, .bf16⟩
  | .local _ .vmem, ⟨49, _⟩ => ⟨S256x128, .bf16⟩
  | .local _ .vmem, ⟨50, _⟩ => ⟨S256x128, .bf16⟩
  | .local _ .vmem, ⟨51, _⟩ => ⟨S256x128, .bf16⟩
  | .local _ .vmem, ⟨52, _⟩ => ⟨S256x128, .bf16⟩
  | .local _ .vmem, ⟨53, _⟩ => ⟨S256x128, .bf16⟩
  | .local _ .vmem, ⟨54, _⟩ => ⟨S256x128, .bf16⟩
  | .local _ .vmem, ⟨55, _⟩ => ⟨S256x128, .bf16⟩
  | .local _ .vmem, ⟨56, _⟩ => ⟨S256x128, .bf16⟩
  | .local _ .vmem, ⟨57, _⟩ => ⟨S256x128, .bf16⟩
  | .local _ .vmem, ⟨58, _⟩ => ⟨S256x128, .bf16⟩
  | .local _ .vmem, ⟨59, _⟩ => ⟨S256x128, .bf16⟩
  | .local _ .vmem, ⟨60, _⟩ => ⟨S256x128, .bf16⟩
  | .local _ .vmem, ⟨61, _⟩ => ⟨S256x128, .bf16⟩
  | .local _ .vmem, ⟨62, _⟩ => ⟨S256x128, .bf16⟩
  | .local _ .vmem, ⟨63, _⟩ => ⟨S256x128, .bf16⟩
  | .local _ .vmem, ⟨64, _⟩ => ⟨S16x128, .f32⟩
  | .local _ .vmem, ⟨65, _⟩ => ⟨S16x128, .i32⟩
  | .local _ .vmem, ⟨66, _⟩ => ⟨S64x256, .bf16⟩
  | .local _ .vmem, ⟨67, _⟩ => ⟨S256x512, .i32⟩
  | .local _ .vmem, ⟨68, _⟩ => ⟨S256x512, .i32⟩
  | .local _ .vmem, ⟨69, _⟩ => ⟨S1x64x256, .f32⟩
  | .local _ .vmem, ⟨70, _⟩ => ⟨S1x64x256, .f32⟩
  | .local _ .vmem, ⟨71, _⟩ => ⟨S8x128, .f32⟩
  | .local _ .vmem, ⟨72, _⟩ => ⟨S2x512x2x128, .bf16⟩
  | .local _ .vmem, ⟨73, _⟩ => ⟨S2x512x2x128, .bf16⟩
  | .local _ .vmem, ⟨74, _⟩ => ⟨S256x2x128, .bf16⟩
  | .local _ .vmem, ⟨75, _⟩ => ⟨S256x2x128, .bf16⟩
  | .local _ .vmem, ⟨76, _⟩ => ⟨S64x128, .f32⟩
  | .local _ .vmem, ⟨77, _⟩ => ⟨S64x128, .f32⟩
  | .local _ .vmem, ⟨78, _⟩ => ⟨S2x16x128, .f32⟩
  | .local _ .vmem, ⟨79, _⟩ => ⟨S2x16x128, .f32⟩
  | .local _ .vmem, ⟨80, _⟩ => ⟨S2x16x2x128, .bf16⟩
  | .local _ .vmem, ⟨81, _⟩ => ⟨S2x16x2x128, .bf16⟩
  | _, _ => ⟨S3x11008x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_cst_0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg33_0 : Ref sig .tc := ⟨.vmem, 65, rfl⟩
abbrev cc0_stg34_0 : Ref sig .tc := ⟨.vmem, 66, rfl⟩
abbrev cc0_stg35_0 : Ref sig .tc := ⟨.vmem, 67, rfl⟩
abbrev cc0_stg35_1 : Ref sig .tc := ⟨.vmem, 68, rfl⟩
abbrev cc0_stg36_0 : Ref sig .tc := ⟨.vmem, 69, rfl⟩
abbrev cc0_stg36_1 : Ref sig .tc := ⟨.vmem, 70, rfl⟩
abbrev cc0_stg37_0 : Ref sig .tc := ⟨.vmem, 71, rfl⟩
abbrev cc0_scratch0 : Ref sig .tc := ⟨.vmem, 72, rfl⟩
abbrev cc0_scratch1 : Ref sig .tc := ⟨.vmem, 73, rfl⟩
abbrev cc0_scratch2 : Ref sig .tc := ⟨.vmem, 74, rfl⟩
abbrev cc0_scratch3 : Ref sig .tc := ⟨.vmem, 75, rfl⟩
abbrev cc0_scratch4 : Ref sig .tc := ⟨.vmem, 76, rfl⟩
abbrev cc0_scratch5 : Ref sig .tc := ⟨.vmem, 77, rfl⟩
abbrev cc0_scratch6 : Ref sig .tc := ⟨.vmem, 78, rfl⟩
abbrev cc0_scratch7 : Ref sig .tc := ⟨.vmem, 79, rfl⟩
abbrev cc0_scratch8 : Ref sig .tc := ⟨.vmem, 80, rfl⟩
abbrev cc0_scratch9 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem33_0 : DmaSem sig := 65
abbrev cc0_sem34_0 : DmaSem sig := 66
abbrev cc0_sem35_0 : DmaSem sig := 67
abbrev cc0_sem35_1 : DmaSem sig := 68
abbrev cc0_sem36_0 : DmaSem sig := 69
abbrev cc0_sem36_1 : DmaSem sig := 70
abbrev cc0_sem37_0 : DmaSem sig := 71

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c128_i32 : BitVec 32 := 128#32
  let v0 : BitVec 32 := Scalar.minsi arg0 c128_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.minsi arg0 c128_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c128_i32 : BitVec 32 := 128#32
  let v0 : BitVec 32 := Scalar.minsi arg0 c128_i32
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c128_i32 : BitVec 32 := 128#32
  let v0 : BitVec 32 := Scalar.minsi arg0 c128_i32
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c128_i32 : BitVec 32 := 128#32
  let v0 : BitVec 32 := Scalar.minsi arg0 c128_i32
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c128_i32 : BitVec 32 := 128#32
  let v0 : BitVec 32 := Scalar.minsi arg0 c128_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c128_i32 : BitVec 32 := 128#32
  let v0 : BitVec 32 := Scalar.minsi arg0 c128_i32
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c128_i32 : BitVec 32 := 128#32
  let v0 : BitVec 32 := Scalar.minsi arg0 c128_i32
  let c7_i32 : BitVec 32 := 7#32
  let c0_i32 : BitVec 32 := 0#32
  ![v0.toNat, c7_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c10_i32 : BitVec 32 := 10#32
  let c0_i32_0 : BitVec 32 := 0#32
  ![v1.toNat, c10_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let c0_i32_0 : BitVec 32 := 0#32
  ![v1.toNat, c11_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let c0_i32_0 : BitVec 32 := 0#32
  ![v1.toNat, c12_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c13_i32 : BitVec 32 := 13#32
  let c0_i32_0 : BitVec 32 := 0#32
  ![v1.toNat, c13_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let c0_i32_0 : BitVec 32 := 0#32
  ![v1.toNat, c14_i32.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let c0_i32_0 : BitVec 32 := 0#32
  ![v1.toNat, c15_i32.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let c0_i32_0 : BitVec 32 := 0#32
  ![v1.toNat, c18_i32.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c19_i32 : BitVec 32 := 19#32
  let c0_i32_0 : BitVec 32 := 0#32
  ![v1.toNat, c19_i32.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c22_i32 : BitVec 32 := 22#32
  let c0_i32_0 : BitVec 32 := 0#32
  ![v1.toNat, c22_i32.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c23_i32 : BitVec 32 := 23#32
  let c0_i32_0 : BitVec 32 := 0#32
  ![v1.toNat, c23_i32.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_25 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_26 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let c0_i32_0 : BitVec 32 := 0#32
  ![v1.toNat, c26_i32.toNat]

def cc0_transform_27 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c27_i32 : BitVec 32 := 27#32
  let c0_i32_0 : BitVec 32 := 0#32
  ![v1.toNat, c27_i32.toNat]

def cc0_transform_28 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c28_i32 : BitVec 32 := 28#32
  let c0_i32_0 : BitVec 32 := 0#32
  ![v1.toNat, c28_i32.toNat]

def cc0_transform_29 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c29_i32 : BitVec 32 := 29#32
  let c0_i32_0 : BitVec 32 := 0#32
  ![v1.toNat, c29_i32.toNat]

def cc0_transform_30 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c30_i32 : BitVec 32 := 30#32
  let c0_i32_0 : BitVec 32 := 0#32
  ![v1.toNat, c30_i32.toNat]

def cc0_transform_31 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c31_i32 : BitVec 32 := 31#32
  let c0_i32_0 : BitVec 32 := 0#32
  ![v1.toNat, c31_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_36 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c43_i32 : BitVec 32 := 43#32
  let v2 : BitVec 32 := Scalar.divsi v1 c43_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c43_i32 c0_i32_2
  let v9 : BitVec 32 := Scalar.extui v8
  let c0_i32_3 : BitVec 32 := 0#32
  let v10 : BitVec 1 := Scalar.cmpi .slt c43_i32 c0_i32_3
  let v11 : BitVec 32 := Scalar.extui v10
  let v12 : BitVec 32 := Scalar.subi v9 v11
  let v13 : BitVec 1 := Scalar.cmpi .ne v7 v12
  let v14 : BitVec 32 := Scalar.remsi v1 c43_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32_6 : BitVec 32 := 43#32
  let c0_i32_7 : BitVec 32 := 0#32
  let v19 : BitVec 1 := Scalar.cmpi .eq c43_i32_6 c0_i32_7
  let c1_i32_8 : BitVec 32 := 1#32
  let v20 : BitVec 32 := Scalar.select v19 c1_i32_8 c43_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x128 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x128 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x128 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .vmem S16x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S16x128 .i32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S64x256 .bf16 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 2 → Memref sig .tc .vmem S256x512 .i32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x64x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 1 → Memref sig .tc .vmem S8x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]
-- ==== ReferenceIdeal.lean ====
abbrev S3x11008x4096 : Shape := ⟨3, ![3, 11008, 4096]⟩
abbrev S3x11008x64x64 : Shape := ⟨4, ![3, 11008, 64, 64]⟩
abbrev S_ : Shape := ⟨0, ![]⟩
abbrev S3x11008x64 : Shape := ⟨3, ![3, 11008, 64]⟩
abbrev S3x11008x64x1 : Shape := ⟨4, ![3, 11008, 64, 1]⟩
abbrev S3x11008x512x8 : Shape := ⟨4, ![3, 11008, 512, 8]⟩
abbrev S8 : Shape := ⟨1, ![8]⟩
abbrev S1x1x1x8 : Shape := ⟨4, ![1, 1, 1, 8]⟩
abbrev S3x11008x512 : Shape := ⟨3, ![3, 11008, 512]⟩
abbrev S33024x512 : Shape := ⟨2, ![33024, 512]⟩
abbrev S3x64x11008 : Shape := ⟨3, ![3, 64, 11008]⟩

abbrev nBuf : Space → Nat
  | .hbm => 92
  | .vmem => 0
  | .smem => 0
  | _ => 0

abbrev bufTy : (tb : Table) → Fin (tcTables nBuf tb) → BufTy
  | .hbm, ⟨0, _⟩ => ⟨S3x11008x4096, .bf16⟩
  | .hbm, ⟨1, _⟩ => ⟨S3x11008x4096, .f32⟩
  | .hbm, ⟨2, _⟩ => ⟨S3x11008x64x64, .f32⟩
  | .hbm, ⟨3, _⟩ => ⟨S3x11008x64x64, .f32⟩
  | .hbm, ⟨4, _⟩ => ⟨S_, .f32⟩
  | .hbm, ⟨5, _⟩ => ⟨S3x11008x64, .f32⟩
  | .hbm, ⟨6, _⟩ => ⟨S_, .f32⟩
  | .hbm, ⟨7, _⟩ => ⟨S3x11008x64, .f32⟩
  | .hbm, ⟨8, _⟩ => ⟨S3x11008x64, .i1⟩
  | .hbm, ⟨9, _⟩ => ⟨S_, .f32⟩
  | .hbm, ⟨10, _⟩ => ⟨S3x11008x64, .f32⟩
  | .hbm, ⟨11, _⟩ => ⟨S3x11008x64, .f32⟩
  | .hbm, ⟨12, _⟩ => ⟨S_, .f32⟩
  | .hbm, ⟨13, _⟩ => ⟨S3x11008x64, .f32⟩
  | .hbm, ⟨14, _⟩ => ⟨S3x11008x64, .f32⟩
  | .hbm, ⟨15, _⟩ => ⟨S3x11008x64x1, .f32⟩
  | .hbm, ⟨16, _⟩ => ⟨S3x11008x64x64, .f32⟩
  | .hbm, ⟨17, _⟩ => ⟨S3x11008x64x64, .f32⟩
  | .hbm, ⟨18, _⟩ => ⟨S3x11008x512x8, .f32⟩
  | .hbm, ⟨19, _⟩ => ⟨S_, .f32⟩
  | .hbm, ⟨20, _⟩ => ⟨S3x11008x512x8, .f32⟩
  | .hbm, ⟨21, _⟩ => ⟨S3x11008x512x8, .i1⟩
  | .hbm, ⟨22, _⟩ => ⟨S_, .f32⟩
  | .hbm, ⟨23, _⟩ => ⟨S_, .f32⟩
  | .hbm, ⟨24, _⟩ => ⟨S3x11008x512x8, .f32⟩
  | .hbm, ⟨25, _⟩ => ⟨S3x11008x512x8, .f32⟩
  | .hbm, ⟨26, _⟩ => ⟨S3x11008x512x8, .f32⟩
  | .hbm, ⟨27, _⟩ => ⟨S3x11008x512x8, .i1⟩
  | .hbm, ⟨28, _⟩ => ⟨S_, .f32⟩
  | .hbm, ⟨29, _⟩ => ⟨S_, .f32⟩
  | .hbm, ⟨30, _⟩ => ⟨S3x11008x512x8, .f32⟩
  | .hbm, ⟨31, _⟩ => ⟨S3x11008x512x8, .f32⟩
  | .hbm, ⟨32, _⟩ => ⟨S3x11008x512x8, .f32⟩
  | .hbm, ⟨33, _⟩ => ⟨S_, .f32⟩
  | .hbm, ⟨34, _⟩ => ⟨S_, .f32⟩
  | .hbm, ⟨35, _⟩ => ⟨S3x11008x512x8, .f32⟩
  | .hbm, ⟨36, _⟩ => ⟨S3x11008x512x8, .f32⟩
  | .hbm, ⟨37, _⟩ => ⟨S3x11008x512x8, .f32⟩
  | .hbm, ⟨38, _⟩ => ⟨S3x11008x512x8, .f32⟩
  | .hbm, ⟨39, _⟩ => ⟨S3x11008x512x8, .i1⟩
  | .hbm, ⟨40, _⟩ => ⟨S_, .f32⟩
  | .hbm, ⟨41, _⟩ => ⟨S_, .f32⟩
  | .hbm, ⟨42, _⟩ => ⟨S3x11008x512x8, .f32⟩
  | .hbm, ⟨43, _⟩ => ⟨S3x11008x512x8, .f32⟩
  | .hbm, ⟨44, _⟩ => ⟨S3x11008x512x8, .f32⟩
  | .hbm, ⟨45, _⟩ => ⟨S_, .f32⟩
  | .hbm, ⟨46, _⟩ => ⟨S_, .f32⟩
  | .hbm, ⟨47, _⟩ => ⟨S3x11008x512x8, .f32⟩
  | .hbm, ⟨48, _⟩ => ⟨S3x11008x512x8, .f32⟩
  | .hbm, ⟨49, _⟩ => ⟨S3x11008x512x8, .f32⟩
  | .hbm, ⟨50, _⟩ => ⟨S3x11008x512x8, .f32⟩
  | .hbm, ⟨51, _⟩ => ⟨S_, .f32⟩
  | .hbm, ⟨52, _⟩ => ⟨S_, .f32⟩
  | .hbm, ⟨53, _⟩ => ⟨S3x11008x512x8, .f32⟩
  | .hbm, ⟨54, _⟩ => ⟨S3x11008x512x8, .f32⟩
  | .hbm, ⟨55, _⟩ => ⟨S3x11008x512x8, .f32⟩
  | .hbm, ⟨56, _⟩ => ⟨S_, .f32⟩
  | .hbm, ⟨57, _⟩ => ⟨S_, .f32⟩
  | .hbm, ⟨58, _⟩ => ⟨S3x11008x512x8, .f32⟩
  | .hbm, ⟨59, _⟩ => ⟨S3x11008x512x8, .f32⟩
  | .hbm, ⟨60, _⟩ => ⟨S3x11008x512x8, .f32⟩
  | .hbm, ⟨61, _⟩ => ⟨S3x11008x512x8, .f32⟩
  | .hbm, ⟨62, _⟩ => ⟨S3x11008x512x8, .f32⟩
  | .hbm, ⟨63, _⟩ => ⟨S3x11008x512x8, .i1⟩
  | .hbm, ⟨64, _⟩ => ⟨S3x11008x512x8, .i32⟩
  | .hbm, ⟨65, _⟩ => ⟨S_, .i32⟩
  | .hbm, ⟨66, _⟩ => ⟨S3x11008x512x8, .i32⟩
  | .hbm, ⟨67, _⟩ => ⟨S3x11008x512x8, .i32⟩
  | .hbm, ⟨68, _⟩ => ⟨S3x11008x512x8, .i32⟩
  | .hbm, ⟨69, _⟩ => ⟨S_, .i32⟩
  | .hbm, ⟨70, _⟩ => ⟨S3x11008x512x8, .i32⟩
  | .hbm, ⟨71, _⟩ => ⟨S3x11008x512x8, .i32⟩
  | .hbm, ⟨72, _⟩ => ⟨S3x11008x512x8, .i32⟩
  | .hbm, ⟨73, _⟩ => ⟨S3x11008x512x8, .i32⟩
  | .hbm, ⟨74, _⟩ => ⟨S_, .i32⟩
  | .hbm, ⟨75, _⟩ => ⟨S3x11008x512x8, .i32⟩
  | .hbm, ⟨76, _⟩ => ⟨S3x11008x512x8, .i32⟩
  | .hbm, ⟨77, _⟩ => ⟨S3x11008x512x8, .i32⟩
  | .hbm, ⟨78, _⟩ => ⟨S3x11008x512x8, .i32⟩
  | .hbm, ⟨79, _⟩ => ⟨S3x11008x512x8, .i32⟩
  | .hbm, ⟨80, _⟩ => ⟨S8, .i32⟩
  | .hbm, ⟨81, _⟩ => ⟨S_, .i32⟩
  | .hbm, ⟨82, _⟩ => ⟨S8, .i32⟩
  | .hbm, ⟨83, _⟩ => ⟨S8, .i32⟩
  | .hbm, ⟨84, _⟩ => ⟨S1x1x1x8, .i32⟩
  | .hbm, ⟨85, _⟩ => ⟨S3x11008x512x8, .i32⟩
  | .hbm, ⟨86, _⟩ => ⟨S3x11008x512x8, .i32⟩
  | .hbm, ⟨87, _⟩ => ⟨S_, .i32⟩
  | .hbm, ⟨88, _⟩ => ⟨S3x11008x512, .i32⟩
  | .hbm, ⟨89, _⟩ => ⟨S3x11008x512, .i32⟩
  | .hbm, ⟨90, _⟩ => ⟨S33024x512, .i32⟩
  | .hbm, ⟨91, _⟩ => ⟨S3x64x11008, .f32⟩
  | _, _ => ⟨S3x11008x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_cst_7 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_cst_8 : Ref sig .tc := ⟨.hbm, 33, rfl⟩
abbrev main_cst_9 : Ref sig .tc := ⟨.hbm, 34, rfl⟩
abbrev main_call3_v0 : Ref sig .tc := ⟨.hbm, 35, rfl⟩
abbrev main_call3_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_10 : Ref sig .tc := ⟨.hbm, 40, rfl⟩
abbrev main_cst_11 : Ref sig .tc := ⟨.hbm, 41, rfl⟩
abbrev main_call5_v0 : Ref sig .tc := ⟨.hbm, 42, rfl⟩
abbrev main_call5_v1 : Ref sig .tc := ⟨.hbm, 43, rfl⟩
abbrev main_v21 : Ref sig .tc := ⟨.hbm, 44, rfl⟩
abbrev main_cst_12 : Ref sig .tc := ⟨.hbm, 45, rfl⟩
abbrev main_cst_13 : Ref sig .tc := ⟨.hbm, 46, rfl⟩
abbrev main_call6_v0 : Ref sig .tc := ⟨.hbm, 47, rfl⟩
abbrev main_call6_v1 : Ref sig .tc := ⟨.hbm, 48, rfl⟩
abbrev main_v22 : Ref sig .tc := ⟨.hbm, 49, rfl⟩
abbrev main_v23 : Ref sig .tc := ⟨.hbm, 50, rfl⟩
abbrev main_cst_14 : Ref sig .tc := ⟨.hbm, 51, rfl⟩
abbrev main_cst_15 : Ref sig .tc := ⟨.hbm, 52, rfl⟩
abbrev main_call8_v0 : Ref sig .tc := ⟨.hbm, 53, rfl⟩
abbrev main_call8_v1 : Ref sig .tc := ⟨.hbm, 54, rfl⟩
abbrev main_v24 : Ref sig .tc := ⟨.hbm, 55, rfl⟩
abbrev main_cst_16 : Ref sig .tc := ⟨.hbm, 56, rfl⟩
abbrev main_cst_17 : Ref sig .tc := ⟨.hbm, 57, rfl⟩
abbrev main_call9_v0 : Ref sig .tc := ⟨.hbm, 58, rfl⟩
abbrev main_call9_v1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_18 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_19 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_20 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_21 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]
-- ==== Proof.Ideal.RunB.lean ====
/- What the kernel's body leaves in its buffers at the points after the first (case B), found by running it. A copy of the
generated module of this case with a larger heartbeat budget, under which it closes. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken: points 1, 2, … 129: 129 of 130), WITH the
    proof that on whole staging memrefs — the inputs' at their contents, the outputs it reads before covering (37) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16) :
    Σ' (L35 : List (View.Piece (Elt F) S256x512 .i32)), Σ' (L36 : List (View.Piece (Elt F) S1x64x256 .f32)), Σ' (L37 : List (View.Piece (Elt F) S8x128 .f32)), Σ' (LS0 : List (View.Piece (Elt F) S2x512x2x128 .bf16)), Σ' (LS4 : List (View.Piece (Elt F) S64x128 .f32)), Σ' (LS5 : List (View.Piece (Elt F) S64x128 .f32)), Σ' (LS6 : List (View.Piece (Elt F) S2x16x128 .f32)), Σ' (LS8 : List (View.Piece (Elt F) S2x16x2x128 .bf16)), Σ' (LT1 : List (View.Piece (Elt F) S2x512x2x128 .bf16)), Σ' (LT2 : List (View.Piece (Elt F) S256x2x128 .bf16)), Σ' (LT3 : List (View.Piece (Elt F) S256x2x128 .bf16)), Σ' (LT7 : List (View.Piece (Elt F) S2x16x128 .f32)), { LT9 : List (View.Piece (Elt F) S2x16x2x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ (∃ d, owns (c : Thread nD τ) arg36 fullShare d) ∗ (∃ d, owns (c : Thread nD τ) arg37 fullShare d) ∗ owns (c : Thread nD τ) arg38 fullShare xo37 ∗ owns (c : Thread nD τ) arg39 fullShare xs0 ∗ (∃ d, owns (c : Thread nD τ) arg40 fullShare d) ∗ (∃ d, owns (c : Thread nD τ) arg41 fullShare d) ∗ (∃ d, owns (c : Thread nD τ) arg42 fullShare d) ∗ owns (c : Thread nD τ) arg43 fullShare xs4 ∗ owns (c : Thread nD τ) arg44 fullShare xs5 ∗ owns (c : Thread nD τ) arg45 fullShare xs6 ∗ (∃ d, owns (c : Thread nD τ) arg46 fullShare d) ∗ owns (c : Thread nD τ) arg47 fullShare xs8 ∗ (∃ d, owns (c : Thread nD τ) arg48 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ (∃ f, arg36.view.loc (c : Thread nD τ) ↦[arg36.view.set]{fullShare} arg36.view.writes (Elt F) f L35) ∗ (∃ f, arg37.view.loc (c : Thread nD τ) ↦[arg37.view.set]{fullShare} arg37.view.writes (Elt F) f L36) ∗ (∃ f, arg38.view.loc (c : Thread nD τ) ↦[arg38.view.set]{fullShare} arg38.view.writes (Elt F) f L37) ∗ (∃ f, arg39.view.loc (c : Thread nD τ) ↦[arg39.view.set]{fullShare} arg39.view.writes (Elt F) f LS0) ∗ (∃ f, arg40.view.loc (c : Thread nD τ) ↦[arg40.view.set]{fullShare} arg40.view.writes (Elt F) f LT1) ∗ (∃ f, arg41.view.loc (c : Thread nD τ) ↦[arg41.view.set]{fullShare} arg41.view.writes (Elt F) f LT2) ∗ (∃ f, arg42.view.loc (c : Thread nD τ) ↦[arg42.view.set]{fullShare} arg42.view.writes (Elt F) f LT3) ∗ (∃ f, arg43.view.loc (c : Thread nD τ) ↦[arg43.view.set]{fullShare} arg43.view.writes (Elt F) f LS4) ∗ (∃ f, arg44.view.loc (c : Thread nD τ) ↦[arg44.view.set]{fullShare} arg44.view.writes (Elt F) f LS5) ∗ (∃ f, arg45.view.loc (c : Thread nD τ) ↦[arg45.view.set]{fullShare} arg45.view.writes (Elt F) f LS6) ∗ (∃ f, arg46.view.loc (c : Thread nD τ) ↦[arg46.view.set]{fullShare} arg46.view.writes (Elt F) f LT7) ∗ (∃ f, arg47.view.loc (c : Thread nD τ) ↦[arg47.view.set]{fullShare} arg47.view.writes (Elt F) f LS8) ∗ (∃ f, arg48.view.loc (c : Thread nD τ) ↦[arg48.view.set]{fullShare} arg48.view.writes (Elt F) f LT9)) -∗ K ⟨⟩))
          ⊢ wp frame (wpE (defs₀ (F := F)) Variants.none c none) E (cc0_nf4_encode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48) K } := by
  refine ⟨?_, ?_, ?_, ?_, ?_, ?_, ?_, ?_, ?_, ?_, ?_, ?_, ?_, fun E K => ?run⟩
  case run =>
    simp only [cc0_nf4_encode_eq_skeleton]; unfold cc0_nf4_encode_skel
    simp only [k0_part234_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part235_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part236_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part237_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, ⟨%d36, %f36, -, H36⟩, ⟨%f37, %hf37, H37⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%ds7, %fs7, -, HS7⟩, ⟨%fs8, %hfs8, HS8⟩, ⟨%ds9, %fs9, -, HS9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34; obtain rfl := harg38.eq_unread hf37; obtain rfl := harg39.eq_unread hfs0; obtain rfl := harg43.eq_unread hfs4; obtain rfl := harg44.eq_unread hfs5; obtain rfl := harg45.eq_unread hfs6; obtain rfl := harg47.eq_unread hfs8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _; isplitr; · ipureintro; exact harg32.read_unread _
      iexact H31
    isplitl [H32]
    · iexists _; isplitr; · ipureintro; exact harg33.read_unread _
      iexact H32
    isplitl [H33]
    · iexists _; isplitr; · ipureintro; exact harg34.read_unread _
      iexact H33
    isplitl [H34]
    · iexists _; isplitr; · ipureintro; exact harg35.read_unread _
      iexact H34
    isplitl [H35]; · iexists _; iexact H35
    isplitl [H36]; · iexists _; iexact H36
    isplitl [H37]; · iexists _; iexact H37
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Hand

end
-- ==== Proof.Ideal.Frame.lean ====
/- What the pipelined kernel leaves point by point, and its frame: the outputs' and the carried scratch's contents after each
point, the proof data, the body at a generic point, the run. It follows the generated module of the same content, over the run
of case B beside it; the two cases' runs are named once at a grid point (`RA`, `RB`). -/
module

public import proofs.«01_k».proof.Proof.Ideal.RunB
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run of case A at point `t`. -/
noncomputable def RA (c : Dev nD) (t : Fin cfg0.N) (h0 : t.val % 130 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t)

/-- The run of case B at point `t`, over the carried contents. -/
noncomputable def RB (c : Dev nD) (t : Fin cfg0.N) (h0 : ¬t.val % 130 = 0) (xo37 : Vec F S8x128 .f32) (xs0 : Vec F S2x512x2x128 .bf16)
    (xs4 xs5 : Vec F S64x128 .f32) (xs6 : Vec F S2x16x128 .f32) (xs8 : Vec F S2x16x2x128 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8

theorem cover0_A_35 (c : Dev nD) (t : Fin cfg0.N) (h0 : t.val % 130 = 0) (y : S256x512.Idx) :
    ∃ pc ∈ (RA m c t h0).1, y ∈ pc.1.set :=
  View.cover_of_tiledL (RA m c t h0).1 S128x128.size (by sl_kernel_rfl) y

/-- What case A leaves in output 35. -/
def out0_A_35 (c : Dev nD) (t : Fin cfg0.N) (h0 : t.val % 130 = 0) : Vec F S256x512 .i32 :=
  VO0_35.read (Elt F) (VO0_35.writes (Elt F) VO0_35.junk (RA m c t h0).1)

theorem cover0_A_36 (c : Dev nD) (t : Fin cfg0.N) (h0 : t.val % 130 = 0) (y : S1x64x256.Idx) :
    ∃ pc ∈ (RA m c t h0).2.1, y ∈ pc.1.set :=
  View.cover_of_tiledL (RA m c t h0).2.1 S1x64x128.size (by sl_kernel_rfl) y

/-- What case A leaves in output 36. -/
def out0_A_36 (c : Dev nD) (t : Fin cfg0.N) (h0 : t.val % 130 = 0) : Vec F S1x64x256 .f32 :=
  VO0_36.read (Elt F) (VO0_36.writes (Elt F) VO0_36.junk (RA m c t h0).2.1)

theorem cover0_A_37 (c : Dev nD) (t : Fin cfg0.N) (h0 : t.val % 130 = 0) (y : S8x128.Idx) :
    ∃ pc ∈ (RA m c t h0).2.2.1, y ∈ pc.1.set :=
  View.cover_of_tiledL (RA m c t h0).2.2.1 S8x128.size (by sl_kernel_rfl) y

/-- What case A leaves in output 37. -/
def out0_A_37 (c : Dev nD) (t : Fin cfg0.N) (h0 : t.val % 130 = 0) : Vec F S8x128 .f32 :=
  VO0_37.read (Elt F) (VO0_37.writes (Elt F) VO0_37.junk (RA m c t h0).2.2.1)

theorem scover0_A_0 (c : Dev nD) (t : Fin cfg0.N) (h0 : t.val % 130 = 0) (y : S2x512x2x128.Idx) :
    ∃ pc ∈ (RA m c t h0).2.2.2.1, y ∈ pc.1.set :=
  View.cover_of_wholeMem (RA m c t h0).2.2.2.1 (by sl_whole_mem) y

/-- What case A leaves in scratch 0. -/
def sout0_A_0 (c : Dev nD) (t : Fin cfg0.N) (h0 : t.val % 130 = 0) : Vec F S2x512x2x128 .bf16 :=
  VS0_0.read (Elt F) (VS0_0.writes (Elt F) VS0_0.junk (RA m c t h0).2.2.2.1)

theorem scover0_A_4 (c : Dev nD) (t : Fin cfg0.N) (h0 : t.val % 130 = 0) (y : S64x128.Idx) :
    ∃ pc ∈ (RA m c t h0).2.2.2.2.1, y ∈ pc.1.set :=
  View.cover_of_wholeMem (RA m c t h0).2.2.2.2.1 (by sl_whole_mem) y

/-- What case A leaves in scratch 4. -/
def sout0_A_4 (c : Dev nD) (t : Fin cfg0.N) (h0 : t.val % 130 = 0) : Vec F S64x128 .f32 :=
  VS0_4.read (Elt F) (VS0_4.writes (Elt F) VS0_4.junk (RA m c t h0).2.2.2.2.1)

theorem scover0_A_5 (c : Dev nD) (t : Fin cfg0.N) (h0 : t.val % 130 = 0) (y : S64x128.Idx) :
    ∃ pc ∈ (RA m c t h0).2.2.2.2.2.1, y ∈ pc.1.set :=
  View.cover_of_wholeMem (RA m c t h0).2.2.2.2.2.1 (by sl_whole_mem) y

/-- What case A leaves in scratch 5. -/
def sout0_A_5 (c : Dev nD) (t : Fin cfg0.N) (h0 : t.val % 130 = 0) : Vec F S64x128 .f32 :=
  VS0_5.read (Elt F) (VS0_5.writes (Elt F) VS0_5.junk (RA m c t h0).2.2.2.2.2.1)

theorem scover0_A_6 (c : Dev nD) (t : Fin cfg0.N) (h0 : t.val % 130 = 0) (y : S2x16x128.Idx) :
    ∃ pc ∈ (RA m c t h0).2.2.2.2.2.2.1, y ∈ pc.1.set :=
  View.cover_of_wholeMem (RA m c t h0).2.2.2.2.2.2.1 (by sl_whole_mem) y

/-- What case A leaves in scratch 6. -/
def sout0_A_6 (c : Dev nD) (t : Fin cfg0.N) (h0 : t.val % 130 = 0) : Vec F S2x16x128 .f32 :=
  VS0_6.read (Elt F) (VS0_6.writes (Elt F) VS0_6.junk (RA m c t h0).2.2.2.2.2.2.1)

theorem scover0_A_8 (c : Dev nD) (t : Fin cfg0.N) (h0 : t.val % 130 = 0) (y : S2x16x2x128.Idx) :
    ∃ pc ∈ (RA m c t h0).2.2.2.2.2.2.2.1, y ∈ pc.1.set :=
  View.cover_of_wholeMem (RA m c t h0).2.2.2.2.2.2.2.1 (by sl_whole_mem) y

/-- What case A leaves in scratch 8. -/
def sout0_A_8 (c : Dev nD) (t : Fin cfg0.N) (h0 : t.val % 130 = 0) : Vec F S2x16x2x128 .bf16 :=
  VS0_8.read (Elt F) (VS0_8.writes (Elt F) VS0_8.junk (RA m c t h0).2.2.2.2.2.2.2.1)

theorem cover0_B_35 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S256x512.Idx) :
    ∃ pc ∈ (RB m c t h0 xo37 xs0 xs4 xs5 xs6 xs8).1, y ∈ pc.1.set :=
  View.cover_of_tiledL (RB m c t h0 xo37 xs0 xs4 xs5 xs6 xs8).1 S128x128.size (by sl_kernel_rfl) y

/-- What case B leaves in output 35. -/
def out0_B_35 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S256x512 .i32 :=
  VO0_35.read (Elt F) (VO0_35.writes (Elt F) VO0_35.junk (RB m c t h0 xo37 xs0 xs4 xs5 xs6 xs8).1)

theorem cover0_B_36 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S1x64x256.Idx) :
    ∃ pc ∈ (RB m c t h0 xo37 xs0 xs4 xs5 xs6 xs8).2.1, y ∈ pc.1.set :=
  View.cover_of_tiledL (RB m c t h0 xo37 xs0 xs4 xs5 xs6 xs8).2.1 S1x64x128.size (by sl_kernel_rfl) y

/-- What case B leaves in output 36. -/
def out0_B_36 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S1x64x256 .f32 :=
  VO0_36.read (Elt F) (VO0_36.writes (Elt F) VO0_36.junk (RB m c t h0 xo37 xs0 xs4 xs5 xs6 xs8).2.1)

theorem cover0_B_37 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S8x128.Idx) :
    ∃ pc ∈ (RB m c t h0 xo37 xs0 xs4 xs5 xs6 xs8).2.2.1, y ∈ pc.1.set :=
  View.cover_of_tiledL (RB m c t h0 xo37 xs0 xs4 xs5 xs6 xs8).2.2.1 S8x128.size (by sl_kernel_rfl) y

/-- What case B leaves in output 37. -/
def out0_B_37 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S8x128 .f32 :=
  VO0_37.read (Elt F) (VO0_37.writes (Elt F) VO0_37.junk (RB m c t h0 xo37 xs0 xs4 xs5 xs6 xs8).2.2.1)

theorem scover0_B_0 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S2x512x2x128.Idx) :
    ∃ pc ∈ (RB m c t h0 xo37 xs0 xs4 xs5 xs6 xs8).2.2.2.1, y ∈ pc.1.set :=
  View.cover_of_tiledL (RB m c t h0 xo37 xs0 xs4 xs5 xs6 xs8).2.2.2.1 S1x512x2x128.size (by sl_kernel_rfl) y

/-- What case B leaves in scratch 0. -/
def sout0_B_0 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S2x512x2x128 .bf16 :=
  VS0_0.read (Elt F) (VS0_0.writes (Elt F) VS0_0.junk (RB m c t h0 xo37 xs0 xs4 xs5 xs6 xs8).2.2.2.1)

theorem scover0_B_4 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S64x128.Idx) :
    ∃ pc ∈ (RB m c t h0 xo37 xs0 xs4 xs5 xs6 xs8).2.2.2.2.1, y ∈ pc.1.set :=
  View.cover_of_tiledL (RB m c t h0 xo37 xs0 xs4 xs5 xs6 xs8).2.2.2.2.1 S8x128.size (by sl_kernel_rfl) y

/-- What case B leaves in scratch 4. -/
def sout0_B_4 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S64x128 .f32 :=
  VS0_4.read (Elt F) (VS0_4.writes (Elt F) VS0_4.junk (RB m c t h0 xo37 xs0 xs4 xs5 xs6 xs8).2.2.2.2.1)

theorem scover0_B_5 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S64x128.Idx) :
    ∃ pc ∈ (RB m c t h0 xo37 xs0 xs4 xs5 xs6 xs8).2.2.2.2.2.1, y ∈ pc.1.set :=
  View.cover_of_tiledL (RB m c t h0 xo37 xs0 xs4 xs5 xs6 xs8).2.2.2.2.2.1 S8x128.size (by sl_kernel_rfl) y

/-- What case B leaves in scratch 5. -/
def sout0_B_5 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S64x128 .f32 :=
  VS0_5.read (Elt F) (VS0_5.writes (Elt F) VS0_5.junk (RB m c t h0 xo37 xs0 xs4 xs5 xs6 xs8).2.2.2.2.2.1)

theorem scover0_B_6 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S2x16x128.Idx) :
    ∃ pc ∈ (RB m c t h0 xo37 xs0 xs4 xs5 xs6 xs8).2.2.2.2.2.2.1, y ∈ pc.1.set :=
  View.cover_of_tiledL (RB m c t h0 xo37 xs0 xs4 xs5 xs6 xs8).2.2.2.2.2.2.1 S1x8x128.size (by sl_kernel_rfl) y

/-- What case B leaves in scratch 6. -/
def sout0_B_6 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S2x16x128 .f32 :=
  VS0_6.read (Elt F) (VS0_6.writes (Elt F) VS0_6.junk (RB m c t h0 xo37 xs0 xs4 xs5 xs6 xs8).2.2.2.2.2.2.1)

theorem scover0_B_8 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) (y : S2x16x2x128.Idx) :
    ∃ pc ∈ (RB m c t h0 xo37 xs0 xs4 xs5 xs6 xs8).2.2.2.2.2.2.2.1, y ∈ pc.1.set :=
  View.cover_of_tiledL (RB m c t h0 xo37 xs0 xs4 xs5 xs6 xs8).2.2.2.2.2.2.2.1 S1x8x2x128.size (by sl_kernel_rfl) y

/-- What case B leaves in scratch 8. -/
def sout0_B_8 (c : Dev nD) (t : Fin cfg0.N) (h0 : ¬t.val % 130 = 0) (xo37 : Vec F S8x128 .f32) (xs0 : Vec F S2x512x2x128 .bf16) (xs4 xs5 : Vec F S64x128 .f32) (xs6 : Vec F S2x16x128 .f32) (xs8 : Vec F S2x16x2x128 .bf16) : Vec F S2x16x2x128 .bf16 :=
  VS0_8.read (Elt F) (VS0_8.writes (Elt F) VS0_8.junk (RB m c t h0 xo37 xs0 xs4 xs5 xs6 xs8).2.2.2.2.2.2.2.1)

/-- What the outputs' buffers and the carried scratch hold after the body at position `n`, in this order: outputs 35, 36, 37,
scratch 0, 4, 5, 6, 8. -/
def outsAt0 (c : Dev nD) : (n : ℕ) → n < cfg0.N → Vec F S256x512 .i32 × Vec F S1x64x256 .f32 × Vec F S8x128 .f32 × Vec F S2x512x2x128 .bf16 × Vec F S64x128 .f32 × Vec F S64x128 .f32 × Vec F S2x16x128 .f32 × Vec F S2x16x2x128 .bf16
  | 0, hn => (out0_A_35 m c ⟨0, hn⟩ (Nat.zero_mod _), out0_A_36 m c ⟨0, hn⟩ (Nat.zero_mod _), out0_A_37 m c ⟨0, hn⟩ (Nat.zero_mod _), sout0_A_0 m c ⟨0, hn⟩ (Nat.zero_mod _), sout0_A_4 m c ⟨0, hn⟩ (Nat.zero_mod _), sout0_A_5 m c ⟨0, hn⟩ (Nat.zero_mod _), sout0_A_6 m c ⟨0, hn⟩ (Nat.zero_mod _), sout0_A_8 m c ⟨0, hn⟩ (Nat.zero_mod _))
  | n + 1, hn =>
    if h0 : (n + 1) % 130 = 0 then (out0_A_35 m c ⟨n + 1, hn⟩ h0, out0_A_36 m c ⟨n + 1, hn⟩ h0, out0_A_37 m c ⟨n + 1, hn⟩ h0, sout0_A_0 m c ⟨n + 1, hn⟩ h0, sout0_A_4 m c ⟨n + 1, hn⟩ h0, sout0_A_5 m c ⟨n + 1, hn⟩ h0, sout0_A_6 m c ⟨n + 1, hn⟩ h0, sout0_A_8 m c ⟨n + 1, hn⟩ h0)
    else (out0_B_35 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_36 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_37 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_4 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_5 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_6 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_8 m c ⟨n + 1, hn⟩ h0 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

theorem outsAt0_A (c : Dev nD) (t : Fin cfg0.N) (h0 : t.val % 130 = 0) :
    outsAt0 m c t.val t.isLt = (out0_A_35 m c t h0, out0_A_36 m c t h0, out0_A_37 m c t h0, sout0_A_0 m c t h0, sout0_A_4 m c t h0, sout0_A_5 m c t h0, sout0_A_6 m c t h0, sout0_A_8 m c t h0) := by
  obtain ⟨n, hn⟩ := t
  cases n with
  | zero => exact rfl
  | succ n => exact (dif_pos h0).trans rfl

theorem outsAt0_B (c : Dev nD) (t : Fin cfg0.N) (h0 : ¬t.val % 130 = 0) :
    outsAt0 m c t.val t.isLt = (out0_B_35 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_36 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_37 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_4 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_5 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_6 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_8 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2.1) ∗ (∃ d, owns (c : Thread nD τ) scM0_7 fullShare d) ∗ owns (c : Thread nD τ) scM0_8 fullShare ((outsAt0 m c n hn).2.2.2.2.2.2.2) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.1) ∗ owns (c : Thread nD τ) scM0_5 fullShare ((outsAt0 m c n hn).2.2.2.2.2.1) ∗ owns (c : Thread nD τ) scM0_6 fullShare ((outsAt0 m c n hn).2.2.2.2.2.2.1) ∗ (∃ d, owns (c : Thread nD τ) scM0_7 fullShare d) ∗ owns (c : Thread nD τ) scM0_8 fullShare ((outsAt0 m c n hn).2.2.2.2.2.2.2) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.2.2.1) ∗ owns (c : Thread nD τ) scM0_5 fullShare ((outsAt0 m c (n - 1) (by omega)).2.2.2.2.2.1) ∗ owns (c : Thread nD τ) scM0_6 fullShare ((outsAt0 m c (n - 1) (by omega)).2.2.2.2.2.2.1) ∗ (∃ d, owns (c : Thread nD τ) scM0_7 fullShare d) ∗ owns (c : Thread nD τ) scM0_8 fullShare ((outsAt0 m c (n - 1) (by omega)).2.2.2.2.2.2.2) ∗ (∃ d, owns (c : Thread nD τ) scM0_9 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => (outsAt0 m c t.val t.isLt).1
    | ⟨36, _⟩ => (outsAt0 m c t.val t.isLt).2.1
    | ⟨37, _⟩ => (outsAt0 m c t.val t.isLt).2.2.1
    | ⟨_ + 38, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = (outsAt0 m c t.val t.isLt).1 := by dsimp only [dats]
theorem after0_36 (c : Dev nD) (t : Fin cfg0.N) : (dats m 0 c).after 36 t = (outsAt0 m c t.val t.isLt).2.1 := by dsimp only [dats]
theorem after0_37 (c : Dev nD) (t : Fin cfg0.N) : (dats m 0 c).after 37 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
/-- At a point of case B output 37's current staging buffer holds what the body left at the point before: the point is
    not the first, the buffer was not written back between (`flush0_37`), the window is live and uncut (Lib/Pipeline/Frame.lean
    `Dat.before_out_kept`). -/
theorem before0_37_B (c : Dev nD) (t : Fin cfg0.N) (h0 : ¬t.val % 130 = 0) (d) :
    (dats m 0 c).before 37 t d = (outsAt0 m c (t.val - 1) (Nat.lt_of_le_of_lt (Nat.sub_le _ _) t.isLt)).2.2.1 := by
  have hN : t.val < 130 := lt_of_lt_of_eq t.isLt (show cfg0.N = 130 from N_0)
  rw [Dat.before_out_kept _ 37 rfl t (by omega) (Bool.eq_false_iff.mpr fun h => by have := (flush0_37 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t))

set_option maxHeartbeats 38400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  rw [show (dats m 0 c).Φ t.succ = PhiS m c (t.val + 1) t.isLt from rfl, PhiS_succ]
  have hN : t.val < 130 := lt_of_lt_of_eq t.isLt (show cfg0.N = 130 from N_0)
  by_cases h0 : t.val % 130 = 0
  · by_cases hz : t.val = 0
    · rw [PhiS_castSucc m c t, PhiS_zero m c _ _ hz, PhiA0_eq]
      rw [outsAt0_A m c t h0]
      unfold out0_A_35 out0_A_36 out0_A_37 sout0_A_0 sout0_A_4 sout0_A_5 sout0_A_6 sout0_A_8; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
      iapply ((RA m c t h0).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexists _; iexact H35
      isplitl [H36]; · iexists _; iexact H36
      isplitl [H37]; · iexists _; iexact H37
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, H17, H18, H19, H20, H21, H22, H23, H24, H25, H26, H27, H28, H29, H30, H31, H32, H33, H34, ⟨%e35, H35⟩, ⟨%e36, H36⟩, ⟨%e37, H37⟩, ⟨%es0, HS0⟩, ⟨%fT1, HS1⟩, ⟨%fT2, HS2⟩, ⟨%fT3, HS3⟩, ⟨%es4, HS4⟩, ⟨%es5, HS5⟩, ⟨%es6, HS6⟩, ⟨%fT7, HS7⟩, ⟨%es8, HS8⟩, ⟨%fT9, HS9⟩⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_A_0 m c t h0)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · unfold owns; iexists _; isplitr
            swap; · iexact HS4
            ipureintro; exact View.read_writes_of_cover _ _ _ _ _ (scover0_A_4 m c t h0)
          isplitl [HS5]
          · unfold owns; iexists _; isplitr
            swap; · iexact HS5
            ipureintro; exact View.read_writes_of_cover _ _ _ _ _ (scover0_A_5 m c t h0)
          isplitl [HS6]
          · unfold owns; iexists _; isplitr
            swap; · iexact HS6
            ipureintro; exact View.read_writes_of_cover _ _ _ _ _ (scover0_A_6 m c t h0)
          isplitl [HS7]
          · iexists _; unfold owns; iexists _; isplitr
            swap; · iexact HS7
            ipureintro; rfl
          isplitl [HS8]
          · unfold owns; iexists _; isplitr
            swap; · iexact HS8
            ipureintro; exact View.read_writes_of_cover _ _ _ _ _ (scover0_A_8 m c t h0)
          iexists _; unfold owns; iexists _; isplitr
          swap; · iexact HS9
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]
      · unfold owns; iexists _; isplitr
        swap; · iexact H35
        ipureintro; exact View.read_writes_of_cover _ _ _ _ _ (cover0_A_35 m c t h0)
      isplitl [H36]
      · unfold owns; iexists _; isplitr
        swap; · iexact H36
        ipureintro; exact View.read_writes_of_cover _ _ _ _ _ (cover0_A_36 m c t h0)
      unfold owns; iexists _; isplitr
      swap; · iexact H37
      ipureintro; exact View.read_writes_of_cover _ _ _ _ _ (cover0_A_37 m c t h0)
    · exfalso; have hN : t.val < 130 := lt_of_lt_of_eq t.isLt (show cfg0.N = 130 from N_0); omega
  · by_cases hz : t.val = 0
    · exfalso; have hN : t.val < 130 := lt_of_lt_of_eq t.isLt (show cfg0.N = 130 from N_0); omega
    · rw [PhiS_castSucc m c t, PhiS_pos m c _ _ hz]
      rw [outsAt0_B m c t h0]
      simp only [before0_37_B m c t h0]
      unfold out0_B_35 out0_B_36 out0_B_37 sout0_B_0 sout0_B_4 sout0_B_5 sout0_B_6 sout0_B_8; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
      iapply ((RB m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexists _; iexact H35
      isplitl [H36]; · iexists _; iexact H36
      isplitl [H37]; · iexact H37
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, H17, H18, H19, H20, H21, H22, H23, H24, H25, H26, H27, H28, H29, H30, H31, H32, H33, H34, ⟨%e35, H35⟩, ⟨%e36, H36⟩, ⟨%e37, H37⟩, ⟨%es0, HS0⟩, ⟨%fT1, HS1⟩, ⟨%fT2, HS2⟩, ⟨%fT3, HS3⟩, ⟨%es4, HS4⟩, ⟨%es5, HS5⟩, ⟨%es6, HS6⟩, ⟨%fT7, HS7⟩, ⟨%es8, HS8⟩, ⟨%fT9, HS9⟩⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_B_0 m c t h0 _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · unfold owns; iexists _; isplitr
            swap; · iexact HS4
            ipureintro; exact View.read_writes_of_cover _ _ _ _ _ (scover0_B_4 m c t h0 _ _ _ _ _ _)
          isplitl [HS5]
          · unfold owns; iexists _; isplitr
            swap; · iexact HS5
            ipureintro; exact View.read_writes_of_cover _ _ _ _ _ (scover0_B_5 m c t h0 _ _ _ _ _ _)
          isplitl [HS6]
          · unfold owns; iexists _; isplitr
            swap; · iexact HS6
            ipureintro; exact View.read_writes_of_cover _ _ _ _ _ (scover0_B_6 m c t h0 _ _ _ _ _ _)
          isplitl [HS7]
          · iexists _; unfold owns; iexists _; isplitr
            swap; · iexact HS7
            ipureintro; rfl
          isplitl [HS8]
          · unfold owns; iexists _; isplitr
            swap; · iexact HS8
            ipureintro; exact View.read_writes_of_cover _ _ _ _ _ (scover0_B_8 m c t h0 _ _ _ _ _ _)
          iexists _; unfold owns; iexists _; isplitr
          swap; · iexact HS9
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]
      · unfold owns; iexists _; isplitr
        swap; · iexact H35
        ipureintro; exact View.read_writes_of_cover _ _ _ _ _ (cover0_B_35 m c t h0 _ _ _ _ _ _)
      isplitl [H36]
      · unfold owns; iexists _; isplitr
        swap; · iexact H36
        ipureintro; exact View.read_writes_of_cover _ _ _ _ _ (cover0_B_36 m c t h0 _ _ _ _ _ _)
      unfold owns; iexists _; isplitr
      swap; · iexact H37
      ipureintro; exact View.read_writes_of_cover _ _ _ _ _ (cover0_B_37 m c t h0 _ _ _ _ _ _)

end Cert.KernelIdeal.Hand

end
-- ==== Proof.Ideal.Launch.lean ====
/- The frame of the pipelined kernel from its body at a generic point: the obligation, the run, what the outputs' arrays hold. -/
module

public import proofs.«01_k».proof.Proof.Ideal.Frame
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    isplitl [HS6]
    · iexists _; iexact HS6
    isplitl [HS7]
    · iexact HS7
    isplitl [HS8]
    · iexists _; iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 130 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

theorem flushed35 (c : Dev nD) (t : Fin cfg0.N) :
    (dats m 0 c).flushed 35 t = (cfg0.win 35).cut (grid0.coords t) ((outsAt0 m c t.val t.isLt).1) := by
  show (cfg0.win 35).cut (grid0.coords t) ((dats m 0 c).after 35 t) = _
  rw [after0_35]

theorem flushed36 (c : Dev nD) (t : Fin cfg0.N) :
    (dats m 0 c).flushed 36 t = (cfg0.win 36).cut (grid0.coords t) ((outsAt0 m c t.val t.isLt).2.1) := by
  show (cfg0.win 36).cut (grid0.coords t) ((dats m 0 c).after 36 t) = _
  rw [after0_36]

theorem post35 (r : PUnit × MemSt nD τ sig (Elt F)) (h : Pipeline.FramePost cfgs (dats m) 0 (V m) r) (c : Dev nD) :
    r.2.mem ((c : Thread nD τ).loc main_v1_0) = (dats m 0 c).arrAt 35 cfg0.N :=
  (h c).1 35

theorem post36 (r : PUnit × MemSt nD τ sig (Elt F)) (h : Pipeline.FramePost cfgs (dats m) 0 (V m) r) (c : Dev nD) :
    r.2.mem ((c : Thread nD τ).loc main_v1_1) = (dats m 0 c).arrAt 36 cfg0.N :=
  (h c).1 36

theorem post37 (r : PUnit × MemSt nD τ sig (Elt F)) (h : Pipeline.FramePost cfgs (dats m) 0 (V m) r) (c : Dev nD) :
    r.2.mem ((c : Thread nD τ).loc main_v1_2) = (dats m 0 c).arrAt 37 cfg0.N :=
  (h c).1 37

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem run_blocks : θ_run defs (onTc (τ := τ) (main (F := F))) ⟨m, fun _ => 0, ρ⟩ fun r => ∀ c : Dev nD,
      r.2.mem ((c : Thread nD τ).loc main_v1_0) = (dats m 0 c).arrAt 35 cfg0.N
      ∧ r.2.mem ((c : Thread nD τ).loc main_v1_1) = (dats m 0 c).arrAt 36 cfg0.N
      ∧ r.2.mem ((c : Thread nD τ).loc main_v1_2) = (dats m 0 c).arrAt 37 cfg0.N
      ∧ r.2.mem ((c : Thread nD τ).loc main_arg0) = m ((c : Thread nD τ).loc main_arg0) :=
  (θ_run defs _ _).mono (fun r h c => ⟨post35 m r h c,
      post36 m r h c,
      post37 m r h c,
      kept_main_arg0 m r h c⟩)
    (run_main m ρ)

end Cert.KernelIdeal.Hand

end
-- ==== Proof.Math.lean ====
/- The arithmetic of one code, on real and extended real numbers.

A weight `x` of a block whose largest magnitude is `a` gets the code that counts the thresholds below
`x / a`.  The kernel finds it as a cell of `8 * tanh (1.47 * x / a)`, rounded to the nearest integer, and one
comparison with the threshold of that cell.  This module proves the two agree for every `x` with `|x| ≤ a`. -/
module

public import Idealize.ShloMosaic.PureOps.Ideal
public import Idealize.ShloMosaic.PureOps.Ideal.Laws
public import Idealize.ShloMosaic.Lib.IdealHost
public import Mathlib.Tactic.NormNum
public import Mathlib.Tactic.Linarith
public import Mathlib.Tactic.FieldSimp
public import Mathlib.Tactic.IntervalCases
public import Mathlib.Tactic.NormNum.NatFactorial
public import Mathlib.Tactic.NormNum.BigOperators
public import Mathlib.Analysis.Complex.Exponential

@[expose] public section

noncomputable section

namespace Cert.Proof.Math

open Idealize.ShloMosaic

/-- The slope of the cell function, `1.47` as a 32-bit float. -/
def slopeR : ℝ := 6165627 / 4194304

theorem slope_eq : Ideal.ofBits .f32 0x3FBC28F6#32 = ((slopeR : ℝ) : EReal) := by
  simp [Ideal.ofBits, Ideal.ieee, slopeR, -EReal.coe_mul]; norm_num

/-- Threshold 0. -/
def t0 : ℝ := -1778587 / 2097152

theorem t0_eq : Ideal.ofBits .f32 0xBF591CD8#32 = ((t0 : ℝ) : EReal) := by
  simp [Ideal.ofBits, Ideal.ieee, t0, -EReal.coe_mul]; norm_num

/-- Threshold 1. -/
def t1 : ℝ := -640295 / 1048576

theorem t1_eq : Ideal.ofBits .f32 0xBF1C5270#32 = ((t1 : ℝ) : EReal) := by
  simp [Ideal.ofBits, Ideal.ieee, t1, -EReal.coe_mul]; norm_num

/-- Threshold 2. -/
def t2 : ℝ := -120585 / 262144

theorem t2_eq : Ideal.ofBits .f32 0xBEEB8480#32 = ((t2 : ℝ) : EReal) := by
  simp [Ideal.ofBits, Ideal.ieee, t2, -EReal.coe_mul]; norm_num

/-- Threshold 3. -/
def t3 : ℝ := -5698875 / 16777216

theorem t3_eq : Ideal.ofBits .f32 0xBEADEA76#32 = ((t3 : ℝ) : EReal) := by
  simp [Ideal.ofBits, Ideal.ieee, t3, -EReal.coe_mul]; norm_num

/-- Threshold 4. -/
def t4 : ℝ := -3936059 / 16777216

theorem t4_eq : Ideal.ofBits .f32 0xBE703CEC#32 = ((t4 : ℝ) : EReal) := by
  simp [Ideal.ofBits, Ideal.ieee, t4, -EReal.coe_mul]; norm_num

/-- Threshold 5. -/
def t5 : ℝ := -2313775 / 16777216

theorem t5_eq : Ideal.ofBits .f32 0xBE0D38BC#32 = ((t5 : ℝ) : EReal) := by
  simp [Ideal.ofBits, Ideal.ieee, t5, -EReal.coe_mul]; norm_num

/-- Threshold 6. -/
def t6 : ℝ := -12220529 / 268435456

theorem t6_eq : Ideal.ofBits .f32 0xBD3A7871#32 = ((t6 : ℝ) : EReal) := by
  simp [Ideal.ofBits, Ideal.ieee, t6, -EReal.coe_mul]; norm_num

/-- Threshold 7. -/
def t7 : ℝ := 10681087 / 268435456

theorem t7_eq : Ideal.ofBits .f32 0x3D22FAFF#32 = ((t7 : ℝ) : EReal) := by
  simp [Ideal.ofBits, Ideal.ieee, t7, -EReal.coe_mul]; norm_num

/-- Threshold 8. -/
def t8 : ℝ := 8070193 / 67108864

theorem t8_eq : Ideal.ofBits .f32 0x3DF64862#32 = ((t8 : ℝ) : EReal) := by
  simp [Ideal.ofBits, Ideal.ieee, t8, -EReal.coe_mul]; norm_num

/-- Threshold 9. -/
def t9 : ℝ := 426815 / 2097152

theorem t9_eq : Ideal.ofBits .f32 0x3E5067E0#32 = ((t9 : ℝ) : EReal) := by
  simp [Ideal.ofBits, Ideal.ieee, t9, -EReal.coe_mul]; norm_num

/-- Threshold 10. -/
def t10 : ℝ := 2449589 / 8388608

theorem t10_eq : Ideal.ofBits .f32 0x3E9582D4#32 = ((t10 : ℝ) : EReal) := by
  simp [Ideal.ofBits, Ideal.ieee, t10, -EReal.coe_mul]; norm_num

/-- Threshold 11. -/
def t11 : ℝ := 13063161 / 33554432

theorem t11_eq : Ideal.ofBits .f32 0x3EC753F9#32 = ((t11 : ℝ) : EReal) := by
  simp [Ideal.ofBits, Ideal.ieee, t11, -EReal.coe_mul]; norm_num

/-- Threshold 12. -/
def t12 : ℝ := 2104129 / 4194304

theorem t12_eq : Ideal.ofBits .f32 0x3F006D04#32 = ((t12 : ℝ) : EReal) := by
  simp [Ideal.ofBits, Ideal.ieee, t12, -EReal.coe_mul]; norm_num

/-- Threshold 13. -/
def t13 : ℝ := 10784175 / 16777216

theorem t13_eq : Ideal.ofBits .f32 0x3F248DAF#32 = ((t13 : ℝ) : EReal) := by
  simp [Ideal.ofBits, Ideal.ieee, t13, -EReal.coe_mul]; norm_num

/-- Threshold 14. -/
def t14 : ℝ := 7226605 / 8388608

theorem t14_eq : Ideal.ofBits .f32 0x3F5C89DA#32 = ((t14 : ℝ) : EReal) := by
  simp [Ideal.ofBits, Ideal.ieee, t14, -EReal.coe_mul]; norm_num

theorem eight_eq : Ideal.ofBits .f32 0x41000000#32 = (((8 : ℝ)) : EReal) := by
  simp [Ideal.ofBits, Ideal.ieee, -EReal.coe_mul]; norm_num

theorem eighth_eq : Ideal.ofBits .bf16 0x3E00#16 = (((1/8 : ℝ)) : EReal) := by
  simp [Ideal.ofBits, Ideal.ieee, -EReal.coe_mul]; norm_num

theorem seventeen_eq : Ideal.ofBits .bf16 0x4188#16 = (((17 : ℝ)) : EReal) := by
  simp [Ideal.ofBits, Ideal.ieee, -EReal.coe_mul]; norm_num

theorem negFour_eq : Ideal.ofBits .f32 0xC0800000#32 = (((-4 : ℝ)) : EReal) := by
  simp [Ideal.ofBits, Ideal.ieee, -EReal.coe_mul]; norm_num

/-- A lower bound of an exponential by the fourth power of a short sum. -/
theorem exp_ge (y L : ℝ) (hy : 0 ≤ y) (hL : 0 ≤ L)
    (h : L ≤ (1 + y / 4 + (y / 4) ^ 2 / 2 + (y / 4) ^ 3 / 6 + (y / 4) ^ 4 / 24 + (y / 4) ^ 5 / 120) ^ 4) :
    L ≤ Real.exp y := by
  have h0 : (0 : ℝ) ≤ y / 4 := by linarith
  have h1 := Real.sum_le_exp_of_nonneg h0 6
  simp [Finset.sum_range_succ, Nat.factorial] at h1
  have h2 : Real.exp y = Real.exp (y / 4) ^ 4 := by rw [← Real.exp_nat_mul]; congr 1; push_cast; ring
  rw [h2]
  refine h.trans (pow_le_pow_left₀ (by positivity) ?_ 4)
  linarith

/-- An upper bound of an exponential by the fourth power of a short sum. -/
theorem exp_le (y U : ℝ) (hy : 0 ≤ y) (hy1 : y ≤ 4)
    (h : (1 + y / 4 + (y / 4) ^ 2 / 2 + (y / 4) ^ 3 / 6 + (y / 4) ^ 4 / 24 + (y / 4) ^ 5 / 120
      + (y / 4) ^ 6 * 7 / 4320) ^ 4 ≤ U) : Real.exp y ≤ U := by
  have h0 : (0 : ℝ) ≤ y / 4 := by linarith
  have h1 := Real.exp_bound' h0 (by linarith) (n := 6) (by norm_num)
  simp [Finset.sum_range_succ, Nat.factorial] at h1
  have h2 : Real.exp y = Real.exp (y / 4) ^ 4 := by rw [← Real.exp_nat_mul]; congr 1; push_cast; ring
  rw [h2]
  refine (pow_le_pow_left₀ (by positivity) ?_ 4).trans h
  norm_num at h1 ⊢
  linarith

theorem tanh_exp (y : ℝ) : Real.tanh y = 1 - 2 / (Real.exp (2 * y) + 1) := by
  rw [Real.tanh_eq_sinh_div_cosh, Real.sinh_eq, Real.cosh_eq]
  have h : Real.exp (2 * y) = Real.exp y * Real.exp y := by rw [← Real.exp_add]; congr 1; ring
  have h' : Real.exp (-y) = (Real.exp y)⁻¹ := Real.exp_neg y
  rw [h, h']
  have := Real.exp_pos y
  field_simp
  ring

theorem tanh_mono {x y : ℝ} (h : x ≤ y) : Real.tanh x ≤ Real.tanh y := by
  rw [tanh_exp, tanh_exp]
  have h1 : Real.exp (2 * x) ≤ Real.exp (2 * y) := Real.exp_le_exp.mpr (by linarith)
  have h2 := Real.exp_pos (2 * x)
  have : 2 / (Real.exp (2 * y) + 1) ≤ 2 / (Real.exp (2 * x) + 1) :=
    div_le_div_of_nonneg_left (by norm_num) (by linarith) (by linarith)
  linarith

theorem tanh_lt (y p q : ℝ) (hq : 0 < q) (hp : 0 < p) (h : Real.exp (2 * y) * q < p) :
    8 * Real.tanh y < 8 * ((p - q) / (p + q)) := by
  rw [tanh_exp]
  have h0 := Real.exp_pos (2 * y)
  have : (p - q) / (p + q) = 1 - 2 / (p / q + 1) := by field_simp; ring
  rw [this]
  have h1 : Real.exp (2 * y) < p / q := by rw [lt_div_iff₀ hq]; exact h
  have : 2 / (p / q + 1) < 2 / (Real.exp (2 * y) + 1) :=
    div_lt_div_of_pos_left (by norm_num) (by linarith) (by linarith)
  linarith

theorem lt_tanh (y p q : ℝ) (hq : 0 < q) (hp : 0 < p) (h : p < Real.exp (2 * y) * q) :
    8 * ((p - q) / (p + q)) < 8 * Real.tanh y := by
  rw [tanh_exp]
  have h0 := Real.exp_pos (2 * y)
  have : (p - q) / (p + q) = 1 - 2 / (p / q + 1) := by field_simp; ring
  rw [this]
  have h1 : p / q < Real.exp (2 * y) := by rw [div_lt_iff₀ hq]; exact h
  have hpq : 0 < p / q := div_pos hp hq
  have : 2 / (Real.exp (2 * y) + 1) < 2 / (p / q + 1) :=
    div_lt_div_of_pos_left (by norm_num) (by linarith) (by linarith)
  linarith

theorem lo0 : (((0 : ℝ) - 15 / 2)) < 8 * Real.tanh (slopeR * t0) := by
  have e := exp_le (2 * (slopeR * -t0)) ((31 / 1) * (999 / 1000)) (by norm_num [slopeR, t0]) (by norm_num [slopeR, t0]) (by norm_num [slopeR, t0])
  have := tanh_lt (slopeR * -t0) 31 1 (by norm_num) (by norm_num) (by linarith)
  rw [mul_neg, Real.tanh_neg] at this
  norm_num at this ⊢; linarith

theorem hi0 : 8 * Real.tanh (slopeR * t0) < (((0 : ℝ) - 13 / 2)) := by
  have e := exp_ge (2 * (slopeR * -t0)) ((29 / 3) * (1001 / 1000)) (by norm_num [slopeR, t0]) (by norm_num) (by norm_num [slopeR, t0])
  have := lt_tanh (slopeR * -t0) 29 3 (by norm_num) (by norm_num) (by linarith)
  rw [mul_neg, Real.tanh_neg] at this
  norm_num at this ⊢; linarith

theorem lo1 : (((1 : ℝ) - 15 / 2)) < 8 * Real.tanh (slopeR * t1) := by
  have e := exp_le (2 * (slopeR * -t1)) ((29 / 3) * (999 / 1000)) (by norm_num [slopeR, t1]) (by norm_num [slopeR, t1]) (by norm_num [slopeR, t1])
  have := tanh_lt (slopeR * -t1) 29 3 (by norm_num) (by norm_num) (by linarith)
  rw [mul_neg, Real.tanh_neg] at this
  norm_num at this ⊢; linarith

theorem hi1 : 8 * Real.tanh (slopeR * t1) < (((1 : ℝ) - 13 / 2)) := by
  have e := exp_ge (2 * (slopeR * -t1)) ((27 / 5) * (1001 / 1000)) (by norm_num [slopeR, t1]) (by norm_num) (by norm_num [slopeR, t1])
  have := lt_tanh (slopeR * -t1) 27 5 (by norm_num) (by norm_num) (by linarith)
  rw [mul_neg, Real.tanh_neg] at this
  norm_num at this ⊢; linarith

theorem lo2 : (((2 : ℝ) - 15 / 2)) < 8 * Real.tanh (slopeR * t2) := by
  have e := exp_le (2 * (slopeR * -t2)) ((27 / 5) * (999 / 1000)) (by norm_num [slopeR, t2]) (by norm_num [slopeR, t2]) (by norm_num [slopeR, t2])
  have := tanh_lt (slopeR * -t2) 27 5 (by norm_num) (by norm_num) (by linarith)
  rw [mul_neg, Real.tanh_neg] at this
  norm_num at this ⊢; linarith

theorem hi2 : 8 * Real.tanh (slopeR * t2) < (((2 : ℝ) - 13 / 2)) := by
  have e := exp_ge (2 * (slopeR * -t2)) ((25 / 7) * (1001 / 1000)) (by norm_num [slopeR, t2]) (by norm_num) (by norm_num [slopeR, t2])
  have := lt_tanh (slopeR * -t2) 25 7 (by norm_num) (by norm_num) (by linarith)
  rw [mul_neg, Real.tanh_neg] at this
  norm_num at this ⊢; linarith

theorem lo3 : (((3 : ℝ) - 15 / 2)) < 8 * Real.tanh (slopeR * t3) := by
  have e := exp_le (2 * (slopeR * -t3)) ((25 / 7) * (999 / 1000)) (by norm_num [slopeR, t3]) (by norm_num [slopeR, t3]) (by norm_num [slopeR, t3])
  have := tanh_lt (slopeR * -t3) 25 7 (by norm_num) (by norm_num) (by linarith)
  rw [mul_neg, Real.tanh_neg] at this
  norm_num at this ⊢; linarith

theorem hi3 : 8 * Real.tanh (slopeR * t3) < (((3 : ℝ) - 13 / 2)) := by
  have e := exp_ge (2 * (slopeR * -t3)) ((23 / 9) * (1001 / 1000)) (by norm_num [slopeR, t3]) (by norm_num) (by norm_num [slopeR, t3])
  have := lt_tanh (slopeR * -t3) 23 9 (by norm_num) (by norm_num) (by linarith)
  rw [mul_neg, Real.tanh_neg] at this
  norm_num at this ⊢; linarith

theorem lo4 : (((4 : ℝ) - 15 / 2)) < 8 * Real.tanh (slopeR * t4) := by
  have e := exp_le (2 * (slopeR * -t4)) ((23 / 9) * (999 / 1000)) (by norm_num [slopeR, t4]) (by norm_num [slopeR, t4]) (by norm_num [slopeR, t4])
  have := tanh_lt (slopeR * -t4) 23 9 (by norm_num) (by norm_num) (by linarith)
  rw [mul_neg, Real.tanh_neg] at this
  norm_num at this ⊢; linarith

theorem hi4 : 8 * Real.tanh (slopeR * t4) < (((4 : ℝ) - 13 / 2)) := by
  have e := exp_ge (2 * (slopeR * -t4)) ((21 / 11) * (1001 / 1000)) (by norm_num [slopeR, t4]) (by norm_num) (by norm_num [slopeR, t4])
  have := lt_tanh (slopeR * -t4) 21 11 (by norm_num) (by norm_num) (by linarith)
  rw [mul_neg, Real.tanh_neg] at this
  norm_num at this ⊢; linarith

theorem lo5 : (((5 : ℝ) - 15 / 2)) < 8 * Real.tanh (slopeR * t5) := by
  have e := exp_le (2 * (slopeR * -t5)) ((21 / 11) * (999 / 1000)) (by norm_num [slopeR, t5]) (by norm_num [slopeR, t5]) (by norm_num [slopeR, t5])
  have := tanh_lt (slopeR * -t5) 21 11 (by norm_num) (by norm_num) (by linarith)
  rw [mul_neg, Real.tanh_neg] at this
  norm_num at this ⊢; linarith

theorem hi5 : 8 * Real.tanh (slopeR * t5) < (((5 : ℝ) - 13 / 2)) := by
  have e := exp_ge (2 * (slopeR * -t5)) ((19 / 13) * (1001 / 1000)) (by norm_num [slopeR, t5]) (by norm_num) (by norm_num [slopeR, t5])
  have := lt_tanh (slopeR * -t5) 19 13 (by norm_num) (by norm_num) (by linarith)
  rw [mul_neg, Real.tanh_neg] at this
  norm_num at this ⊢; linarith

theorem lo6 : (((6 : ℝ) - 15 / 2)) < 8 * Real.tanh (slopeR * t6) := by
  have e := exp_le (2 * (slopeR * -t6)) ((19 / 13) * (999 / 1000)) (by norm_num [slopeR, t6]) (by norm_num [slopeR, t6]) (by norm_num [slopeR, t6])
  have := tanh_lt (slopeR * -t6) 19 13 (by norm_num) (by norm_num) (by linarith)
  rw [mul_neg, Real.tanh_neg] at this
  norm_num at this ⊢; linarith

theorem hi6 : 8 * Real.tanh (slopeR * t6) < (((6 : ℝ) - 13 / 2)) := by
  have e := exp_ge (2 * (slopeR * -t6)) ((17 / 15) * (1001 / 1000)) (by norm_num [slopeR, t6]) (by norm_num) (by norm_num [slopeR, t6])
  have := lt_tanh (slopeR * -t6) 17 15 (by norm_num) (by norm_num) (by linarith)
  rw [mul_neg, Real.tanh_neg] at this
  norm_num at this ⊢; linarith

theorem lo7 : (((7 : ℝ) - 15 / 2)) < 8 * Real.tanh (slopeR * t7) := by
  have e := exp_ge (2 * (slopeR * t7)) ((15 / 17) * (1001 / 1000)) (by norm_num [slopeR, t7]) (by norm_num) (by norm_num [slopeR, t7])
  have := lt_tanh (slopeR * t7) 15 17 (by norm_num) (by norm_num) (by linarith)
  norm_num at this ⊢; linarith

theorem hi7 : 8 * Real.tanh (slopeR * t7) < (((7 : ℝ) - 13 / 2)) := by
  have e := exp_le (2 * (slopeR * t7)) ((17 / 15) * (999 / 1000)) (by norm_num [slopeR, t7]) (by norm_num [slopeR, t7]) (by norm_num [slopeR, t7])
  have := tanh_lt (slopeR * t7) 17 15 (by norm_num) (by norm_num) (by linarith)
  norm_num at this ⊢; linarith

theorem lo8 : (((8 : ℝ) - 15 / 2)) < 8 * Real.tanh (slopeR * t8) := by
  have e := exp_ge (2 * (slopeR * t8)) ((17 / 15) * (1001 / 1000)) (by norm_num [slopeR, t8]) (by norm_num) (by norm_num [slopeR, t8])
  have := lt_tanh (slopeR * t8) 17 15 (by norm_num) (by norm_num) (by linarith)
  norm_num at this ⊢; linarith

theorem hi8 : 8 * Real.tanh (slopeR * t8) < (((8 : ℝ) - 13 / 2)) := by
  have e := exp_le (2 * (slopeR * t8)) ((19 / 13) * (999 / 1000)) (by norm_num [slopeR, t8]) (by norm_num [slopeR, t8]) (by norm_num [slopeR, t8])
  have := tanh_lt (slopeR * t8) 19 13 (by norm_num) (by norm_num) (by linarith)
  norm_num at this ⊢; linarith

theorem lo9 : (((9 : ℝ) - 15 / 2)) < 8 * Real.tanh (slopeR * t9) := by
  have e := exp_ge (2 * (slopeR * t9)) ((19 / 13) * (1001 / 1000)) (by norm_num [slopeR, t9]) (by norm_num) (by norm_num [slopeR, t9])
  have := lt_tanh (slopeR * t9) 19 13 (by norm_num) (by norm_num) (by linarith)
  norm_num at this ⊢; linarith

theorem hi9 : 8 * Real.tanh (slopeR * t9) < (((9 : ℝ) - 13 / 2)) := by
  have e := exp_le (2 * (slopeR * t9)) ((21 / 11) * (999 / 1000)) (by norm_num [slopeR, t9]) (by norm_num [slopeR, t9]) (by norm_num [slopeR, t9])
  have := tanh_lt (slopeR * t9) 21 11 (by norm_num) (by norm_num) (by linarith)
  norm_num at this ⊢; linarith

theorem lo10 : (((10 : ℝ) - 15 / 2)) < 8 * Real.tanh (slopeR * t10) := by
  have e := exp_ge (2 * (slopeR * t10)) ((21 / 11) * (1001 / 1000)) (by norm_num [slopeR, t10]) (by norm_num) (by norm_num [slopeR, t10])
  have := lt_tanh (slopeR * t10) 21 11 (by norm_num) (by norm_num) (by linarith)
  norm_num at this ⊢; linarith

theorem hi10 : 8 * Real.tanh (slopeR * t10) < (((10 : ℝ) - 13 / 2)) := by
  have e := exp_le (2 * (slopeR * t10)) ((23 / 9) * (999 / 1000)) (by norm_num [slopeR, t10]) (by norm_num [slopeR, t10]) (by norm_num [slopeR, t10])
  have := tanh_lt (slopeR * t10) 23 9 (by norm_num) (by norm_num) (by linarith)
  norm_num at this ⊢; linarith

theorem lo11 : (((11 : ℝ) - 15 / 2)) < 8 * Real.tanh (slopeR * t11) := by
  have e := exp_ge (2 * (slopeR * t11)) ((23 / 9) * (1001 / 1000)) (by norm_num [slopeR, t11]) (by norm_num) (by norm_num [slopeR, t11])
  have := lt_tanh (slopeR * t11) 23 9 (by norm_num) (by norm_num) (by linarith)
  norm_num at this ⊢; linarith

theorem hi11 : 8 * Real.tanh (slopeR * t11) < (((11 : ℝ) - 13 / 2)) := by
  have e := exp_le (2 * (slopeR * t11)) ((25 / 7) * (999 / 1000)) (by norm_num [slopeR, t11]) (by norm_num [slopeR, t11]) (by norm_num [slopeR, t11])
  have := tanh_lt (slopeR * t11) 25 7 (by norm_num) (by norm_num) (by linarith)
  norm_num at this ⊢; linarith

theorem lo12 : (((12 : ℝ) - 15 / 2)) < 8 * Real.tanh (slopeR * t12) := by
  have e := exp_ge (2 * (slopeR * t12)) ((25 / 7) * (1001 / 1000)) (by norm_num [slopeR, t12]) (by norm_num) (by norm_num [slopeR, t12])
  have := lt_tanh (slopeR * t12) 25 7 (by norm_num) (by norm_num) (by linarith)
  norm_num at this ⊢; linarith

theorem hi12 : 8 * Real.tanh (slopeR * t12) < (((12 : ℝ) - 13 / 2)) := by
  have e := exp_le (2 * (slopeR * t12)) ((27 / 5) * (999 / 1000)) (by norm_num [slopeR, t12]) (by norm_num [slopeR, t12]) (by norm_num [slopeR, t12])
  have := tanh_lt (slopeR * t12) 27 5 (by norm_num) (by norm_num) (by linarith)
  norm_num at this ⊢; linarith

theorem lo13 : (((13 : ℝ) - 15 / 2)) < 8 * Real.tanh (slopeR * t13) := by
  have e := exp_ge (2 * (slopeR * t13)) ((27 / 5) * (1001 / 1000)) (by norm_num [slopeR, t13]) (by norm_num) (by norm_num [slopeR, t13])
  have := lt_tanh (slopeR * t13) 27 5 (by norm_num) (by norm_num) (by linarith)
  norm_num at this ⊢; linarith

theorem hi13 : 8 * Real.tanh (slopeR * t13) < (((13 : ℝ) - 13 / 2)) := by
  have e := exp_le (2 * (slopeR * t13)) ((29 / 3) * (999 / 1000)) (by norm_num [slopeR, t13]) (by norm_num [slopeR, t13]) (by norm_num [slopeR, t13])
  have := tanh_lt (slopeR * t13) 29 3 (by norm_num) (by norm_num) (by linarith)
  norm_num at this ⊢; linarith

theorem lo14 : (((14 : ℝ) - 15 / 2)) < 8 * Real.tanh (slopeR * t14) := by
  have e := exp_ge (2 * (slopeR * t14)) ((29 / 3) * (1001 / 1000)) (by norm_num [slopeR, t14]) (by norm_num) (by norm_num [slopeR, t14])
  have := lt_tanh (slopeR * t14) 29 3 (by norm_num) (by norm_num) (by linarith)
  norm_num at this ⊢; linarith

theorem hi14 : 8 * Real.tanh (slopeR * t14) < (((14 : ℝ) - 13 / 2)) := by
  have e := exp_le (2 * (slopeR * t14)) ((31 / 1) * (999 / 1000)) (by norm_num [slopeR, t14]) (by norm_num [slopeR, t14]) (by norm_num [slopeR, t14])
  have := tanh_lt (slopeR * t14) 31 1 (by norm_num) (by norm_num) (by linarith)
  norm_num at this ⊢; linarith

theorem hiOne : 8 * Real.tanh (slopeR * 1) < 15 / 2 := by
  have e := exp_le (2 * (slopeR * 1)) (30) (by norm_num [slopeR]) (by norm_num [slopeR]) (by norm_num [slopeR])
  have := tanh_lt (slopeR * 1) 31 1 (by norm_num) (by norm_num) (by linarith)
  norm_num at this ⊢; linarith

theorem loOne : -(15 / 2 : ℝ) < 8 * Real.tanh (slopeR * -1) := by
  have := hiOne
  rw [mul_neg, Real.tanh_neg]
  linarith

/-- Rounding to nearest stays at or below an integer when the number is below it by less than a half more. -/
theorem round_le {y : ℝ} {n : ℤ} (h : y < n + 1 / 2) : Ideal.roundHalfEven y ≤ n := by
  have h1 := Int.floor_le y
  have h2 := Int.lt_floor_add_one y
  unfold Ideal.roundHalfEven
  have hf : ⌊y⌋ ≤ n := by
    have : (⌊y⌋ : ℝ) < n + 1 := by linarith
    exact Int.lt_add_one_iff.mp (by exact_mod_cast this)
  have hf' : ¬ (y - ⌊y⌋ < 1 / 2) → ⌊y⌋ + 1 ≤ n := by
    intro hh
    have : (⌊y⌋ : ℝ) < n := by linarith
    exact Int.add_one_le_iff.mpr (by exact_mod_cast this)
  simp only
  split_ifs with a b c
  · exact hf
  · exact hf' a
  · exact hf
  · exact hf' a

theorem le_round {y : ℝ} {n : ℤ} (h : n - 1 / 2 < y) : n ≤ Ideal.roundHalfEven y := by
  have h1 := Int.floor_le y
  have h2 := Int.lt_floor_add_one y
  unfold Ideal.roundHalfEven
  have hf : n ≤ ⌊y⌋ + 1 := by
    have : (n : ℝ) < ⌊y⌋ + 1 + 1 := by linarith
    exact Int.lt_add_one_iff.mp (by exact_mod_cast this)
  have hf' : ¬ (1 / 2 < y - ⌊y⌋) → n ≤ ⌊y⌋ := by
    intro hh
    have : (n : ℝ) < ⌊y⌋ + 1 := by linarith
    exact Int.lt_add_one_iff.mp (by exact_mod_cast this)
  simp only
  split_ifs with a b c
  · exact hf' (by linarith)
  · exact hf
  · exact hf' b
  · exact hf

/-- The rounded cell of a normalized weight. -/
def cellR (x : ℝ) : ℤ := Ideal.roundHalfEven (Real.tanh (slopeR * x) * 8)

theorem slope_pos : (0 : ℝ) < slopeR := by norm_num [slopeR]

theorem cell_le0 {x : ℝ} (h : x ≤ t0) : cellR x ≤ 0 - 7 := by
  have h1 := tanh_mono (mul_le_mul_of_nonneg_left h slope_pos.le)
  have h2 := hi0
  refine round_le ?_
  push_cast; linarith

theorem le_cell0 {x : ℝ} (h : t0 < x) : 0 - 7 ≤ cellR x := by
  have h1 := tanh_mono (mul_le_mul_of_nonneg_left h.le slope_pos.le)
  have h2 := lo0
  refine le_round ?_
  push_cast; linarith

theorem cell_le1 {x : ℝ} (h : x ≤ t1) : cellR x ≤ 1 - 7 := by
  have h1 := tanh_mono (mul_le_mul_of_nonneg_left h slope_pos.le)
  have h2 := hi1
  refine round_le ?_
  push_cast; linarith

theorem le_cell1 {x : ℝ} (h : t1 < x) : 1 - 7 ≤ cellR x := by
  have h1 := tanh_mono (mul_le_mul_of_nonneg_left h.le slope_pos.le)
  have h2 := lo1
  refine le_round ?_
  push_cast; linarith

theorem cell_le2 {x : ℝ} (h : x ≤ t2) : cellR x ≤ 2 - 7 := by
  have h1 := tanh_mono (mul_le_mul_of_nonneg_left h slope_pos.le)
  have h2 := hi2
  refine round_le ?_
  push_cast; linarith

theorem le_cell2 {x : ℝ} (h : t2 < x) : 2 - 7 ≤ cellR x := by
  have h1 := tanh_mono (mul_le_mul_of_nonneg_left h.le slope_pos.le)
  have h2 := lo2
  refine le_round ?_
  push_cast; linarith

theorem cell_le3 {x : ℝ} (h : x ≤ t3) : cellR x ≤ 3 - 7 := by
  have h1 := tanh_mono (mul_le_mul_of_nonneg_left h slope_pos.le)
  have h2 := hi3
  refine round_le ?_
  push_cast; linarith

theorem le_cell3 {x : ℝ} (h : t3 < x) : 3 - 7 ≤ cellR x := by
  have h1 := tanh_mono (mul_le_mul_of_nonneg_left h.le slope_pos.le)
  have h2 := lo3
  refine le_round ?_
  push_cast; linarith

theorem cell_le4 {x : ℝ} (h : x ≤ t4) : cellR x ≤ 4 - 7 := by
  have h1 := tanh_mono (mul_le_mul_of_nonneg_left h slope_pos.le)
  have h2 := hi4
  refine round_le ?_
  push_cast; linarith

theorem le_cell4 {x : ℝ} (h : t4 < x) : 4 - 7 ≤ cellR x := by
  have h1 := tanh_mono (mul_le_mul_of_nonneg_left h.le slope_pos.le)
  have h2 := lo4
  refine le_round ?_
  push_cast; linarith

theorem cell_le5 {x : ℝ} (h : x ≤ t5) : cellR x ≤ 5 - 7 := by
  have h1 := tanh_mono (mul_le_mul_of_nonneg_left h slope_pos.le)
  have h2 := hi5
  refine round_le ?_
  push_cast; linarith

theorem le_cell5 {x : ℝ} (h : t5 < x) : 5 - 7 ≤ cellR x := by
  have h1 := tanh_mono (mul_le_mul_of_nonneg_left h.le slope_pos.le)
  have h2 := lo5
  refine le_round ?_
  push_cast; linarith

theorem cell_le6 {x : ℝ} (h : x ≤ t6) : cellR x ≤ 6 - 7 := by
  have h1 := tanh_mono (mul_le_mul_of_nonneg_left h slope_pos.le)
  have h2 := hi6
  refine round_le ?_
  push_cast; linarith

theorem le_cell6 {x : ℝ} (h : t6 < x) : 6 - 7 ≤ cellR x := by
  have h1 := tanh_mono (mul_le_mul_of_nonneg_left h.le slope_pos.le)
  have h2 := lo6
  refine le_round ?_
  push_cast; linarith

theorem cell_le7 {x : ℝ} (h : x ≤ t7) : cellR x ≤ 7 - 7 := by
  have h1 := tanh_mono (mul_le_mul_of_nonneg_left h slope_pos.le)
  have h2 := hi7
  refine round_le ?_
  push_cast; linarith

theorem le_cell7 {x : ℝ} (h : t7 < x) : 7 - 7 ≤ cellR x := by
  have h1 := tanh_mono (mul_le_mul_of_nonneg_left h.le slope_pos.le)
  have h2 := lo7
  refine le_round ?_
  push_cast; linarith

theorem cell_le8 {x : ℝ} (h : x ≤ t8) : cellR x ≤ 8 - 7 := by
  have h1 := tanh_mono (mul_le_mul_of_nonneg_left h slope_pos.le)
  have h2 := hi8
  refine round_le ?_
  push_cast; linarith

theorem le_cell8 {x : ℝ} (h : t8 < x) : 8 - 7 ≤ cellR x := by
  have h1 := tanh_mono (mul_le_mul_of_nonneg_left h.le slope_pos.le)
  have h2 := lo8
  refine le_round ?_
  push_cast; linarith

theorem cell_le9 {x : ℝ} (h : x ≤ t9) : cellR x ≤ 9 - 7 := by
  have h1 := tanh_mono (mul_le_mul_of_nonneg_left h slope_pos.le)
  have h2 := hi9
  refine round_le ?_
  push_cast; linarith

theorem le_cell9 {x : ℝ} (h : t9 < x) : 9 - 7 ≤ cellR x := by
  have h1 := tanh_mono (mul_le_mul_of_nonneg_left h.le slope_pos.le)
  have h2 := lo9
  refine le_round ?_
  push_cast; linarith

theorem cell_le10 {x : ℝ} (h : x ≤ t10) : cellR x ≤ 10 - 7 := by
  have h1 := tanh_mono (mul_le_mul_of_nonneg_left h slope_pos.le)
  have h2 := hi10
  refine round_le ?_
  push_cast; linarith

theorem le_cell10 {x : ℝ} (h : t10 < x) : 10 - 7 ≤ cellR x := by
  have h1 := tanh_mono (mul_le_mul_of_nonneg_left h.le slope_pos.le)
  have h2 := lo10
  refine le_round ?_
  push_cast; linarith

theorem cell_le11 {x : ℝ} (h : x ≤ t11) : cellR x ≤ 11 - 7 := by
  have h1 := tanh_mono (mul_le_mul_of_nonneg_left h slope_pos.le)
  have h2 := hi11
  refine round_le ?_
  push_cast; linarith

theorem le_cell11 {x : ℝ} (h : t11 < x) : 11 - 7 ≤ cellR x := by
  have h1 := tanh_mono (mul_le_mul_of_nonneg_left h.le slope_pos.le)
  have h2 := lo11
  refine le_round ?_
  push_cast; linarith

theorem cell_le12 {x : ℝ} (h : x ≤ t12) : cellR x ≤ 12 - 7 := by
  have h1 := tanh_mono (mul_le_mul_of_nonneg_left h slope_pos.le)
  have h2 := hi12
  refine round_le ?_
  push_cast; linarith

theorem le_cell12 {x : ℝ} (h : t12 < x) : 12 - 7 ≤ cellR x := by
  have h1 := tanh_mono (mul_le_mul_of_nonneg_left h.le slope_pos.le)
  have h2 := lo12
  refine le_round ?_
  push_cast; linarith

theorem cell_le13 {x : ℝ} (h : x ≤ t13) : cellR x ≤ 13 - 7 := by
  have h1 := tanh_mono (mul_le_mul_of_nonneg_left h slope_pos.le)
  have h2 := hi13
  refine round_le ?_
  push_cast; linarith

theorem le_cell13 {x : ℝ} (h : t13 < x) : 13 - 7 ≤ cellR x := by
  have h1 := tanh_mono (mul_le_mul_of_nonneg_left h.le slope_pos.le)
  have h2 := lo13
  refine le_round ?_
  push_cast; linarith

theorem cell_le14 {x : ℝ} (h : x ≤ t14) : cellR x ≤ 14 - 7 := by
  have h1 := tanh_mono (mul_le_mul_of_nonneg_left h slope_pos.le)
  have h2 := hi14
  refine round_le ?_
  push_cast; linarith

theorem le_cell14 {x : ℝ} (h : t14 < x) : 14 - 7 ≤ cellR x := by
  have h1 := tanh_mono (mul_le_mul_of_nonneg_left h.le slope_pos.le)
  have h2 := lo14
  refine le_round ?_
  push_cast; linarith

theorem cell_le_seven {x : ℝ} (h : x ≤ 1) : cellR x ≤ 7 := by
  have h1 := tanh_mono (mul_le_mul_of_nonneg_left h slope_pos.le)
  have h2 := hiOne
  refine round_le ?_
  push_cast; linarith

theorem neg_seven_le_cell {x : ℝ} (h : -1 ≤ x) : -7 ≤ cellR x := by
  have h1 := tanh_mono (mul_le_mul_of_nonneg_left h slope_pos.le)
  have h2 := loOne
  refine le_round ?_
  push_cast; linarith

/-- The threshold of a cell, `-4` for the cell below all of them. -/
def thrR (m : ℕ) : ℝ :=
  ([-4, t0, t1, t2, t3, t4, t5, t6, t7, t8, t9, t10, t11, t12, t13, t14] : List ℝ).getD m 0

/-- The code of a normalized weight by bisection of the thresholds. -/
def bisect (p : ℝ → Bool) : ℕ :=
  let b3 := p t7
  let b2 := p (bif b3 then t11 else t3)
  let b1 := p (bif b3 then (bif b2 then t13 else t9) else (bif b2 then t5 else t1))
  let b0 := p (bif b3 then (bif b2 then (bif b1 then t14 else t12) else (bif b1 then t10 else t8))
    else (bif b2 then (bif b1 then t6 else t4) else (bif b1 then t2 else t0)))
  b3.toNat * 8 + b2.toNat * 4 + b1.toNat * 2 + b0.toNat

theorem bisect_lt (p : ℝ → Bool) : bisect p < 16 := by
  unfold bisect
  have h (b : Bool) : b.toNat ≤ 1 := Bool.toNat_le b
  simp only
  have := h (p t7)
  generalize p t7 = b3 at *
  have := h (p (bif b3 then t11 else t3))
  generalize p (bif b3 then t11 else t3) = b2 at *
  generalize hb1 : p (bif b3 then (bif b2 then t13 else t9) else (bif b2 then t5 else t1)) = b1 at *
  have := h b1
  generalize hb0 : p (bif b3 then (bif b2 then (bif b1 then t14 else t12) else (bif b1 then t10 else t8))
    else (bif b2 then (bif b1 then t6 else t4) else (bif b1 then t2 else t0))) = b0 at *
  have := h b0
  omega

/-- The cell and one comparison give the bisected code. -/
theorem code_eq {x : ℝ} (h1 : -1 ≤ x) (h2 : x ≤ 1) :
    (cellR x + 7 + (if thrR (cellR x + 8).toNat < x then 1 else 0) : ℤ) = bisect (fun t => decide (t < x)) := by
  have hl := neg_seven_le_cell h1
  have hu := cell_le_seven h2
  have a0 : x ≤ t0 → cellR x ≤ 0 - 7 := cell_le0
  have b0 : t0 < x → 0 - 7 ≤ cellR x := le_cell0
  have a1 : x ≤ t1 → cellR x ≤ 1 - 7 := cell_le1
  have b1 : t1 < x → 1 - 7 ≤ cellR x := le_cell1
  have a2 : x ≤ t2 → cellR x ≤ 2 - 7 := cell_le2
  have b2 : t2 < x → 2 - 7 ≤ cellR x := le_cell2
  have a3 : x ≤ t3 → cellR x ≤ 3 - 7 := cell_le3
  have b3 : t3 < x → 3 - 7 ≤ cellR x := le_cell3
  have a4 : x ≤ t4 → cellR x ≤ 4 - 7 := cell_le4
  have b4 : t4 < x → 4 - 7 ≤ cellR x := le_cell4
  have a5 : x ≤ t5 → cellR x ≤ 5 - 7 := cell_le5
  have b5 : t5 < x → 5 - 7 ≤ cellR x := le_cell5
  have a6 : x ≤ t6 → cellR x ≤ 6 - 7 := cell_le6
  have b6 : t6 < x → 6 - 7 ≤ cellR x := le_cell6
  have a7 : x ≤ t7 → cellR x ≤ 7 - 7 := cell_le7
  have b7 : t7 < x → 7 - 7 ≤ cellR x := le_cell7
  have a8 : x ≤ t8 → cellR x ≤ 8 - 7 := cell_le8
  have b8 : t8 < x → 8 - 7 ≤ cellR x := le_cell8
  have a9 : x ≤ t9 → cellR x ≤ 9 - 7 := cell_le9
  have b9 : t9 < x → 9 - 7 ≤ cellR x := le_cell9
  have a10 : x ≤ t10 → cellR x ≤ 10 - 7 := cell_le10
  have b10 : t10 < x → 10 - 7 ≤ cellR x := le_cell10
  have a11 : x ≤ t11 → cellR x ≤ 11 - 7 := cell_le11
  have b11 : t11 < x → 11 - 7 ≤ cellR x := le_cell11
  have a12 : x ≤ t12 → cellR x ≤ 12 - 7 := cell_le12
  have b12 : t12 < x → 12 - 7 ≤ cellR x := le_cell12
  have a13 : x ≤ t13 → cellR x ≤ 13 - 7 := cell_le13
  have b13 : t13 < x → 13 - 7 ≤ cellR x := le_cell13
  have a14 : x ≤ t14 → cellR x ≤ 14 - 7 := cell_le14
  have b14 : t14 < x → 14 - 7 ≤ cellR x := le_cell14
  generalize cellR x = m at *
  obtain ⟨k, rfl⟩ : ∃ k : ℕ, m = (k : ℤ) - 7 := ⟨(m + 7).toNat, by omega⟩
  have hk : k ≤ 14 := by omega
  interval_cases k
  · clear hl hu hk
    have c1 : ¬ t1 < x := fun h => absurd (b1 h) (by norm_num)
    have c2 : ¬ t2 < x := fun h => absurd (b2 h) (by norm_num)
    have c3 : ¬ t3 < x := fun h => absurd (b3 h) (by norm_num)
    have c4 : ¬ t4 < x := fun h => absurd (b4 h) (by norm_num)
    have c5 : ¬ t5 < x := fun h => absurd (b5 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((0 : ℕ) : ℤ) - 7 + 8).toNat = t0 := rfl
    rw [ht]
    by_cases d : t0 < x <;> simp [bisect, c1, c2, c3, c4, c5, c6, c7, c8, c9, c10, c11, c12, c13, c14, d]
  · clear hl hu hk
    have c0 : t0 < x := not_le.mp fun h => absurd (a0 h) (by norm_num)
    have c2 : ¬ t2 < x := fun h => absurd (b2 h) (by norm_num)
    have c3 : ¬ t3 < x := fun h => absurd (b3 h) (by norm_num)
    have c4 : ¬ t4 < x := fun h => absurd (b4 h) (by norm_num)
    have c5 : ¬ t5 < x := fun h => absurd (b5 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((1 : ℕ) : ℤ) - 7 + 8).toNat = t1 := rfl
    rw [ht]
    by_cases d : t1 < x <;> simp [bisect, c0, c2, c3, c4, c5, c6, c7, c8, c9, c10, c11, c12, c13, c14, d]
  · clear hl hu hk
    have c0 : t0 < x := not_le.mp fun h => absurd (a0 h) (by norm_num)
    have c1 : t1 < x := not_le.mp fun h => absurd (a1 h) (by norm_num)
    have c3 : ¬ t3 < x := fun h => absurd (b3 h) (by norm_num)
    have c4 : ¬ t4 < x := fun h => absurd (b4 h) (by norm_num)
    have c5 : ¬ t5 < x := fun h => absurd (b5 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((2 : ℕ) : ℤ) - 7 + 8).toNat = t2 := rfl
    rw [ht]
    by_cases d : t2 < x <;> simp [bisect, c0, c1, c3, c4, c5, c6, c7, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c4 : ¬ t4 < x := fun h => absurd (b4 h) (by norm_num)
    have c5 : ¬ t5 < x := fun h => absurd (b5 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((3 : ℕ) : ℤ) - 7 + 8).toNat = t3 := rfl
    rw [ht]
    by_cases d : t3 < x <;> simp [bisect, c0, c1, c2, c4, c5, c6, c7, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c5 : ¬ t5 < x := fun h => absurd (b5 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((4 : ℕ) : ℤ) - 7 + 8).toNat = t4 := rfl
    rw [ht]
    by_cases d : t4 < x <;> simp [bisect, c0, c1, c2, c3, c5, c6, c7, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c6 : ¬ t6 < x := fun h => absurd (b6 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((5 : ℕ) : ℤ) - 7 + 8).toNat = t5 := rfl
    rw [ht]
    by_cases d : t5 < x <;> simp [bisect, c0, c1, c2, c3, c4, c6, c7, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c7 : ¬ t7 < x := fun h => absurd (b7 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((6 : ℕ) : ℤ) - 7 + 8).toNat = t6 := rfl
    rw [ht]
    by_cases d : t6 < x <;> simp [bisect, c0, c1, c2, c3, c4, c5, c7, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c8 : ¬ t8 < x := fun h => absurd (b8 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((7 : ℕ) : ℤ) - 7 + 8).toNat = t7 := rfl
    rw [ht]
    by_cases d : t7 < x <;> simp [bisect, c0, c1, c2, c3, c4, c5, c6, c8, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c9 : ¬ t9 < x := fun h => absurd (b9 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((8 : ℕ) : ℤ) - 7 + 8).toNat = t8 := rfl
    rw [ht]
    by_cases d : t8 < x <;> simp [bisect, c0, c1, c2, c3, c4, c5, c6, c7, c9, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c10 : ¬ t10 < x := fun h => absurd (b10 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((9 : ℕ) : ℤ) - 7 + 8).toNat = t9 := rfl
    rw [ht]
    by_cases d : t9 < x <;> simp [bisect, c0, c1, c2, c3, c4, c5, c6, c7, c8, c10, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c9 : t9 < x := not_le.mp fun h => absurd (a9 h) (by norm_num)
    have c11 : ¬ t11 < x := fun h => absurd (b11 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((10 : ℕ) : ℤ) - 7 + 8).toNat = t10 := rfl
    rw [ht]
    by_cases d : t10 < x <;> simp [bisect, c0, c1, c2, c3, c4, c5, c6, c7, c8, c9, c11, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c9 : t9 < x := not_le.mp fun h => absurd (a9 h) (by norm_num)
    have c10 : t10 < x := not_le.mp fun h => absurd (a10 h) (by norm_num)
    have c12 : ¬ t12 < x := fun h => absurd (b12 h) (by norm_num)
    have c13 : ¬ t13 < x := fun h => absurd (b13 h) (by norm_num)
    have c14 : ¬ t14 < x := fun h => absurd (b14 h) (by norm_num)
    have ht : thrR (((11 : ℕ) : ℤ) - 7 + 8).toNat = t11 := rfl
    rw [ht]
    by_cases d : t11 < x <;> simp [bisect, c0, c1, c2, c3, c4, c5, c6, c7, c8, c9, c10, c12, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c9 : t9 < x := not_le.mp fun h => absurd (a9 h) (by norm_num)
    have c10 : t10 < x := not_le.mp fun h => absurd (a10 h) (by norm_num)
    have c11 : t11 < x := not_le.mp fun h => absurd (a11 h) (by norm_num)
    have c13 : ¬ t13 < x := fun h => absurd (b13 h) (by norm_num)
    have c14 : ¬ t14 < x := fun h => absurd (b14 h) (by norm_num)
    have ht : thrR (((12 : ℕ) : ℤ) - 7 + 8).toNat = t12 := rfl
    rw [ht]
    by_cases d : t12 < x <;> simp [bisect, c0, c1, c2, c3, c4, c5, c6, c7, c8, c9, c10, c11, c13, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c9 : t9 < x := not_le.mp fun h => absurd (a9 h) (by norm_num)
    have c10 : t10 < x := not_le.mp fun h => absurd (a10 h) (by norm_num)
    have c11 : t11 < x := not_le.mp fun h => absurd (a11 h) (by norm_num)
    have c12 : t12 < x := not_le.mp fun h => absurd (a12 h) (by norm_num)
    have c14 : ¬ t14 < x := fun h => absurd (b14 h) (by norm_num)
    have ht : thrR (((13 : ℕ) : ℤ) - 7 + 8).toNat = t13 := rfl
    rw [ht]
    by_cases d : t13 < x <;> simp [bisect, c0, c1, c2, c3, c4, c5, c6, c7, c8, c9, c10, c11, c12, c14, d]
  · clear hl hu hk
    have c0 : t0 < x := not_le.mp fun h => absurd (a0 h) (by norm_num)
    have c1 : t1 < x := not_le.mp fun h => absurd (a1 h) (by norm_num)
    have c2 : t2 < x := not_le.mp fun h => absurd (a2 h) (by norm_num)
    have c3 : t3 < x := not_le.mp fun h => absurd (a3 h) (by norm_num)
    have c4 : t4 < x := not_le.mp fun h => absurd (a4 h) (by norm_num)
    have c5 : t5 < x := not_le.mp fun h => absurd (a5 h) (by norm_num)
    have c6 : t6 < x := not_le.mp fun h => absurd (a6 h) (by norm_num)
    have c7 : t7 < x := not_le.mp fun h => absurd (a7 h) (by norm_num)
    have c8 : t8 < x := not_le.mp fun h => absurd (a8 h) (by norm_num)
    have c9 : t9 < x := not_le.mp fun h => absurd (a9 h) (by norm_num)
    have c10 : t10 < x := not_le.mp fun h => absurd (a10 h) (by norm_num)
    have c11 : t11 < x := not_le.mp fun h => absurd (a11 h) (by norm_num)
    have c12 : t12 < x := not_le.mp fun h => absurd (a12 h) (by norm_num)
    have c13 : t13 < x := not_le.mp fun h => absurd (a13 h) (by norm_num)
    have ht : thrR (((14 : ℕ) : ℤ) - 7 + 8).toNat = t14 := rfl
    rw [ht]
    by_cases d : t14 < x <;> simp [bisect, c0, c1, c2, c3, c4, c5, c6, c7, c8, c9, c10, c11, c12, c13, d]

/-- The divisor of a block: its largest magnitude, or one where that is zero. -/
def safe (a : EReal) : EReal := if a = 0 then 1 else a

/-- The code of the weight `x` in a block of largest magnitude `a`. -/
def code (x a : EReal) : ℕ := bisect fun t => decide ((t : EReal) < x * Ideal.div 1 (safe a))

theorem code_lt (x a : EReal) : code x a < 16 := bisect_lt _

theorem roundHalfEven_zero : Ideal.roundHalfEven 0 = 0 := by
  simp [Ideal.roundHalfEven]

theorem code_fin {x b : ℝ} (hb : 0 < b) (h1 : -b ≤ x) (h2 : x ≤ b) :
    ∃ n : ℤ, Ideal.liftRound Ideal.roundHalfEven
        (Ideal.tanh ((x : EReal) * ((slopeR : EReal) * ((1 / b : ℝ) : EReal))) * ((8 : ℝ) : EReal)) = ((n : ℝ) : EReal)
      ∧ -7 ≤ n ∧ n ≤ 7
      ∧ n + 7 + (if ((thrR (n + 8).toNat : ℝ) : EReal) * (b : EReal) < (x : EReal) then 1 else 0)
        = (bisect fun t => decide ((t : EReal) < (x : EReal) * ((1 / b : ℝ) : EReal)) : ℤ) := by
  have l1 : -1 ≤ x * (1 / b) := by rw [mul_one_div, le_div_iff₀ hb]; linarith
  have l2 : x * (1 / b) ≤ 1 := by rw [mul_one_div, div_le_iff₀ hb]; linarith
  refine ⟨cellR (x * (1 / b)), ?_, neg_seven_le_cell l1, cell_le_seven l2, ?_⟩
  · rw [← EReal.coe_mul, ← EReal.coe_mul, Ideal.tanh_coe, ← EReal.coe_mul, Ideal.liftRound_coe]
    unfold cellR
    rw [show x * (slopeR * (1 / b)) = slopeR * (x * (1 / b)) by ring]
  · rw [← EReal.coe_mul, ← EReal.coe_mul]
    simp only [EReal.coe_lt_coe_iff]
    rw [← code_eq l1 l2]
    congr 2
    rw [mul_one_div, lt_div_iff₀ hb]

/-- The kernel's cell and comparison give the code, for every weight of its block. -/
theorem cell_code (x a : EReal) (h : max x (-x) ≤ a) :
    ∃ n : ℤ, Ideal.liftRound Ideal.roundHalfEven
        (Ideal.tanh (x * ((slopeR : EReal) * Ideal.div 1 (safe a))) * ((8 : ℝ) : EReal)) = ((n : ℝ) : EReal)
      ∧ -7 ≤ n ∧ n ≤ 7
      ∧ n + 7 + (if ((thrR (n + 8).toNat : ℝ) : EReal) * safe a < x then 1 else 0) = (code x a : ℤ) := by
  have hx := le_trans (le_max_left _ _) h
  have hx' := le_trans (le_max_right _ _) h
  induction a with
  | bot =>
    have e1 : x = ⊥ := le_bot_iff.mp hx
    rw [e1] at hx'
    simp at hx'
  | top =>
    have e : Ideal.div 1 (safe ⊤) = 0 := by
      simp [safe, Ideal.div]
    have ht : safe ⊤ = ⊤ := by simp [safe]
    have hz : x * ((slopeR : EReal) * 0) = ((0 : ℝ) : EReal) := by simp
    have c0 : cellR 0 = 0 := by simp [cellR, Ideal.roundHalfEven]
    refine ⟨0, ?_, by norm_num, by norm_num, ?_⟩
    · rw [e, hz, Ideal.tanh_coe, Real.tanh_zero, ← EReal.coe_mul, Ideal.liftRound_coe, zero_mul, roundHalfEven_zero]
    · have hh := code_eq (x := 0) (by norm_num) (by norm_num)
      rw [c0] at hh
      have hp : thrR ((0 : ℤ) + 8).toNat = t7 := rfl
      have ht7 : (0 : ℝ) < t7 := by norm_num [t7]
      rw [hp, if_neg (not_lt.mpr ht7.le)] at hh
      unfold code
      rw [e, mul_zero, ht, hp, EReal.coe_mul_top_of_pos ht7, if_neg (by simp), hh]
      congr 1
      congr 1
      funext t
      congr 1
      exact propext (by exact_mod_cast Iff.rfl)
  | coe r =>
    induction x with
    | bot => simp at hx'
    | top => simp at hx
    | coe x =>
      have h1 : x ≤ r := by exact_mod_cast hx
      have h2 : -x ≤ r := by exact_mod_cast hx'
      by_cases hr : r = 0
      · subst hr
        have hs : safe ((0 : ℝ) : EReal) = ((1 : ℝ) : EReal) := by simp [safe]
        have hd : Ideal.div 1 ((1 : ℝ) : EReal) = ((1 / 1 : ℝ) : EReal) := by
          rw [Ideal.div_coe one_ne_zero, one_mul]
        unfold code
        rw [hs, hd]
        exact code_fin one_pos (by linarith) (by linarith)
      · have hs : safe (r : EReal) = (r : EReal) := by simp [safe, hr]
        have hd : Ideal.div 1 (r : EReal) = ((1 / r : ℝ) : EReal) := by
          rw [Ideal.div_coe hr, one_mul]
        have hp : 0 < r := lt_of_le_of_ne (by linarith) (Ne.symm hr)
        unfold code
        rw [hs, hd]
        exact code_fin hp (by linarith) (by linarith)

end Cert.Proof.Math

end
-- ==== Proof.Tile.lean ====
/- One block's codes as the kernel computes them: 64 rows of 128 lanes of weights, one block per lane.

`tileT` is the block's computation written once, with the operations of the printed body: the rounded cell, the two
halves of the scaled threshold table gathered at the cell (eight groups of eight rows side by side), the comparison.
`tileT_apply` reads one element of it: `(129 + code) / 8`. -/
module

public import proofs.«01_k».proof.Proof.Gen.KernelIdeal
public import proofs.«01_k».proof.Proof.Math
public import Idealize.ShloMosaic.Lib.Pointwise
public import Idealize.ShloMosaic.PureOps.Ideal.Laws

@[expose] public section

set_option maxRecDepth 16384

noncomputable section

namespace Cert.Proof.Tile

open Idealize.ShloMosaic Cert.KernelIdeal Cert.KernelIdeal.Gen Cert.Proof.Math

variable {F : FTy → Type} [FloatOps F]

/-- The rounded cells, as numbers. -/
def stepT (sb : FVec F S1x128 .bf16) (v : FVec F S64x128 .bf16) : FVec F S64x128 .f32 :=
  roundeven (mulf (extf .f32 (tanh (mulf v (broadcastTo S64x128 (shapeCast S1x128 sb shapeCasts_S1x128_S1x128)
    broadcasts_S1x128_S64x128))) bitsLt_bf16_f32) (broadcast S64x128 (Scalar.ofBits .f32 0x41000000#32)))

/-- The index of the cells: eight groups of eight rows laid side by side. -/
def idxT (st : FVec F S64x128 .f32) : IVec S8x1024 32 :=
  have v : IVec S64x128 32 := fptosi 32 (addf st (broadcast S64x128 (Scalar.ofBits .f32 0x41000000#32)))
  concatenate S8x1024 1 [⟨S8x128, extractStridedSlice S8x128 ![0, 0] v slices_S64x128_o0_0_S8x128⟩, ⟨S8x128, extractStridedSlice S8x128 ![8, 0] v slices_S64x128_o8_0_S8x128⟩, ⟨S8x128, extractStridedSlice S8x128 ![16, 0] v slices_S64x128_o16_0_S8x128⟩, ⟨S8x128, extractStridedSlice S8x128 ![24, 0] v slices_S64x128_o24_0_S8x128⟩, ⟨S8x128, extractStridedSlice S8x128 ![32, 0] v slices_S64x128_o32_0_S8x128⟩, ⟨S8x128, extractStridedSlice S8x128 ![40, 0] v slices_S64x128_o40_0_S8x128⟩, ⟨S8x128, extractStridedSlice S8x128 ![48, 0] v slices_S64x128_o48_0_S8x128⟩, ⟨S8x128, extractStridedSlice S8x128 ![56, 0] v slices_S64x128_o56_0_S8x128⟩] concatenates_S8x128_S8x128_S8x128_S8x128_S8x128_S8x128_S8x128_S8x128_S8x1024_d1

/-- Eight copies of one table side by side. -/
def rep8 (t : FVec F S8x128 .f32) : FVec F S8x1024 .f32 :=
  concatenate S8x1024 1 [⟨S8x128, t⟩, ⟨S8x128, t⟩, ⟨S8x128, t⟩, ⟨S8x128, t⟩, ⟨S8x128, t⟩, ⟨S8x128, t⟩, ⟨S8x128, t⟩, ⟨S8x128, t⟩] concatenates_S8x128_S8x128_S8x128_S8x128_S8x128_S8x128_S8x128_S8x128_S8x1024_d1

/-- The thresholds gathered at the cells, still side by side. -/
def pickT (t0 t1 : FVec F S8x128 .f32) (k : IVec S8x1024 32) : FVec F S8x1024 .f32 :=
  select (cmpi .slt k (broadcast S8x1024 8#32))
    (dynamicGather 0 (rep8 t0) (shapeCast S8x1024 (shapeCast S8x1024x1 (andi k (broadcast S8x1024 7#32)) shapeCasts_S8x1024_S8x1024x1) shapeCasts_S8x1024x1_S8x1024))
    (dynamicGather 0 (rep8 t1) (shapeCast S8x1024 (shapeCast S8x1024x1 (andi k (broadcast S8x1024 7#32)) shapeCasts_S8x1024_S8x1024x1) shapeCasts_S8x1024x1_S8x1024))

/-- Back to 64 rows. -/
def unlay (w : FVec F S8x1024 .f32) : FVec F S64x128 .f32 :=
  concatenate S64x128 0 [⟨S8x128, extractStridedSlice S8x128 ![0, 0] w slices_S8x1024_o0_0_S8x128⟩, ⟨S8x128, extractStridedSlice S8x128 ![0, 128] w slices_S8x1024_o0_128_S8x128⟩, ⟨S8x128, extractStridedSlice S8x128 ![0, 256] w slices_S8x1024_o0_256_S8x128⟩, ⟨S8x128, extractStridedSlice S8x128 ![0, 384] w slices_S8x1024_o0_384_S8x128⟩, ⟨S8x128, extractStridedSlice S8x128 ![0, 512] w slices_S8x1024_o0_512_S8x128⟩, ⟨S8x128, extractStridedSlice S8x128 ![0, 640] w slices_S8x1024_o0_640_S8x128⟩, ⟨S8x128, extractStridedSlice S8x128 ![0, 768] w slices_S8x1024_o0_768_S8x128⟩, ⟨S8x128, extractStridedSlice S8x128 ![0, 896] w slices_S8x1024_o0_896_S8x128⟩] concatenates_S8x128_S8x128_S8x128_S8x128_S8x128_S8x128_S8x128_S8x128_S64x128_d0

/-- A block's row of divisors over eight rows. -/
def rowB (a : FVec F S1x128 .f32) : FVec F S8x128 .f32 :=
  broadcastTo S8x128 (shapeCast S1x128 a shapeCasts_S1x128_S1x128) broadcasts_S1x128_S8x128

/-- One block's biased codes. -/
def tileT (c0 c1 : FVec F S8x128 .f32) (a : FVec F S1x128 .f32) (sb : FVec F S1x128 .bf16) (v : FVec F S64x128 .bf16) :
    FVec F S64x128 .bf16 :=
  addf (addf (truncf .bf16 (divf (stepT sb v) (broadcast S64x128 (Scalar.ofBits .f32 0x41000000#32))) bitsLt_bf16_f32)
      (broadcast S64x128 (Scalar.ofBits .bf16 0x4188#16)))
    (select (cmpf .ogt (extf .f32 v bitsLt_bf16_f32)
        (unlay (pickT (mulf c0 (rowB a)) (mulf c1 (rowB a)) (idxT (stepT sb v)))))
      (broadcast S64x128 (Scalar.ofBits .bf16 0x3E00#16)) (broadcast S64x128 (Scalar.ofBits .bf16 0x0000#16)))

/-- Eight equal pieces side by side, read at a lane. -/
theorem cat_lanes {α : Type} (x : Fin 8 → S8x128.Idx → α) (h) (r : Fin 8) (g : Fin 8) (l : Fin 128) :
    concatenate S8x1024 1 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩] h
      (ix2 r ⟨128 * g.val + l.val, by have := g.isLt; have := l.isLt; omega⟩ : S8x1024.Idx) = x g (ix2 r l) := by
  have hr := r.isLt
  have hl := l.isLt
  pointwise
  fin_vals g with hg
  all_goals
    repeat (first | rw [dif_pos (by omega)] | rw [dif_neg (by omega)])
  all_goals
    exact congr (congrArg x (Fin.ext hg.symm)) (congrArg (fun q => (ix2 r q : S8x128.Idx)) (Fin.ext (by simp only; omega)))

/-- Eight equal pieces one under another, read at a row. -/
theorem cat_rows {α : Type} (x : Fin 8 → S8x128.Idx → α) (h) (r : Fin 8) (g : Fin 8) (l : Fin 128) :
    concatenate S64x128 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩] h
      (ix2 ⟨8 * g.val + r.val, by have := g.isLt; have := r.isLt; omega⟩ l : S64x128.Idx) = x g (ix2 r l) := by
  have hr := r.isLt
  have hl := l.isLt
  pointwise
  fin_vals g with hg
  all_goals
    repeat (first | rw [dif_pos (by omega)] | rw [dif_neg (by omega)])
  all_goals
    exact congr (congrArg x (Fin.ext hg.symm)) (congrArg (fun q => (ix2 q l : S8x128.Idx)) (Fin.ext (by simp only; omega)))

theorem sel_apply {s : Shape} {α : Type} (c : IVec s 1) (a b : s.Idx → α) (j : s.Idx) :
    select c a b j = Scalar.select (c j) (a j) (b j) := rfl

theorem slice_rows {α : Type} (v : S64x128.Idx → α) (o : ℕ) (h : S64x128.Slices ![o, 0] S8x128) (ho : o + 8 ≤ 64) :
    extractStridedSlice S8x128 ![o, 0] v h
      = fun j => v (ix2 ⟨o + (j 0).val, by have := (j 0).isLt; change _ < 8 at this; omega⟩ (j 1)) := by
  funext j
  pointwise

theorem slice_lanes {α : Type} (v : S8x1024.Idx → α) (o : ℕ) (h : S8x1024.Slices ![0, o] S8x128) (ho : o + 128 ≤ 1024) :
    extractStridedSlice S8x128 ![0, o] v h
      = fun j => v (ix2 (j 0) ⟨o + (j 1).val, by have := (j 1).isLt; change _ < 128 at this; omega⟩) := by
  funext j
  pointwise

theorem idxT_apply (st : FVec F S64x128 .f32) (r : Fin 8) (g : Fin 8) (l : Fin 128) :
    idxT st (ix2 r ⟨128 * g.val + l.val, by have := g.isLt; have := l.isLt; omega⟩ : S8x1024.Idx)
      = (fptosi 32 (addf st (broadcast S64x128 (Scalar.ofBits .f32 0x41000000#32))) : IVec S64x128 32)
          (ix2 ⟨8 * g.val + r.val, by have := g.isLt; have := r.isLt; omega⟩ l : S64x128.Idx) := by
  unfold idxT
  rw [slice_rows _ 0 _ (by omega), slice_rows _ 8 _ (by omega), slice_rows _ 16 _ (by omega), slice_rows _ 24 _ (by omega),
    slice_rows _ 32 _ (by omega), slice_rows _ 40 _ (by omega), slice_rows _ 48 _ (by omega), slice_rows _ 56 _ (by omega)]
  exact (cat_lanes (fun i j => (fptosi 32 (addf st (broadcast S64x128 (Scalar.ofBits .f32 0x41000000#32))) : IVec S64x128 32)
    (ix2 ⟨8 * i.val + (j 0).val, by have := (j 0).isLt; change _ < 8 at this; have := i.isLt; omega⟩ (j 1))) _ r g l)

theorem rep8_apply (t : FVec F S8x128 .f32) (r : Fin 8) (g : Fin 8) (l : Fin 128) :
    rep8 t (ix2 r ⟨128 * g.val + l.val, by have := g.isLt; have := l.isLt; omega⟩ : S8x1024.Idx) = t (ix2 r l) :=
  cat_lanes (fun _ => t) _ r g l

theorem unlay_apply (w : FVec F S8x1024 .f32) (r : Fin 8) (g : Fin 8) (l : Fin 128) :
    unlay w (ix2 ⟨8 * g.val + r.val, by have := g.isLt; have := r.isLt; omega⟩ l : S64x128.Idx)
      = w (ix2 r ⟨128 * g.val + l.val, by have := g.isLt; have := l.isLt; omega⟩ : S8x1024.Idx) := by
  unfold unlay
  rw [slice_lanes _ 0 _ (by omega), slice_lanes _ 128 _ (by omega), slice_lanes _ 256 _ (by omega), slice_lanes _ 384 _ (by omega),
    slice_lanes _ 512 _ (by omega), slice_lanes _ 640 _ (by omega), slice_lanes _ 768 _ (by omega), slice_lanes _ 896 _ (by omega)]
  exact (cat_rows (fun i j => w
    (ix2 (j 0) ⟨128 * i.val + (j 1).val, by have := (j 1).isLt; change _ < 128 at this; have := i.isLt; omega⟩)) _ r g l)

theorem gather_apply {α : Type} (x : S8x1024.Idx → α) (k : IVec S8x1024 32) (r : Fin 8) (L : Fin 1024) :
    dynamicGather 0 x k (ix2 r L : S8x1024.Idx)
      = x (ix2 ⟨(k (ix2 r L : S8x1024.Idx)).toNat % 8, Nat.mod_lt _ (by omega)⟩ L) := by
  rw [dynamicGather_apply]
  congr 1
  funext b
  fin_cases b <;> rfl

theorem col_apply {α : Type} (x : S8x1024.Idx → α) :
    shapeCast S8x1024 (shapeCast S8x1024x1 x shapeCasts_S8x1024_S8x1024x1) shapeCasts_S8x1024x1_S8x1024 = x := by
  funext j
  pointwise

/-- The threshold picked at an index below sixteen. -/
theorem pickT_apply (t0 t1 : FVec F S8x128 .f32) (k : IVec S8x1024 32) (r g : Fin 8) (l : Fin 128) (m : ℕ) (hm : m < 16)
    (hk : k (ix2 r ⟨128 * g.val + l.val, by have := g.isLt; have := l.isLt; omega⟩ : S8x1024.Idx) = BitVec.ofNat 32 m) :
    pickT t0 t1 k (ix2 r ⟨128 * g.val + l.val, by have := g.isLt; have := l.isLt; omega⟩ : S8x1024.Idx)
      = if m < 8 then t0 (ix2 ⟨m % 8, Nat.mod_lt _ (by omega)⟩ l) else t1 (ix2 ⟨m % 8, Nat.mod_lt _ (by omega)⟩ l) := by
  have e : ((andi k (broadcast S8x1024 7#32)) (ix2 r ⟨128 * g.val + l.val, by have := g.isLt; have := l.isLt; omega⟩ : S8x1024.Idx)).toNat % 8 = m % 8 := by
    change ((k _) &&& 7#32).toNat % 8 = _
    rw [hk]
    interval_cases m <;> rfl
  unfold pickT
  simp only [col_apply]
  rw [sel_apply, gather_apply, gather_apply, rep8_apply, rep8_apply]
  simp only [e]
  have hc : cmpi .slt k (broadcast S8x1024 8#32) (ix2 r ⟨128 * g.val + l.val, by have := g.isLt; have := l.isLt; omega⟩ : S8x1024.Idx)
      = BitVec.ofBool (decide (m < 8)) := by
    change BitVec.ofBool (BitVec.slt (k _) 8#32) = _
    rw [hk]
    interval_cases m <;> rfl
  rw [hc]
  by_cases h : m < 8 <;> simp [h, Scalar.select]

theorem rowB_apply (a : FVec F S1x128 .f32) (r : Fin 8) (l : Fin 128) : rowB a (ix2 r l) = a (ix2 0 l) := by
  unfold rowB
  pointwise

theorem fptosi_int (n : ℤ) (h0 : -100000000 ≤ n) (h1 : n ≤ 100000000) : Ideal.fptosi 32 (((n : ℝ)) : EReal) = BitVec.ofInt 32 n := by
  unfold Ideal.fptosi
  congr 1
  change max _ (min _ (if (0 : ℝ) ≤ (n : ℝ) then ⌊(n : ℝ)⌋ else ⌈(n : ℝ)⌉)) = n
  rw [Int.floor_intCast, Int.ceil_intCast, ite_self]
  norm_num
  omega

theorem stepT_apply (sb : FVec Ideal S1x128 .bf16) (v : FVec Ideal S64x128 .bf16) (i : Fin 64) (l : Fin 128) :
    stepT sb v (ix2 i l) = Ideal.liftRound Ideal.roundHalfEven
        (Ideal.tanh (v (ix2 i l) * sb (ix2 0 l)) * ((8 : ℝ) : EReal)) := by
  rw [← eight_eq]
  unfold stepT
  pointwise

/-- One element of a block's codes. -/
theorem tileT_apply (c0 c1 : FVec Ideal S8x128 .f32) (a : FVec Ideal S1x128 .f32) (sb : FVec Ideal S1x128 .bf16)
    (v : FVec Ideal S64x128 .bf16) (A : EReal) (r g : Fin 8) (l : Fin 128)
    (hc0 : ∀ r : Fin 8, c0 (ix2 r l) = ((thrR r.val : ℝ) : EReal)) (hc1 : ∀ r : Fin 8, c1 (ix2 r l) = ((thrR (8 + r.val) : ℝ) : EReal))
    (ha : a (ix2 0 l) = safe A) (hsb : sb (ix2 0 l) = (slopeR : EReal) * Ideal.div 1 (safe A))
    (x : EReal) (hx : v (ix2 ⟨8 * g.val + r.val, by have := g.isLt; have := r.isLt; omega⟩ l : S64x128.Idx) = x) (hA : max x (-x) ≤ A) :
    tileT c0 c1 a sb v (ix2 ⟨8 * g.val + r.val, by have := g.isLt; have := r.isLt; omega⟩ l : S64x128.Idx)
      = ((((129 + code x A : ℕ) : ℝ) / 8 : ℝ) : EReal) := by
  obtain ⟨n, hn, n0, n1, hcode⟩ := cell_code x A hA
  have hst : stepT sb v (ix2 ⟨8 * g.val + r.val, by have := g.isLt; have := r.isLt; omega⟩ l : S64x128.Idx) = ((n : ℝ) : EReal) := by
    rw [stepT_apply, hx, hsb, hn]
  obtain ⟨m, hm⟩ : ∃ m : ℕ, n + 8 = m := ⟨(n + 8).toNat, by omega⟩
  have hk : idxT (stepT sb v) (ix2 r ⟨128 * g.val + l.val, by have := g.isLt; have := l.isLt; omega⟩ : S8x1024.Idx) = BitVec.ofNat 32 m := by
    rw [idxT_apply]
    change Ideal.fptosi 32 (stepT sb v _ + Ideal.ofBits .f32 0x41000000#32) = _
    rw [hst, eight_eq, ← EReal.coe_add, show ((n : ℝ) + 8) = (((n + 8 : ℤ)) : ℝ) by push_cast; ring, fptosi_int _ (by omega) (by omega), hm,
      BitVec.ofInt_natCast]
  have hp : unlay (pickT (mulf c0 (rowB a)) (mulf c1 (rowB a)) (idxT (stepT sb v)))
      (ix2 ⟨8 * g.val + r.val, by have := g.isLt; have := r.isLt; omega⟩ l : S64x128.Idx) = ((thrR m : ℝ) : EReal) * safe A := by
    rw [unlay_apply, pickT_apply _ _ _ r g l m (by omega) hk]
    split
    · rename_i h
      change c0 _ * rowB a _ = _
      rw [rowB_apply, ha, hc0]
      simp only [Nat.mod_eq_of_lt h]
    · rename_i h
      change c1 _ * rowB a _ = _
      rw [rowB_apply, ha, hc1]
      simp only
      rw [show 8 + m % 8 = m by omega]
  have hsel : (select (cmpf .ogt (extf .f32 v bitsLt_bf16_f32)
        (unlay (pickT (mulf c0 (rowB a)) (mulf c1 (rowB a)) (idxT (stepT sb v)))))
      (broadcast S64x128 (Scalar.ofBits .bf16 0x3E00#16 : Ideal .bf16)) (broadcast S64x128 (Scalar.ofBits .bf16 0x0000#16)))
      (ix2 ⟨8 * g.val + r.val, by have := g.isLt; have := r.isLt; omega⟩ l : S64x128.Idx)
      = if ((thrR m : ℝ) : EReal) * safe A < x then (((1 / 8 : ℝ)) : EReal) else 0 := by
    generalize (unlay (pickT (mulf c0 (rowB a)) (mulf c1 (rowB a)) (idxT (stepT sb v)))) = w at hp
    have z : Ideal.ofBits .bf16 0x0000#16 = 0 := by simp [Ideal.ofBits, Ideal.ieee]
    have e : cmpf .ogt (extf .f32 v bitsLt_bf16_f32) w
        (ix2 ⟨8 * g.val + r.val, by have := g.isLt; have := r.isLt; omega⟩ l : S64x128.Idx)
        = BitVec.ofBool (decide (((thrR m : ℝ) : EReal) * safe A < x)) := by
      rw [← hp, ← hx]
      rfl
    rw [sel_apply, e]
    change Scalar.select _ (Ideal.ofBits .bf16 0x3E00#16) (Ideal.ofBits .bf16 0x0000#16) = _
    rw [eighth_eq, z]
    split <;> rename_i h <;> simp [h, Scalar.select]
  unfold tileT
  change (Ideal.div (stepT sb v _) (Ideal.ofBits .f32 0x41000000#32) + Ideal.ofBits .bf16 0x4188#16) + _ = _
  rw [hsel, hst, eight_eq, seventeen_eq]
  rw [show (n + 8).toNat = m by omega] at hcode
  have hc : ((code x A : ℕ) : ℝ) = ((n : ℝ) + 7 + (if ((thrR m : ℝ) : EReal) * safe A < x then 1 else 0)) := by
    have := congrArg (fun z : ℤ => (z : ℝ)) hcode
    push_cast at this
    rw [← this]
  push_cast
  rw [hc]
  have hd : Ideal.div ((n : ℝ) : EReal) ((8 : ℝ) : EReal) = (((n : ℝ) / 8 : ℝ) : EReal) := by
    rw [Ideal.div_coe (by norm_num), ← EReal.coe_mul, mul_one_div]
  rw [hd]
  split
  · rw [← EReal.coe_add, ← EReal.coe_add]
    congr 1
    ring
  · rw [← EReal.coe_add, add_zero]
    congr 1
    ring

end Cert.Proof.Tile

end
-- ==== Proof.PackTable.lean ====
/- The packing weights' table, entry by entry: row `w + 32 * q` holds `8 * 16 ^ (k % 4)` at the four columns `8 * w + k`,
`k / 4 = q`, and zero elsewhere. -/
module

public import proofs.«01_k».proof.Proof.Gen.KernelIdeal

@[expose] public section

set_option maxRecDepth 65536

namespace Cert.Proof.PackTable

open Idealize.ShloMosaic Cert.KernelIdeal

/-- The bits of the weight of row `i`, column `k`. -/
def packBits (i k : ℕ) : BitVec 16 :=
  if k / 8 = i % 32 ∧ k % 8 / 4 = i / 32 then BitVec.ofNat 16 (0x4100 + 0x200 * (k % 4)) else 0#16

theorem lit2_eq : ∀ i : Fin 64, ∀ k : Fin 256, lit2 ⟨256 * i.val + k.val, by omega⟩ = packBits i.val k.val := by
  decide +kernel

end Cert.Proof.PackTable
-- ==== Proof.Words.lean ====
/- One word of eight codes as the kernel packs it: the product of the packing weights with the biased codes, the bias
taken off, the two halves put together. -/
module

public import proofs.«01_k».proof.Proof.Gen.KernelIdeal
public import proofs.«01_k».proof.Proof.Math
public import proofs.«01_k».proof.Proof.PackTable
public import proofs.«01_k».proof.Proof.Tile
public import Idealize.ShloMosaic.Lib.Pointwise
public import Idealize.ShloMosaic.PureOps.Ideal.Laws

@[expose] public section

set_option maxRecDepth 16384

noncomputable section

namespace Cert.Proof.Words

open Idealize.ShloMosaic Cert.KernelIdeal Cert.KernelIdeal.Gen Cert.Proof.Math

variable {F : FTy → Type} [FloatOps F]

/-- Half a tile of codes: four blocks under one another. -/
def halfT (a b c d : FVec F S64x128 .bf16) : FVec F S256x128 .bf16 :=
  concatenate S256x128 0 [⟨S64x128, a⟩, ⟨S64x128, b⟩, ⟨S64x128, c⟩, ⟨S64x128, d⟩] concatenates_S64x128_S64x128_S64x128_S64x128_S256x128_d0

/-- The sums of the packing product. -/
def accT (pack : Vec F S64x256 .bf16) (h0 h1 : FVec F S256x128 .bf16) : FVec F S64x256 .f32 :=
  matmul dot_S64x256_S256x256_S64x256_1_0_0_1_n_n none pack
    (concatenate S256x256 1 [⟨S256x128, h0⟩, ⟨S256x128, h1⟩] concatenates_S256x128_S256x128_S256x256_d1 : FVec F S256x256 .bf16)
    (constant S64x256 .f32 0x00000000#32)

/-- The words of the sums. -/
def wordT (acc : FVec F S64x256 .f32) : IVec S32x256 32 :=
  addi (shli (fptosi 32 (subf (extractStridedSlice S32x256 ![32, 0] acc slices_S64x256_o32_0_S32x256)
      (broadcast S32x256 (Scalar.ofBits .f32 0x49099910#32))) : IVec S32x256 32) (broadcast S32x256 16#32))
    (fptosi 32 (subf (extractStridedSlice S32x256 ![0, 0] acc slices_S64x256_o0_0_S32x256)
      (broadcast S32x256 (Scalar.ofBits .f32 0x49099910#32))))

/-- The four tiles' words under one another. -/
def stackT (a b c d : IVec S32x256 32) : IVec S128x256 32 :=
  concatenate S128x256 0 [⟨S32x256, a⟩, ⟨S32x256, b⟩, ⟨S32x256, c⟩, ⟨S32x256, d⟩] concatenates_S32x256_S32x256_S32x256_S32x256_S128x256_d0

theorem bias_eq : Ideal.ofBits .f32 0x49099910#32 = ((563601 : ℝ) : EReal) := by
  simp [Ideal.ofBits, Ideal.ieee, -EReal.coe_mul]; norm_num

theorem halfT_apply (x : Fin 4 → FVec F S64x128 .bf16) (b : Fin 4) (r : Fin 64) (l : Fin 128) :
    halfT (x 0) (x 1) (x 2) (x 3) (ix2 ⟨64 * b.val + r.val, by have := b.isLt; have := r.isLt; omega⟩ l : S256x128.Idx) = x b (ix2 r l) := by
  have hr := r.isLt
  have hl := l.isLt
  unfold halfT
  pointwise
  fin_vals b with hg
  all_goals
    repeat (first | rw [dif_pos (by omega)] | rw [dif_neg (by omega)])
  all_goals
    exact congr (congrArg x (Fin.ext hg.symm)) (congrArg (fun q => (ix2 q l : S64x128.Idx)) (Fin.ext (by simp only; omega)))

theorem stackT_apply (x : Fin 4 → IVec S32x256 32) (b : Fin 4) (r : Fin 32) (l : Fin 256) :
    stackT (x 0) (x 1) (x 2) (x 3) (ix2 ⟨32 * b.val + r.val, by have := b.isLt; have := r.isLt; omega⟩ l : S128x256.Idx) = x b (ix2 r l) := by
  have hr := r.isLt
  have hl := l.isLt
  unfold stackT
  pointwise
  fin_vals b with hg
  all_goals
    repeat (first | rw [dif_pos (by omega)] | rw [dif_neg (by omega)])
  all_goals
    exact congr (congrArg x (Fin.ext hg.symm)) (congrArg (fun q => (ix2 q l : S32x256.Idx)) (Fin.ext (by simp only; omega)))

theorem lanes_apply (x : Fin 2 → FVec F S256x128 .bf16) (h) (k : Fin 256) (b : Fin 2) (l : Fin 128) :
    concatenate S256x256 1 [⟨S256x128, x 0⟩, ⟨S256x128, x 1⟩] h
      (ix2 k ⟨128 * b.val + l.val, by have := b.isLt; have := l.isLt; omega⟩ : S256x256.Idx) = x b (ix2 k l) := by
  have hr := k.isLt
  have hl := l.isLt
  pointwise
  fin_vals b with hg
  all_goals
    repeat (first | rw [dif_pos (by omega)] | rw [dif_neg (by omega)])
  all_goals
    exact congr (congrArg x (Fin.ext hg.symm)) (congrArg (fun q => (ix2 k q : S256x128.Idx)) (Fin.ext (by simp only; omega)))

/-- A packing weight's value. -/
theorem packBits_eq (i k : ℕ) : Ideal.ofBits .bf16 (PackTable.packBits i k)
    = ((if k / 8 = i % 32 ∧ k % 8 / 4 = i / 32 then 8 * 16 ^ (k % 4) else 0 : ℝ) : EReal) := by
  unfold PackTable.packBits
  have hk : k % 4 < 4 := Nat.mod_lt _ (by norm_num)
  split
  · generalize k % 4 = j at hk
    interval_cases j <;> simp [Ideal.ofBits, Ideal.ieee, -EReal.coe_mul] <;> norm_num
  · simp [Ideal.ofBits, Ideal.ieee, -EReal.coe_mul]

/-- The sum against one row of weights keeps four terms. -/
theorem row_sum (f : ℕ → ℝ) (w q : ℕ) (hw : w < 32) (hq : q < 2) :
    ∑ k : Fin 256, (if k.val / 8 = (w + 32 * q) % 32 ∧ k.val % 8 / 4 = (w + 32 * q) / 32 then 8 * 16 ^ (k.val % 4) else 0 : ℝ) * f k.val
      = 8 * f (8 * w + 4 * q) + 128 * f (8 * w + 4 * q + 1) + 2048 * f (8 * w + 4 * q + 2) + 32768 * f (8 * w + 4 * q + 3) := by
  rw [Finset.sum_fin_eq_sum_range]
  have e : ∀ k ∈ Finset.range 256, (if h : k < 256 then (if k / 8 = (w + 32 * q) % 32 ∧ k % 8 / 4 = (w + 32 * q) / 32 then 8 * 16 ^ (k % 4) else 0 : ℝ) * f k else 0)
      = if k / 4 = 2 * w + q then (8 * 16 ^ (k % 4) : ℝ) * f k else 0 := by
    intro k hk
    rw [Finset.mem_range] at hk
    rw [dif_pos hk]
    rw [show (w + 32 * q) % 32 = w by omega, show (w + 32 * q) / 32 = q by omega]
    have : (k / 8 = w ∧ k % 8 / 4 = q) ↔ k / 4 = 2 * w + q := by omega
    simp only [this]
    split <;> simp
  rw [Finset.sum_congr rfl e, ← Finset.sum_filter]
  have s : (Finset.range 256).filter (fun k => k / 4 = 2 * w + q)
      = {8 * w + 4 * q, 8 * w + 4 * q + 1, 8 * w + 4 * q + 2, 8 * w + 4 * q + 3} := by
    ext k
    simp only [Finset.mem_filter, Finset.mem_range, Finset.mem_insert, Finset.mem_singleton]
    omega
  rw [s, Finset.sum_insert (by simp), Finset.sum_insert (by simp), Finset.sum_insert (by simp), Finset.sum_singleton]
  rw [show (8 * w + 4 * q) % 4 = 0 by omega, show (8 * w + 4 * q + 1) % 4 = 1 by omega, show (8 * w + 4 * q + 2) % 4 = 2 by omega,
    show (8 * w + 4 * q + 3) % 4 = 3 by omega]
  ring

theorem coe_sum {n : ℕ} (f : Fin n → ℝ) : ((∑ k, f k : ℝ) : EReal) = ∑ k, ((f k : ℝ) : EReal) := by
  classical
  refine Finset.induction_on (motive := fun s => ((∑ k ∈ s, f k : ℝ) : EReal) = ∑ k ∈ s, ((f k : ℝ) : EReal)) Finset.univ (by simp) ?_
  intro a s ha ih
  rw [Finset.sum_insert ha, Finset.sum_insert ha, EReal.coe_add, ih]

/-- One sum of the product, of biased codes. -/
theorem accT_apply (pack : FVec Ideal S64x256 .bf16) (x : Fin 2 → FVec Ideal S256x128 .bf16) (c : ℕ → ℕ)
    (b : Fin 2) (l : Fin 128)
    (hp : ∀ (i : Fin 64) (k : Fin 256), pack (ix2 i k) = Ideal.ofBits .bf16 (PackTable.packBits i.val k.val))
    (hx : ∀ k : Fin 256, x b (ix2 k l) = ((((129 + c k.val : ℕ) : ℝ) / 8 : ℝ) : EReal))
    (w q : ℕ) (hw : w < 32) (hq : q < 2) :
    accT pack (x 0) (x 1) (ix2 ⟨w + 32 * q, by omega⟩ ⟨128 * b.val + l.val, by have := b.isLt; have := l.isLt; omega⟩ : S64x256.Idx)
      = ((((c (8 * w + 4 * q) + 16 * c (8 * w + 4 * q + 1) + 256 * c (8 * w + 4 * q + 2) + 4096 * c (8 * w + 4 * q + 3) + 563601 : ℕ) : ℝ)) : EReal) := by
  have hb := b.isLt
  have hl := l.isLt
  have hX := fun k => lanes_apply x concatenates_S256x128_S256x128_S256x256_d1 k b l
  unfold accT
  generalize concatenate S256x256 1 [⟨S256x128, x 0⟩, ⟨S256x128, x 1⟩] concatenates_S256x128_S256x128_S256x256_d1 = X at hX ⊢
  rw [show matmul dot_S64x256_S256x256_S64x256_1_0_0_1_n_n none pack X (constant S64x256 .f32 0x00000000#32)
      (ix2 ⟨w + 32 * q, by omega⟩ ⟨128 * b.val + l.val, by omega⟩ : S64x256.Idx)
    = ∑ k : Fin 256, pack (ix2 ⟨w + 32 * q, by omega⟩ k) * X (ix2 k ⟨128 * b.val + l.val, by omega⟩) by pointwise]
  rw [Finset.sum_congr rfl (g := fun k : Fin 256 => (((if k.val / 8 = (w + 32 * q) % 32 ∧ k.val % 8 / 4 = (w + 32 * q) / 32 then 8 * 16 ^ (k.val % 4) else 0 : ℝ)
      * (((129 + c k.val : ℕ) : ℝ) / 8) : ℝ) : EReal)) (fun k _ => by rw [hp, hX, hx, packBits_eq, ← EReal.coe_mul])]
  rw [← coe_sum, row_sum (fun k => ((129 + c k : ℕ) : ℝ) / 8) w q hw hq]
  congr 1
  push_cast
  ring

/-- A word of the two sums. -/
theorem wordT_apply (acc : FVec Ideal S64x256 .f32) (c : ℕ → ℕ) (hc : ∀ k, c k < 16) (w : Fin 32) (l : Fin 256)
    (h : ∀ q : ℕ, (hq : q < 2) → acc (ix2 ⟨w.val + 32 * q, by have := w.isLt; omega⟩ l) =
      ((((c (8 * w.val + 4 * q) + 16 * c (8 * w.val + 4 * q + 1) + 256 * c (8 * w.val + 4 * q + 2) + 4096 * c (8 * w.val + 4 * q + 3) + 563601 : ℕ) : ℝ)) : EReal)) :
    wordT acc (ix2 w l) = BitVec.ofNat 32 (c (8 * w.val) + 16 * c (8 * w.val + 1) + 256 * c (8 * w.val + 2) + 4096 * c (8 * w.val + 3)
      + 65536 * (c (8 * w.val + 4) + 16 * c (8 * w.val + 5) + 256 * c (8 * w.val + 6) + 4096 * c (8 * w.val + 7))) := by
  have hw := w.isLt
  have h0 := h 0 (by norm_num)
  have h1 := h 1 (by norm_num)
  simp only [Nat.mul_zero, Nat.mul_one, Nat.add_zero] at h0 h1
  rw [show 8 * w.val + 4 + 1 = 8 * w.val + 5 by omega, show 8 * w.val + 4 + 2 = 8 * w.val + 6 by omega,
    show 8 * w.val + 4 + 3 = 8 * w.val + 7 by omega] at h1
  have n0 := hc (8 * w.val)
  have n1 := hc (8 * w.val + 1)
  have n2 := hc (8 * w.val + 2)
  have n3 := hc (8 * w.val + 3)
  have n4 := hc (8 * w.val + 4)
  have n5 := hc (8 * w.val + 5)
  have n6 := hc (8 * w.val + 6)
  have n7 := hc (8 * w.val + 7)
  have cv : ∀ n : ℕ, n < 65536 → Ideal.fptosi 32 ((((n + 563601 : ℕ) : ℝ) : EReal) - ((563601 : ℝ) : EReal)) = BitVec.ofNat 32 n := by
    intro n hn
    rw [← EReal.coe_sub, show ((n + 563601 : ℕ) : ℝ) - 563601 = ((n : ℤ) : ℝ) by push_cast; ring,
      Tile.fptosi_int n (by omega) (by omega), BitVec.ofInt_natCast]
  have e0 : (extractStridedSlice S32x256 ![0, 0] acc slices_S64x256_o0_0_S32x256) (ix2 w l) = acc (ix2 ⟨w.val, by omega⟩ l) := by
    pointwise
    try (congr 2; apply Fin.ext; simp only; omega)
  have e1 : (extractStridedSlice S32x256 ![32, 0] acc slices_S64x256_o32_0_S32x256) (ix2 w l) = acc (ix2 ⟨w.val + 32, by omega⟩ l) := by
    pointwise
    try (congr 2; apply Fin.ext; simp only; omega)
  unfold wordT
  show (Ideal.fptosi 32 ((extractStridedSlice S32x256 ![32, 0] acc slices_S64x256_o32_0_S32x256) (ix2 w l) - Ideal.ofBits .f32 0x49099910#32)) <<< _
    + Ideal.fptosi 32 ((extractStridedSlice S32x256 ![0, 0] acc slices_S64x256_o0_0_S32x256) (ix2 w l) - Ideal.ofBits .f32 0x49099910#32) = _
  rw [e0, e1, h0, h1, bias_eq]
  rw [cv _ (by omega), cv _ (by omega)]
  show (BitVec.ofNat 32 _) <<< (16 : ℕ) + _ = _
  apply BitVec.eq_of_toNat_eq
  simp only [BitVec.toNat_add, BitVec.toNat_shiftLeft, BitVec.toNat_ofNat, Nat.shiftLeft_eq]
  omega

end Cert.Proof.Words
-- ==== Proof.Stage.lean ====
/- The two stages of the body, each written once with the operations of the printed body.

Stage A transposes eight tiles of a chunk, keeps them as pairs of rows, and takes the largest magnitude of every block
of 64 features. Stage B turns the pairs of rows back into tiles, encodes them block by block, and packs eight codes in
a word. -/
module

public import proofs.«01_k».proof.Proof.Gen.KernelIdeal
public import proofs.«01_k».proof.Proof.Gen.KernelIdeal.Skeleton
public import proofs.«01_k».proof.Proof.Tile
public import proofs.«01_k».proof.Proof.Words
public import Idealize.ShloMosaic.Lib.Pointwise
public import Idealize.ShloMosaic.PureOps.Ideal.Laws

@[expose] public section

set_option maxRecDepth 16384

noncomputable section

namespace Cert.Proof.Stage

open Idealize.ShloMosaic Cert.KernelIdeal Cert.KernelIdeal.Gen Cert.Proof.Math Cert.Proof.Tile Cert.Proof.Words

variable {F : FTy → Type} [FloatOps F]

/-! ## Stage B -/

/-- A tile's half of codes: 256 rows of 128 lanes of weights, with the rows of scales and of divisors of its four
blocks. -/
def chunkT (c0 c1 : FVec F S8x128 .f32) (s : Vec F S1x128x2x128 .bf16) (sw : Vec F S1x4x2x128 .bf16) (az : Vec F S1x4x128 .f32) :
    FVec F S256x128 .bf16 :=
  halfT
    (tileT c0 c1 (extractStridedSlice S1x128 ![0, 0] (k0_pay9 az) slices_S4x128_o0_0_S1x128)
      (extractStridedSlice S1x128 ![0, 0] (k0_pay8 sw) slices_S8x128_o0_0_S1x128)
      (extractStridedSlice S64x128 ![0, 0] (k0_pay7 s) slices_S256x128_o0_0_S64x128))
    (tileT c0 c1 (extractStridedSlice S1x128 ![1, 0] (k0_pay9 az) slices_S4x128_o1_0_S1x128)
      (extractStridedSlice S1x128 ![2, 0] (k0_pay8 sw) slices_S8x128_o2_0_S1x128)
      (extractStridedSlice S64x128 ![64, 0] (k0_pay7 s) slices_S256x128_o64_0_S64x128))
    (tileT c0 c1 (extractStridedSlice S1x128 ![2, 0] (k0_pay9 az) slices_S4x128_o2_0_S1x128)
      (extractStridedSlice S1x128 ![4, 0] (k0_pay8 sw) slices_S8x128_o4_0_S1x128)
      (extractStridedSlice S64x128 ![128, 0] (k0_pay7 s) slices_S256x128_o128_0_S64x128))
    (tileT c0 c1 (extractStridedSlice S1x128 ![3, 0] (k0_pay9 az) slices_S4x128_o3_0_S1x128)
      (extractStridedSlice S1x128 ![6, 0] (k0_pay8 sw) slices_S8x128_o6_0_S1x128)
      (extractStridedSlice S64x128 ![192, 0] (k0_pay7 s) slices_S256x128_o192_0_S64x128))

/-- A tile's words. -/
def wtile (c0 c1 : FVec F S8x128 .f32) (pack : Vec F S64x256 .bf16)
    (s0 : Vec F S1x128x2x128 .bf16) (sw0 : Vec F S1x4x2x128 .bf16) (az0 : Vec F S1x4x128 .f32)
    (s1 : Vec F S1x128x2x128 .bf16) (sw1 : Vec F S1x4x2x128 .bf16) (az1 : Vec F S1x4x128 .f32) : IVec S32x256 32 :=
  wordT (accT pack (chunkT c0 c1 s0 sw0 az0) (chunkT c0 c1 s1 sw1 az1))

/-- The lanes of a chunk's words of rows 0 to 127, transposed. -/
def wout0 (w : IVec S128x256 32) : IVec S128x128 32 :=
  transpose S128x128 [1, 0] (extractStridedSlice S128x128 ![0, 0] w slices_S128x256_o0_0_S128x128) transposes_S128x128_p1_0_S128x128

/-- The lanes of a chunk's words of rows 128 to 255, transposed. -/
def wout1 (w : IVec S128x256 32) : IVec S128x128 32 :=
  transpose S128x128 [1, 0] (extractStridedSlice S128x128 ![0, 128] w slices_S128x256_o0_128_S128x128) transposes_S128x128_p1_0_S128x128

/-! ## Stage A -/

/-- A tile transposed. -/
def xtT (x : Vec F S128x128 .bf16) : FVec F S128x128 .bf16 :=
  transpose S128x128 [1, 0] (shapeCast S128x128 x shapeCasts_S128x128_S128x128) transposes_S128x128_p1_0_S128x128

/-- Eight transposed tiles as pairs of rows. -/
def sSt (a b c d e f g h : Vec F S128x128 .bf16) : Vec F S1x512x2x128 .bf16 :=
  k0_pay351 (xtT a) (xtT b) (xtT c) (xtT d) (xtT e) (xtT f) (xtT g) (xtT h)

/-- A block's magnitudes, four groups of 16 rows folded into one. -/
def m0T (y : FVec F S128x128 .bf16) : FVec F S16x128 .bf16 :=
  maximumf (maximumf (maximumf (absf (extractStridedSlice S16x128 ![0, 0] y slices_S128x128_o0_0_S16x128))
    (absf (extractStridedSlice S16x128 ![16, 0] y slices_S128x128_o16_0_S16x128)))
    (absf (extractStridedSlice S16x128 ![32, 0] y slices_S128x128_o32_0_S16x128)))
    (absf (extractStridedSlice S16x128 ![48, 0] y slices_S128x128_o48_0_S16x128))

/-- The same of a tile's second block. -/
def m1T (y : FVec F S128x128 .bf16) : FVec F S16x128 .bf16 :=
  maximumf (maximumf (maximumf (absf (extractStridedSlice S16x128 ![64, 0] y slices_S128x128_o64_0_S16x128))
    (absf (extractStridedSlice S16x128 ![80, 0] y slices_S128x128_o80_0_S16x128)))
    (absf (extractStridedSlice S16x128 ![96, 0] y slices_S128x128_o96_0_S16x128)))
    (absf (extractStridedSlice S16x128 ![112, 0] y slices_S128x128_o112_0_S16x128))

/-- Eight blocks' folded magnitudes as pairs of rows. -/
def pmSt (a b c d : Vec F S128x128 .bf16) : Vec F S64x2x128 .bf16 :=
  have v : FVec F S128x128 .bf16 := concatenate S128x128 0 [⟨S16x128, m0T (xtT a)⟩, ⟨S16x128, m1T (xtT a)⟩, ⟨S16x128, m0T (xtT b)⟩, ⟨S16x128, m1T (xtT b)⟩, ⟨S16x128, m0T (xtT c)⟩, ⟨S16x128, m1T (xtT c)⟩, ⟨S16x128, m0T (xtT d)⟩, ⟨S16x128, m1T (xtT d)⟩] concatenates_S16x128_S16x128_S16x128_S16x128_S16x128_S16x128_S16x128_S16x128_S128x128_d0
  interleaveRows S64x2x128 (shapeCast S64x1x128 (rowsOfParity 0 S64x128 v bitcasts_S128x128_w16_S64x128_w32) shapeCasts_S64x128_S64x1x128)
    (shapeCast S64x1x128 (rowsOfParity 1 S64x128 v bitcasts_S128x128_w16_S64x128_w32) shapeCasts_S64x128_S64x1x128) bitcasts_S64x2x128_w16_S64x1x128_w32

/-- Every eighth pair of rows, as rows. -/
def partT (r : Vec F S8x2x128 .bf16) : FVec F S16x128 .bf16 :=
  interleaveRows S16x128 (shapeCast S8x128 (rowsOfParity 0 S8x1x128 r bitcasts_S8x2x128_w16_S8x1x128_w32) shapeCasts_S8x1x128_S8x128)
    (shapeCast S8x128 (rowsOfParity 1 S8x1x128 r bitcasts_S8x2x128_w16_S8x1x128_w32) shapeCasts_S8x1x128_S8x128) bitcasts_S16x128_w16_S8x128_w32

/-- Eight blocks' largest magnitudes. -/
def amaxT (r0 r1 r2 r3 r4 r5 r6 r7 : Vec F S8x2x128 .bf16) : FVec F S8x128 .f32 :=
  have v : FVec F S16x128 .bf16 :=
    maximumf (maximumf (maximumf (partT r0) (partT r1)) (maximumf (partT r2) (partT r3)))
      (maximumf (maximumf (partT r4) (partT r5)) (maximumf (partT r6) (partT r7)))
  maximumf (extf .f32 (rowsOfParity 1 S8x128 v bitcasts_S16x128_w16_S8x128_w32) bitsLt_bf16_f32)
    (extf .f32 (rowsOfParity 0 S8x128 v bitcasts_S16x128_w16_S8x128_w32) bitsLt_bf16_f32)

/-- The divisors. -/
def azT (a : FVec F S8x128 .f32) : FVec F S8x128 .f32 :=
  select (cmpf .oeq a (broadcast S8x128 (Scalar.ofBits .f32 0x00000000#32))) (broadcast S8x128 (Scalar.ofBits .f32 0x3F800000#32)) a

/-- The divisors as they are stored. -/
def azSt (a : FVec F S8x128 .f32) : Vec F S1x8x128 .f32 := shapeCast S1x8x128 (azT a) shapeCasts_S8x128_S1x8x128

/-- The scales, each twice. -/
def swSt (a : FVec F S8x128 .f32) : Vec F S1x8x2x128 .bf16 :=
  have w : FVec F S1x8x128 .bf16 := shapeCast S1x8x128 (truncf .bf16 (mulf (broadcast S8x128 (Scalar.ofBits .f32 0x3FBC28F6#32)) (reciprocal true (azT a))) bitsLt_bf16_f32) shapeCasts_S8x128_S1x8x128
  interleaveRows S1x8x2x128 (shapeCast S1x8x1x128 w shapeCasts_S1x8x128_S1x8x1x128) (shapeCast S1x8x1x128 w shapeCasts_S1x8x128_S1x8x1x128) bitcasts_S1x8x2x128_w16_S1x8x1x128_w32

/-- The largest magnitudes as they are stored. -/
def atSt (a : FVec F S8x128 .f32) : Vec F S8x128 .f32 := shapeCast S8x128 a shapeCasts_S8x128_S8x128

end Cert.Proof.Stage

end
-- ==== Proof.Pieces.lean ====
/- The lists of stores of the two stages, over any buffers. -/
module

public import proofs.«01_k».proof.Proof.Stage
public import Idealize.ShloMosaic.Lib.Exec
public import proofs.«01_k».proof.Proof.Gen.KernelIdeal.Frame.Runs

@[expose] public section

set_option maxRecDepth 16384

noncomputable section

namespace Cert.Proof.Stage

open Idealize.ShloMosaic Cert.KernelIdeal Cert.KernelIdeal.Gen

variable {F : FTy → Type} [FloatOps F]

/-- The upper half of a tile of weights. -/
def rd0 (a : Memref sig .tc .vmem S256x128 .bf16) (h : a.IsWhole) (x : Vec F S256x128 .bf16) : Vec F S128x128 .bf16 :=
  View.readAt (Elt F) a.view (Rect.unit ![0, 0] S128x128.size inb_S256x128_S128x128_0_0 : Rect S256x128).toLoadRect (h.unread x)

/-- The lower half of a tile of weights. -/
def rd1 (a : Memref sig .tc .vmem S256x128 .bf16) (h : a.IsWhole) (x : Vec F S256x128 .bf16) : Vec F S128x128 .bf16 :=
  View.readAt (Elt F) a.view (Rect.unit ![128, 0] S128x128.size inb_S256x128_S128x128_128_0 : Rect S256x128).toLoadRect (h.unread x)

/-- The first eight rows of the table. -/
def tb0 (a : Memref sig .tc .vmem S16x128 .f32) (h : a.IsWhole) (x : Vec F S16x128 .f32) : Vec F S8x128 .f32 :=
  View.readAt (Elt F) a.view (Rect.unit ![0, 0] S8x128.size inb_S16x128_S8x128_0_0 : Rect S16x128).toLoadRect (h.unread x)

/-- The last eight rows of the table. -/
def tb1 (a : Memref sig .tc .vmem S16x128 .f32) (h : a.IsWhole) (x : Vec F S16x128 .f32) : Vec F S8x128 .f32 :=
  View.readAt (Elt F) a.view (Rect.unit ![8, 0] S8x128.size inb_S16x128_S8x128_8_0 : Rect S16x128).toLoadRect (h.unread x)

/-- The packing weights. -/
def pk (a : Memref sig .tc .vmem S64x256 .bf16) (h : a.IsWhole) (x : Vec F S64x256 .bf16) : Vec F S64x256 .bf16 :=
  View.readAt (Elt F) a.view (Rect.unit ![0, 0] S64x256.size inb_S64x256_S64x256_0_0).toLoadRect (h.unread x)

/-- Eight tiles. -/
abbrev Tiles (F : FTy → Type) := Fin 8 → Vec F S128x128 .bf16

/-- The stores of a chunk's transposed tiles. -/
def sL (X0 X1 : Tiles F) (T : List (View.Piece (Elt F) S2x512x2x128 .bf16)) : List (View.Piece (Elt F) S2x512x2x128 .bf16) :=
  ⟨Rect.unit ![1, 0, 0, 0] S1x512x2x128.size inb_S2x512x2x128_S1x512x2x128_1_0_0_0, sSt (X1 0) (X1 1) (X1 2) (X1 3) (X1 4) (X1 5) (X1 6) (X1 7)⟩ ::
  ⟨Rect.unit ![0, 0, 0, 0] S1x512x2x128.size inb_S2x512x2x128_S1x512x2x128_0_0_0_0, sSt (X0 0) (X0 1) (X0 2) (X0 3) (X0 4) (X0 5) (X0 6) (X0 7)⟩ :: T

/-- The stores of a chunk's folded magnitudes. -/
def pmL (X0 X1 : Tiles F) (T : List (View.Piece (Elt F) S256x2x128 .bf16)) : List (View.Piece (Elt F) S256x2x128 .bf16) :=
  ⟨Rect.unit ![192, 0, 0] S64x2x128.size inb_S256x2x128_S64x2x128_192_0_0, pmSt (X1 4) (X1 5) (X1 6) (X1 7)⟩ ::
  ⟨Rect.unit ![64, 0, 0] S64x2x128.size inb_S256x2x128_S64x2x128_64_0_0, pmSt (X1 0) (X1 1) (X1 2) (X1 3)⟩ ::
  ⟨Rect.unit ![128, 0, 0] S64x2x128.size inb_S256x2x128_S64x2x128_128_0_0, pmSt (X0 4) (X0 5) (X0 6) (X0 7)⟩ ::
  ⟨Rect.unit ![0, 0, 0] S64x2x128.size inb_S256x2x128_S64x2x128_0_0_0, pmSt (X0 0) (X0 1) (X0 2) (X0 3)⟩ :: T

/-- The largest magnitudes of blocks 0 to 7 of a chunk, rows 0 to 127. -/
def am0 (v : View sig .tc .vmem S256x2x128 .bf16) (L : List (View.Piece (Elt F) S256x2x128 .bf16)) : FVec F S8x128 .f32 :=
  amaxT (v.readCov L ⟨![0, 0, 0], S8x2x128.size, ![8, 1, 1], inb_S256x2x128_S8x2x128_0_0_0_s_8_1_1⟩) (v.readCov L ⟨![1, 0, 0], S8x2x128.size, ![8, 1, 1], inb_S256x2x128_S8x2x128_1_0_0_s_8_1_1⟩) (v.readCov L ⟨![2, 0, 0], S8x2x128.size, ![8, 1, 1], inb_S256x2x128_S8x2x128_2_0_0_s_8_1_1⟩) (v.readCov L ⟨![3, 0, 0], S8x2x128.size, ![8, 1, 1], inb_S256x2x128_S8x2x128_3_0_0_s_8_1_1⟩) (v.readCov L ⟨![4, 0, 0], S8x2x128.size, ![8, 1, 1], inb_S256x2x128_S8x2x128_4_0_0_s_8_1_1⟩) (v.readCov L ⟨![5, 0, 0], S8x2x128.size, ![8, 1, 1], inb_S256x2x128_S8x2x128_5_0_0_s_8_1_1⟩) (v.readCov L ⟨![6, 0, 0], S8x2x128.size, ![8, 1, 1], inb_S256x2x128_S8x2x128_6_0_0_s_8_1_1⟩) (v.readCov L ⟨![7, 0, 0], S8x2x128.size, ![8, 1, 1], inb_S256x2x128_S8x2x128_7_0_0_s_8_1_1⟩)

/-- The largest magnitudes of blocks 0 to 7 of a chunk, rows 128 to 255. -/
def am1 (v : View sig .tc .vmem S256x2x128 .bf16) (L : List (View.Piece (Elt F) S256x2x128 .bf16)) : FVec F S8x128 .f32 :=
  amaxT (v.readCov L ⟨![64, 0, 0], S8x2x128.size, ![8, 1, 1], inb_S256x2x128_S8x2x128_64_0_0_s_8_1_1⟩) (v.readCov L ⟨![65, 0, 0], S8x2x128.size, ![8, 1, 1], inb_S256x2x128_S8x2x128_65_0_0_s_8_1_1⟩) (v.readCov L ⟨![66, 0, 0], S8x2x128.size, ![8, 1, 1], inb_S256x2x128_S8x2x128_66_0_0_s_8_1_1⟩) (v.readCov L ⟨![67, 0, 0], S8x2x128.size, ![8, 1, 1], inb_S256x2x128_S8x2x128_67_0_0_s_8_1_1⟩) (v.readCov L ⟨![68, 0, 0], S8x2x128.size, ![8, 1, 1], inb_S256x2x128_S8x2x128_68_0_0_s_8_1_1⟩) (v.readCov L ⟨![69, 0, 0], S8x2x128.size, ![8, 1, 1], inb_S256x2x128_S8x2x128_69_0_0_s_8_1_1⟩) (v.readCov L ⟨![70, 0, 0], S8x2x128.size, ![8, 1, 1], inb_S256x2x128_S8x2x128_70_0_0_s_8_1_1⟩) (v.readCov L ⟨![71, 0, 0], S8x2x128.size, ![8, 1, 1], inb_S256x2x128_S8x2x128_71_0_0_s_8_1_1⟩)

/-- The largest magnitudes of blocks 8 to 15 of a chunk, rows 0 to 127. -/
def am2 (v : View sig .tc .vmem S256x2x128 .bf16) (L : List (View.Piece (Elt F) S256x2x128 .bf16)) : FVec F S8x128 .f32 :=
  amaxT (v.readCov L ⟨![128, 0, 0], S8x2x128.size, ![8, 1, 1], inb_S256x2x128_S8x2x128_128_0_0_s_8_1_1⟩) (v.readCov L ⟨![129, 0, 0], S8x2x128.size, ![8, 1, 1], inb_S256x2x128_S8x2x128_129_0_0_s_8_1_1⟩) (v.readCov L ⟨![130, 0, 0], S8x2x128.size, ![8, 1, 1], inb_S256x2x128_S8x2x128_130_0_0_s_8_1_1⟩) (v.readCov L ⟨![131, 0, 0], S8x2x128.size, ![8, 1, 1], inb_S256x2x128_S8x2x128_131_0_0_s_8_1_1⟩) (v.readCov L ⟨![132, 0, 0], S8x2x128.size, ![8, 1, 1], inb_S256x2x128_S8x2x128_132_0_0_s_8_1_1⟩) (v.readCov L ⟨![133, 0, 0], S8x2x128.size, ![8, 1, 1], inb_S256x2x128_S8x2x128_133_0_0_s_8_1_1⟩) (v.readCov L ⟨![134, 0, 0], S8x2x128.size, ![8, 1, 1], inb_S256x2x128_S8x2x128_134_0_0_s_8_1_1⟩) (v.readCov L ⟨![135, 0, 0], S8x2x128.size, ![8, 1, 1], inb_S256x2x128_S8x2x128_135_0_0_s_8_1_1⟩)

/-- The largest magnitudes of blocks 8 to 15 of a chunk, rows 128 to 255. -/
def am3 (v : View sig .tc .vmem S256x2x128 .bf16) (L : List (View.Piece (Elt F) S256x2x128 .bf16)) : FVec F S8x128 .f32 :=
  amaxT (v.readCov L ⟨![192, 0, 0], S8x2x128.size, ![8, 1, 1], inb_S256x2x128_S8x2x128_192_0_0_s_8_1_1⟩) (v.readCov L ⟨![193, 0, 0], S8x2x128.size, ![8, 1, 1], inb_S256x2x128_S8x2x128_193_0_0_s_8_1_1⟩) (v.readCov L ⟨![194, 0, 0], S8x2x128.size, ![8, 1, 1], inb_S256x2x128_S8x2x128_194_0_0_s_8_1_1⟩) (v.readCov L ⟨![195, 0, 0], S8x2x128.size, ![8, 1, 1], inb_S256x2x128_S8x2x128_195_0_0_s_8_1_1⟩) (v.readCov L ⟨![196, 0, 0], S8x2x128.size, ![8, 1, 1], inb_S256x2x128_S8x2x128_196_0_0_s_8_1_1⟩) (v.readCov L ⟨![197, 0, 0], S8x2x128.size, ![8, 1, 1], inb_S256x2x128_S8x2x128_197_0_0_s_8_1_1⟩) (v.readCov L ⟨![198, 0, 0], S8x2x128.size, ![8, 1, 1], inb_S256x2x128_S8x2x128_198_0_0_s_8_1_1⟩) (v.readCov L ⟨![199, 0, 0], S8x2x128.size, ![8, 1, 1], inb_S256x2x128_S8x2x128_199_0_0_s_8_1_1⟩)

/-- The stores of a chunk's divisors. -/
def azL (v : View sig .tc .vmem S256x2x128 .bf16) (L : List (View.Piece (Elt F) S256x2x128 .bf16)) (T : List (View.Piece (Elt F) S2x16x128 .f32)) :
    List (View.Piece (Elt F) S2x16x128 .f32) :=
  ⟨Rect.unit ![1, 8, 0] S1x8x128.size inb_S2x16x128_S1x8x128_1_8_0, azSt (am3 v L)⟩ ::
  ⟨Rect.unit ![0, 8, 0] S1x8x128.size inb_S2x16x128_S1x8x128_0_8_0, azSt (am2 v L)⟩ ::
  ⟨Rect.unit ![1, 0, 0] S1x8x128.size inb_S2x16x128_S1x8x128_1_0_0, azSt (am1 v L)⟩ ::
  ⟨Rect.unit ![0, 0, 0] S1x8x128.size inb_S2x16x128_S1x8x128_0_0_0, azSt (am0 v L)⟩ ::
  T

/-- The stores of a chunk's scales. -/
def swL (v : View sig .tc .vmem S256x2x128 .bf16) (L : List (View.Piece (Elt F) S256x2x128 .bf16)) (T : List (View.Piece (Elt F) S2x16x2x128 .bf16)) :
    List (View.Piece (Elt F) S2x16x2x128 .bf16) :=
  ⟨Rect.unit ![1, 8, 0, 0] S1x8x2x128.size inb_S2x16x2x128_S1x8x2x128_1_8_0_0, swSt (am3 v L)⟩ ::
  ⟨Rect.unit ![0, 8, 0, 0] S1x8x2x128.size inb_S2x16x2x128_S1x8x2x128_0_8_0_0, swSt (am2 v L)⟩ ::
  ⟨Rect.unit ![1, 0, 0, 0] S1x8x2x128.size inb_S2x16x2x128_S1x8x2x128_1_0_0_0, swSt (am1 v L)⟩ ::
  ⟨Rect.unit ![0, 0, 0, 0] S1x8x2x128.size inb_S2x16x2x128_S1x8x2x128_0_0_0_0, swSt (am0 v L)⟩ ::
  T

/-- The stores of chunk 0's largest magnitudes, rows 0 to 127. -/
def atL0_0 (v : View sig .tc .vmem S256x2x128 .bf16) (L : List (View.Piece (Elt F) S256x2x128 .bf16)) (T : List (View.Piece (Elt F) S64x128 .f32)) :
    List (View.Piece (Elt F) S64x128 .f32) :=
  ⟨Rect.unit ![8, 0] S8x128.size inb_S64x128_S8x128_8_0, atSt (am2 v L)⟩ :: ⟨Rect.unit ![0, 0] S8x128.size inb_S64x128_S8x128_0_0, atSt (am0 v L)⟩ :: T

/-- The stores of chunk 1's largest magnitudes, rows 0 to 127. -/
def atL0_1 (v : View sig .tc .vmem S256x2x128 .bf16) (L : List (View.Piece (Elt F) S256x2x128 .bf16)) (T : List (View.Piece (Elt F) S64x128 .f32)) :
    List (View.Piece (Elt F) S64x128 .f32) :=
  ⟨Rect.unit ![24, 0] S8x128.size inb_S64x128_S8x128_24_0, atSt (am2 v L)⟩ :: ⟨Rect.unit ![16, 0] S8x128.size inb_S64x128_S8x128_16_0, atSt (am0 v L)⟩ :: T

/-- The stores of chunk 2's largest magnitudes, rows 0 to 127. -/
def atL0_2 (v : View sig .tc .vmem S256x2x128 .bf16) (L : List (View.Piece (Elt F) S256x2x128 .bf16)) (T : List (View.Piece (Elt F) S64x128 .f32)) :
    List (View.Piece (Elt F) S64x128 .f32) :=
  ⟨Rect.unit ![40, 0] S8x128.size inb_S64x128_S8x128_40_0, atSt (am2 v L)⟩ :: ⟨Rect.unit ![32, 0] S8x128.size inb_S64x128_S8x128_32_0, atSt (am0 v L)⟩ :: T

/-- The stores of chunk 3's largest magnitudes, rows 0 to 127. -/
def atL0_3 (v : View sig .tc .vmem S256x2x128 .bf16) (L : List (View.Piece (Elt F) S256x2x128 .bf16)) (T : List (View.Piece (Elt F) S64x128 .f32)) :
    List (View.Piece (Elt F) S64x128 .f32) :=
  ⟨Rect.unit ![56, 0] S8x128.size inb_S64x128_S8x128_56_0, atSt (am2 v L)⟩ :: ⟨Rect.unit ![48, 0] S8x128.size inb_S64x128_S8x128_48_0, atSt (am0 v L)⟩ :: T

/-- The stores of chunk 0's largest magnitudes, rows 128 to 255. -/
def atL1_0 (v : View sig .tc .vmem S256x2x128 .bf16) (L : List (View.Piece (Elt F) S256x2x128 .bf16)) (T : List (View.Piece (Elt F) S64x128 .f32)) :
    List (View.Piece (Elt F) S64x128 .f32) :=
  ⟨Rect.unit ![8, 0] S8x128.size inb_S64x128_S8x128_8_0, atSt (am3 v L)⟩ :: ⟨Rect.unit ![0, 0] S8x128.size inb_S64x128_S8x128_0_0, atSt (am1 v L)⟩ :: T

/-- The stores of chunk 1's largest magnitudes, rows 128 to 255. -/
def atL1_1 (v : View sig .tc .vmem S256x2x128 .bf16) (L : List (View.Piece (Elt F) S256x2x128 .bf16)) (T : List (View.Piece (Elt F) S64x128 .f32)) :
    List (View.Piece (Elt F) S64x128 .f32) :=
  ⟨Rect.unit ![24, 0] S8x128.size inb_S64x128_S8x128_24_0, atSt (am3 v L)⟩ :: ⟨Rect.unit ![16, 0] S8x128.size inb_S64x128_S8x128_16_0, atSt (am1 v L)⟩ :: T

/-- The stores of chunk 2's largest magnitudes, rows 128 to 255. -/
def atL1_2 (v : View sig .tc .vmem S256x2x128 .bf16) (L : List (View.Piece (Elt F) S256x2x128 .bf16)) (T : List (View.Piece (Elt F) S64x128 .f32)) :
    List (View.Piece (Elt F) S64x128 .f32) :=
  ⟨Rect.unit ![40, 0] S8x128.size inb_S64x128_S8x128_40_0, atSt (am3 v L)⟩ :: ⟨Rect.unit ![32, 0] S8x128.size inb_S64x128_S8x128_32_0, atSt (am1 v L)⟩ :: T

/-- The stores of chunk 3's largest magnitudes, rows 128 to 255. -/
def atL1_3 (v : View sig .tc .vmem S256x2x128 .bf16) (L : List (View.Piece (Elt F) S256x2x128 .bf16)) (T : List (View.Piece (Elt F) S64x128 .f32)) :
    List (View.Piece (Elt F) S64x128 .f32) :=
  ⟨Rect.unit ![56, 0] S8x128.size inb_S64x128_S8x128_56_0, atSt (am3 v L)⟩ :: ⟨Rect.unit ![48, 0] S8x128.size inb_S64x128_S8x128_48_0, atSt (am1 v L)⟩ :: T

/-- The words of tile 0 of a chunk read back from what stage A stored. -/
def wt0 (c0 c1 : FVec F S8x128 .f32) (pack : Vec F S64x256 .bf16) (vs : View sig .tc .vmem S2x512x2x128 .bf16) (Ls : List (View.Piece (Elt F) S2x512x2x128 .bf16))
    (vw : View sig .tc .vmem S2x16x2x128 .bf16) (Lw : List (View.Piece (Elt F) S2x16x2x128 .bf16)) (vz : View sig .tc .vmem S2x16x128 .f32) (Lz : List (View.Piece (Elt F) S2x16x128 .f32)) : IVec S32x256 32 :=
  wtile c0 c1 pack (vs.readCov Ls (Rect.unit ![0, 0, 0, 0] S1x128x2x128.size inb_S2x512x2x128_S1x128x2x128_0_0_0_0 : Rect S2x512x2x128).toLoadRect) (vw.readCov Lw (Rect.unit ![0, 0, 0, 0] S1x4x2x128.size inb_S2x16x2x128_S1x4x2x128_0_0_0_0 : Rect S2x16x2x128).toLoadRect) (vz.readCov Lz (Rect.unit ![0, 0, 0] S1x4x128.size inb_S2x16x128_S1x4x128_0_0_0 : Rect S2x16x128).toLoadRect)
    (vs.readCov Ls (Rect.unit ![1, 0, 0, 0] S1x128x2x128.size inb_S2x512x2x128_S1x128x2x128_1_0_0_0 : Rect S2x512x2x128).toLoadRect) (vw.readCov Lw (Rect.unit ![1, 0, 0, 0] S1x4x2x128.size inb_S2x16x2x128_S1x4x2x128_1_0_0_0 : Rect S2x16x2x128).toLoadRect) (vz.readCov Lz (Rect.unit ![1, 0, 0] S1x4x128.size inb_S2x16x128_S1x4x128_1_0_0 : Rect S2x16x128).toLoadRect)

/-- The words of tile 1 of a chunk read back from what stage A stored. -/
def wt1 (c0 c1 : FVec F S8x128 .f32) (pack : Vec F S64x256 .bf16) (vs : View sig .tc .vmem S2x512x2x128 .bf16) (Ls : List (View.Piece (Elt F) S2x512x2x128 .bf16))
    (vw : View sig .tc .vmem S2x16x2x128 .bf16) (Lw : List (View.Piece (Elt F) S2x16x2x128 .bf16)) (vz : View sig .tc .vmem S2x16x128 .f32) (Lz : List (View.Piece (Elt F) S2x16x128 .f32)) : IVec S32x256 32 :=
  wtile c0 c1 pack (vs.readCov Ls (Rect.unit ![0, 128, 0, 0] S1x128x2x128.size inb_S2x512x2x128_S1x128x2x128_0_128_0_0 : Rect S2x512x2x128).toLoadRect) (vw.readCov Lw (Rect.unit ![0, 4, 0, 0] S1x4x2x128.size inb_S2x16x2x128_S1x4x2x128_0_4_0_0 : Rect S2x16x2x128).toLoadRect) (vz.readCov Lz (Rect.unit ![0, 4, 0] S1x4x128.size inb_S2x16x128_S1x4x128_0_4_0 : Rect S2x16x128).toLoadRect)
    (vs.readCov Ls (Rect.unit ![1, 128, 0, 0] S1x128x2x128.size inb_S2x512x2x128_S1x128x2x128_1_128_0_0 : Rect S2x512x2x128).toLoadRect) (vw.readCov Lw (Rect.unit ![1, 4, 0, 0] S1x4x2x128.size inb_S2x16x2x128_S1x4x2x128_1_4_0_0 : Rect S2x16x2x128).toLoadRect) (vz.readCov Lz (Rect.unit ![1, 4, 0] S1x4x128.size inb_S2x16x128_S1x4x128_1_4_0 : Rect S2x16x128).toLoadRect)

/-- The words of tile 2 of a chunk read back from what stage A stored. -/
def wt2 (c0 c1 : FVec F S8x128 .f32) (pack : Vec F S64x256 .bf16) (vs : View sig .tc .vmem S2x512x2x128 .bf16) (Ls : List (View.Piece (Elt F) S2x512x2x128 .bf16))
    (vw : View sig .tc .vmem S2x16x2x128 .bf16) (Lw : List (View.Piece (Elt F) S2x16x2x128 .bf16)) (vz : View sig .tc .vmem S2x16x128 .f32) (Lz : List (View.Piece (Elt F) S2x16x128 .f32)) : IVec S32x256 32 :=
  wtile c0 c1 pack (vs.readCov Ls (Rect.unit ![0, 256, 0, 0] S1x128x2x128.size inb_S2x512x2x128_S1x128x2x128_0_256_0_0 : Rect S2x512x2x128).toLoadRect) (vw.readCov Lw (Rect.unit ![0, 8, 0, 0] S1x4x2x128.size inb_S2x16x2x128_S1x4x2x128_0_8_0_0 : Rect S2x16x2x128).toLoadRect) (vz.readCov Lz (Rect.unit ![0, 8, 0] S1x4x128.size inb_S2x16x128_S1x4x128_0_8_0 : Rect S2x16x128).toLoadRect)
    (vs.readCov Ls (Rect.unit ![1, 256, 0, 0] S1x128x2x128.size inb_S2x512x2x128_S1x128x2x128_1_256_0_0 : Rect S2x512x2x128).toLoadRect) (vw.readCov Lw (Rect.unit ![1, 8, 0, 0] S1x4x2x128.size inb_S2x16x2x128_S1x4x2x128_1_8_0_0 : Rect S2x16x2x128).toLoadRect) (vz.readCov Lz (Rect.unit ![1, 8, 0] S1x4x128.size inb_S2x16x128_S1x4x128_1_8_0 : Rect S2x16x128).toLoadRect)

/-- The words of tile 3 of a chunk read back from what stage A stored. -/
def wt3 (c0 c1 : FVec F S8x128 .f32) (pack : Vec F S64x256 .bf16) (vs : View sig .tc .vmem S2x512x2x128 .bf16) (Ls : List (View.Piece (Elt F) S2x512x2x128 .bf16))
    (vw : View sig .tc .vmem S2x16x2x128 .bf16) (Lw : List (View.Piece (Elt F) S2x16x2x128 .bf16)) (vz : View sig .tc .vmem S2x16x128 .f32) (Lz : List (View.Piece (Elt F) S2x16x128 .f32)) : IVec S32x256 32 :=
  wtile c0 c1 pack (vs.readCov Ls (Rect.unit ![0, 384, 0, 0] S1x128x2x128.size inb_S2x512x2x128_S1x128x2x128_0_384_0_0 : Rect S2x512x2x128).toLoadRect) (vw.readCov Lw (Rect.unit ![0, 12, 0, 0] S1x4x2x128.size inb_S2x16x2x128_S1x4x2x128_0_12_0_0 : Rect S2x16x2x128).toLoadRect) (vz.readCov Lz (Rect.unit ![0, 12, 0] S1x4x128.size inb_S2x16x128_S1x4x128_0_12_0 : Rect S2x16x128).toLoadRect)
    (vs.readCov Ls (Rect.unit ![1, 384, 0, 0] S1x128x2x128.size inb_S2x512x2x128_S1x128x2x128_1_384_0_0 : Rect S2x512x2x128).toLoadRect) (vw.readCov Lw (Rect.unit ![1, 12, 0, 0] S1x4x2x128.size inb_S2x16x2x128_S1x4x2x128_1_12_0_0 : Rect S2x16x2x128).toLoadRect) (vz.readCov Lz (Rect.unit ![1, 12, 0] S1x4x128.size inb_S2x16x128_S1x4x128_1_12_0 : Rect S2x16x128).toLoadRect)

/-- A chunk's words read back from what stage A stored. -/
def wst (c0 c1 : FVec F S8x128 .f32) (pack : Vec F S64x256 .bf16) (vs : View sig .tc .vmem S2x512x2x128 .bf16) (Ls : List (View.Piece (Elt F) S2x512x2x128 .bf16))
    (vw : View sig .tc .vmem S2x16x2x128 .bf16) (Lw : List (View.Piece (Elt F) S2x16x2x128 .bf16)) (vz : View sig .tc .vmem S2x16x128 .f32) (Lz : List (View.Piece (Elt F) S2x16x128 .f32)) : IVec S128x256 32 :=
  Words.stackT (wt0 c0 c1 pack vs Ls vw Lw vz Lz) (wt1 c0 c1 pack vs Ls vw Lw vz Lz) (wt2 c0 c1 pack vs Ls vw Lw vz Lz) (wt3 c0 c1 pack vs Ls vw Lw vz Lz)

/-- The words of tile 0 of a chunk read from what the point before left. -/
def wr0 (c0 c1 : FVec F S8x128 .f32) (pack : Vec F S64x256 .bf16) (ms : Memref sig .tc .vmem S2x512x2x128 .bf16) (hs : ms.IsWhole) (xs : Vec F S2x512x2x128 .bf16)
    (mw : Memref sig .tc .vmem S2x16x2x128 .bf16) (hw : mw.IsWhole) (xw : Vec F S2x16x2x128 .bf16) (mz : Memref sig .tc .vmem S2x16x128 .f32) (hz : mz.IsWhole) (xz : Vec F S2x16x128 .f32) : IVec S32x256 32 :=
  wtile c0 c1 pack (View.readAt (Elt F) ms.view (Rect.unit ![0, 0, 0, 0] S1x128x2x128.size inb_S2x512x2x128_S1x128x2x128_0_0_0_0 : Rect S2x512x2x128).toLoadRect (hs.unread xs)) (View.readAt (Elt F) mw.view (Rect.unit ![0, 0, 0, 0] S1x4x2x128.size inb_S2x16x2x128_S1x4x2x128_0_0_0_0 : Rect S2x16x2x128).toLoadRect (hw.unread xw)) (View.readAt (Elt F) mz.view (Rect.unit ![0, 0, 0] S1x4x128.size inb_S2x16x128_S1x4x128_0_0_0 : Rect S2x16x128).toLoadRect (hz.unread xz))
    (View.readAt (Elt F) ms.view (Rect.unit ![1, 0, 0, 0] S1x128x2x128.size inb_S2x512x2x128_S1x128x2x128_1_0_0_0 : Rect S2x512x2x128).toLoadRect (hs.unread xs)) (View.readAt (Elt F) mw.view (Rect.unit ![1, 0, 0, 0] S1x4x2x128.size inb_S2x16x2x128_S1x4x2x128_1_0_0_0 : Rect S2x16x2x128).toLoadRect (hw.unread xw)) (View.readAt (Elt F) mz.view (Rect.unit ![1, 0, 0] S1x4x128.size inb_S2x16x128_S1x4x128_1_0_0 : Rect S2x16x128).toLoadRect (hz.unread xz))

/-- The words of tile 1 of a chunk read from what the point before left. -/
def wr1 (c0 c1 : FVec F S8x128 .f32) (pack : Vec F S64x256 .bf16) (ms : Memref sig .tc .vmem S2x512x2x128 .bf16) (hs : ms.IsWhole) (xs : Vec F S2x512x2x128 .bf16)
    (mw : Memref sig .tc .vmem S2x16x2x128 .bf16) (hw : mw.IsWhole) (xw : Vec F S2x16x2x128 .bf16) (mz : Memref sig .tc .vmem S2x16x128 .f32) (hz : mz.IsWhole) (xz : Vec F S2x16x128 .f32) : IVec S32x256 32 :=
  wtile c0 c1 pack (View.readAt (Elt F) ms.view (Rect.unit ![0, 128, 0, 0] S1x128x2x128.size inb_S2x512x2x128_S1x128x2x128_0_128_0_0 : Rect S2x512x2x128).toLoadRect (hs.unread xs)) (View.readAt (Elt F) mw.view (Rect.unit ![0, 4, 0, 0] S1x4x2x128.size inb_S2x16x2x128_S1x4x2x128_0_4_0_0 : Rect S2x16x2x128).toLoadRect (hw.unread xw)) (View.readAt (Elt F) mz.view (Rect.unit ![0, 4, 0] S1x4x128.size inb_S2x16x128_S1x4x128_0_4_0 : Rect S2x16x128).toLoadRect (hz.unread xz))
    (View.readAt (Elt F) ms.view (Rect.unit ![1, 128, 0, 0] S1x128x2x128.size inb_S2x512x2x128_S1x128x2x128_1_128_0_0 : Rect S2x512x2x128).toLoadRect (hs.unread xs)) (View.readAt (Elt F) mw.view (Rect.unit ![1, 4, 0, 0] S1x4x2x128.size inb_S2x16x2x128_S1x4x2x128_1_4_0_0 : Rect S2x16x2x128).toLoadRect (hw.unread xw)) (View.readAt (Elt F) mz.view (Rect.unit ![1, 4, 0] S1x4x128.size inb_S2x16x128_S1x4x128_1_4_0 : Rect S2x16x128).toLoadRect (hz.unread xz))

/-- The words of tile 2 of a chunk read from what the point before left. -/
def wr2 (c0 c1 : FVec F S8x128 .f32) (pack : Vec F S64x256 .bf16) (ms : Memref sig .tc .vmem S2x512x2x128 .bf16) (hs : ms.IsWhole) (xs : Vec F S2x512x2x128 .bf16)
    (mw : Memref sig .tc .vmem S2x16x2x128 .bf16) (hw : mw.IsWhole) (xw : Vec F S2x16x2x128 .bf16) (mz : Memref sig .tc .vmem S2x16x128 .f32) (hz : mz.IsWhole) (xz : Vec F S2x16x128 .f32) : IVec S32x256 32 :=
  wtile c0 c1 pack (View.readAt (Elt F) ms.view (Rect.unit ![0, 256, 0, 0] S1x128x2x128.size inb_S2x512x2x128_S1x128x2x128_0_256_0_0 : Rect S2x512x2x128).toLoadRect (hs.unread xs)) (View.readAt (Elt F) mw.view (Rect.unit ![0, 8, 0, 0] S1x4x2x128.size inb_S2x16x2x128_S1x4x2x128_0_8_0_0 : Rect S2x16x2x128).toLoadRect (hw.unread xw)) (View.readAt (Elt F) mz.view (Rect.unit ![0, 8, 0] S1x4x128.size inb_S2x16x128_S1x4x128_0_8_0 : Rect S2x16x128).toLoadRect (hz.unread xz))
    (View.readAt (Elt F) ms.view (Rect.unit ![1, 256, 0, 0] S1x128x2x128.size inb_S2x512x2x128_S1x128x2x128_1_256_0_0 : Rect S2x512x2x128).toLoadRect (hs.unread xs)) (View.readAt (Elt F) mw.view (Rect.unit ![1, 8, 0, 0] S1x4x2x128.size inb_S2x16x2x128_S1x4x2x128_1_8_0_0 : Rect S2x16x2x128).toLoadRect (hw.unread xw)) (View.readAt (Elt F) mz.view (Rect.unit ![1, 8, 0] S1x4x128.size inb_S2x16x128_S1x4x128_1_8_0 : Rect S2x16x128).toLoadRect (hz.unread xz))

/-- The words of tile 3 of a chunk read from what the point before left. -/
def wr3 (c0 c1 : FVec F S8x128 .f32) (pack : Vec F S64x256 .bf16) (ms : Memref sig .tc .vmem S2x512x2x128 .bf16) (hs : ms.IsWhole) (xs : Vec F S2x512x2x128 .bf16)
    (mw : Memref sig .tc .vmem S2x16x2x128 .bf16) (hw : mw.IsWhole) (xw : Vec F S2x16x2x128 .bf16) (mz : Memref sig .tc .vmem S2x16x128 .f32) (hz : mz.IsWhole) (xz : Vec F S2x16x128 .f32) : IVec S32x256 32 :=
  wtile c0 c1 pack (View.readAt (Elt F) ms.view (Rect.unit ![0, 384, 0, 0] S1x128x2x128.size inb_S2x512x2x128_S1x128x2x128_0_384_0_0 : Rect S2x512x2x128).toLoadRect (hs.unread xs)) (View.readAt (Elt F) mw.view (Rect.unit ![0, 12, 0, 0] S1x4x2x128.size inb_S2x16x2x128_S1x4x2x128_0_12_0_0 : Rect S2x16x2x128).toLoadRect (hw.unread xw)) (View.readAt (Elt F) mz.view (Rect.unit ![0, 12, 0] S1x4x128.size inb_S2x16x128_S1x4x128_0_12_0 : Rect S2x16x128).toLoadRect (hz.unread xz))
    (View.readAt (Elt F) ms.view (Rect.unit ![1, 384, 0, 0] S1x128x2x128.size inb_S2x512x2x128_S1x128x2x128_1_384_0_0 : Rect S2x512x2x128).toLoadRect (hs.unread xs)) (View.readAt (Elt F) mw.view (Rect.unit ![1, 12, 0, 0] S1x4x2x128.size inb_S2x16x2x128_S1x4x2x128_1_12_0_0 : Rect S2x16x2x128).toLoadRect (hw.unread xw)) (View.readAt (Elt F) mz.view (Rect.unit ![1, 12, 0] S1x4x128.size inb_S2x16x128_S1x4x128_1_12_0 : Rect S2x16x128).toLoadRect (hz.unread xz))

/-- A chunk's words read from what the point before left. -/
def wrst (c0 c1 : FVec F S8x128 .f32) (pack : Vec F S64x256 .bf16) (ms : Memref sig .tc .vmem S2x512x2x128 .bf16) (hs : ms.IsWhole) (xs : Vec F S2x512x2x128 .bf16)
    (mw : Memref sig .tc .vmem S2x16x2x128 .bf16) (hw : mw.IsWhole) (xw : Vec F S2x16x2x128 .bf16) (mz : Memref sig .tc .vmem S2x16x128 .f32) (hz : mz.IsWhole) (xz : Vec F S2x16x128 .f32) : IVec S128x256 32 :=
  Words.stackT (wr0 c0 c1 pack ms hs xs mw hw xw mz hz xz) (wr1 c0 c1 pack ms hs xs mw hw xw mz hz xz) (wr2 c0 c1 pack ms hs xs mw hw xw mz hz xz) (wr3 c0 c1 pack ms hs xs mw hw xw mz hz xz)

/-- The largest magnitudes read whole once the later chunks' rows are stored over what the point before left. -/
def abrd (a : Memref sig .tc .vmem S64x128 .f32) (h : a.IsWhole) (x : Vec F S64x128 .f32) (L : List (View.Piece (Elt F) S64x128 .f32)) : FVec F S1x64x128 .f32 :=
  shapeCast S1x64x128 (View.readAt (Elt F) a.view (Rect.unit ![0, 0] S64x128.size inb_S64x128_S64x128_0_0).toLoadRect (a.view.writes (Elt F) (h.unread x) L) : Vec F S64x128 .f32) shapeCasts_S64x128_S1x64x128

end Cert.Proof.Stage

end
-- ==== Proof.LinkA.lean ====
/- The lists of stores a run of the body leaves, case at the first point, in the two stages' words. -/
module

public import proofs.«01_k».proof.Proof.Pieces
public import proofs.«01_k».proof.Proof.Gen.KernelIdeal.Frame.RunA

@[expose] public section

set_option maxRecDepth 65536
set_option maxHeartbeats 4000000

noncomputable section

namespace Cert.Proof.Link

open Idealize.ShloMosaic Idealize.ShloMosaic.TcCoe Idealize.ShloMosaic.Tactic Cert.KernelIdeal Cert.KernelIdeal.Gen Cert.Proof.Stage

variable {F : FTy → Type} [FloatOps F]

/-- What is carried to the next point. -/
theorem runA_s0  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.1 = (sL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] ((kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.1.drop 2)) := by
  sl_kernel_rfl

/-- What is carried to the next point. -/
theorem runA_s4  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.1 = (atL0_0 arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.1.drop 2)) := by
  sl_kernel_rfl

/-- What is carried to the next point. -/
theorem runA_s5  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.1 = (atL1_0 arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.1.drop 2)) := by
  sl_kernel_rfl

/-- What is carried to the next point. -/
theorem runA_s6  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.1 = (azL arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.1.drop 4)) := by
  sl_kernel_rfl

/-- What is carried to the next point. -/
theorem runA_s8  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.2.1 = (swL arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.2.1.drop 4)) := by
  sl_kernel_rfl

end Cert.Proof.Link

end
-- ==== Proof.LinkB.lean ====
/- The lists of stores a run of the body leaves, case at the points after the first, in the two stages' words. -/
module

public import proofs.«01_k».proof.Proof.Pieces
public import proofs.«01_k».proof.Proof.Ideal.RunB

@[expose] public section

set_option maxRecDepth 65536
set_option maxHeartbeats 4000000

noncomputable section

namespace Cert.Proof.Link

open Idealize.ShloMosaic Idealize.ShloMosaic.TcCoe Idealize.ShloMosaic.Tactic Cert.KernelIdeal Cert.KernelIdeal.Gen Cert.KernelIdeal.Hand Cert.Proof.Stage

variable {F : FTy → Type} [FloatOps F]

/-- The words. -/
theorem runB_words  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).1 = [⟨Rect.unit ![128, 384] S128x128.size inb_S256x512_S128x128_128_384, wout1 (wst (tb0 arg33 harg33 x32) (tb1 arg33 harg33 x32) (pk arg35 harg35 x34) arg40.view (sL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (sL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) arg48.view (swL arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (swL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])) arg46.view (azL arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (azL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])))⟩,
      ⟨Rect.unit ![0, 384] S128x128.size inb_S256x512_S128x128_0_384, wout0 (wst (tb0 arg33 harg33 x32) (tb1 arg33 harg33 x32) (pk arg35 harg35 x34) arg40.view (sL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (sL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) arg48.view (swL arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (swL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])) arg46.view (azL arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (azL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])))⟩,
      ⟨Rect.unit ![128, 256] S128x128.size inb_S256x512_S128x128_128_256, wout1 (wst (tb0 arg33 harg33 x32) (tb1 arg33 harg33 x32) (pk arg35 harg35 x34) arg39.view (sL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) arg47.view (swL arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) []) arg45.view (azL arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) []))⟩,
      ⟨Rect.unit ![0, 256] S128x128.size inb_S256x512_S128x128_0_256, wout0 (wst (tb0 arg33 harg33 x32) (tb1 arg33 harg33 x32) (pk arg35 harg35 x34) arg39.view (sL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) arg47.view (swL arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) []) arg45.view (azL arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) []))⟩,
      ⟨Rect.unit ![128, 128] S128x128.size inb_S256x512_S128x128_128_128, wout1 (wst (tb0 arg33 harg33 x32) (tb1 arg33 harg33 x32) (pk arg35 harg35 x34) arg40.view (sL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) arg48.view (swL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) []) arg46.view (azL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) []))⟩,
      ⟨Rect.unit ![0, 128] S128x128.size inb_S256x512_S128x128_0_128, wout0 (wst (tb0 arg33 harg33 x32) (tb1 arg33 harg33 x32) (pk arg35 harg35 x34) arg40.view (sL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) arg48.view (swL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) []) arg46.view (azL arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) []))⟩,
      ⟨Rect.unit ![128, 0] S128x128.size inb_S256x512_S128x128_128_0, wout1 (wrst (tb0 arg33 harg33 x32) (tb1 arg33 harg33 x32) (pk arg35 harg35 x34) arg39 harg39 xs0 arg47 harg47 xs8 arg45 harg45 xs6)⟩,
      ⟨Rect.unit ![0, 0] S128x128.size inb_S256x512_S128x128_0_0, wout0 (wrst (tb0 arg33 harg33 x32) (tb1 arg33 harg33 x32) (pk arg35 harg35 x34) arg39 harg39 xs0 arg47 harg47 xs8 arg45 harg45 xs6)⟩] := by
  sl_kernel_rfl

/-- The largest magnitudes. -/
theorem runB_abs  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.1 = [⟨Rect.unit ![0, 0, 128] S1x64x128.size inb_S1x64x256_S1x64x128_0_0_128, abrd arg44 harg44 xs5 (atL1_3 arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (atL1_2 arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) (atL1_1 arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])))⟩,
      ⟨Rect.unit ![0, 0, 0] S1x64x128.size inb_S1x64x256_S1x64x128_0_0_0, abrd arg43 harg43 xs4 (atL0_3 arg42.view (pmL ![rd0 arg25 harg25 x24, rd0 arg26 harg26 x25, rd0 arg27 harg27 x26, rd0 arg28 harg28 x27, rd0 arg29 harg29 x28, rd0 arg30 harg30 x29, rd0 arg31 harg31 x30, rd0 arg32 harg32 x31] ![rd1 arg25 harg25 x24, rd1 arg26 harg26 x25, rd1 arg27 harg27 x26, rd1 arg28 harg28 x27, rd1 arg29 harg29 x28, rd1 arg30 harg30 x29, rd1 arg31 harg31 x30, rd1 arg32 harg32 x31] (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] [])) (atL0_2 arg41.view (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] []) (atL0_1 arg42.view (pmL ![rd0 arg9 harg9 x8, rd0 arg10 harg10 x9, rd0 arg11 harg11 x10, rd0 arg12 harg12 x11, rd0 arg13 harg13 x12, rd0 arg14 harg14 x13, rd0 arg15 harg15 x14, rd0 arg16 harg16 x15] ![rd1 arg9 harg9 x8, rd1 arg10 harg10 x9, rd1 arg11 harg11 x10, rd1 arg12 harg12 x11, rd1 arg13 harg13 x12, rd1 arg14 harg14 x13, rd1 arg15 harg15 x14, rd1 arg16 harg16 x15] []) [])))⟩] := by
  sl_kernel_rfl

/-- What is carried to the next point. -/
theorem runB_s0  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.1 = (sL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] ((kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.1.drop 2)) := by
  sl_kernel_rfl

/-- What is carried to the next point. -/
theorem runB_s4  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.1 = (atL0_0 arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.1.drop 2)) := by
  sl_kernel_rfl

/-- What is carried to the next point. -/
theorem runB_s5  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.1 = (atL1_0 arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.1.drop 2)) := by
  sl_kernel_rfl

/-- What is carried to the next point. -/
theorem runB_s6  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.1 = (azL arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.1.drop 4)) := by
  sl_kernel_rfl

/-- What is carried to the next point. -/
theorem runB_s8  (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec F S256x128 .bf16) (x1 : Vec F S256x128 .bf16) (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S256x128 .bf16) (x10 : Vec F S256x128 .bf16) (x11 : Vec F S256x128 .bf16) (x12 : Vec F S256x128 .bf16) (x13 : Vec F S256x128 .bf16) (x14 : Vec F S256x128 .bf16) (x15 : Vec F S256x128 .bf16) (x16 : Vec F S256x128 .bf16) (x17 : Vec F S256x128 .bf16) (x18 : Vec F S256x128 .bf16) (x19 : Vec F S256x128 .bf16) (x20 : Vec F S256x128 .bf16) (x21 : Vec F S256x128 .bf16) (x22 : Vec F S256x128 .bf16) (x23 : Vec F S256x128 .bf16) (x24 : Vec F S256x128 .bf16) (x25 : Vec F S256x128 .bf16) (x26 : Vec F S256x128 .bf16) (x27 : Vec F S256x128 .bf16) (x28 : Vec F S256x128 .bf16) (x29 : Vec F S256x128 .bf16) (x30 : Vec F S256x128 .bf16) (x31 : Vec F S256x128 .bf16) (x32 : Vec F S16x128 .f32) (x33 : Vec F S16x128 .i32) (x34 : Vec F S64x256 .bf16) (xo37 : Vec F S8x128 .f32) (xs0 : Vec F S2x512x2x128 .bf16) (xs4 : Vec F S64x128 .f32) (xs5 : Vec F S64x128 .f32) (xs6 : Vec F S2x16x128 .f32) (xs8 : Vec F S2x16x2x128 .bf16)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.2.1 = (swL arg41.view (pmL ![rd0 arg1 harg1 x0, rd0 arg2 harg2 x1, rd0 arg3 harg3 x2, rd0 arg4 harg4 x3, rd0 arg5 harg5 x4, rd0 arg6 harg6 x5, rd0 arg7 harg7 x6, rd0 arg8 harg8 x7] ![rd1 arg1 harg1 x0, rd1 arg2 harg2 x1, rd1 arg3 harg3 x2, rd1 arg4 harg4 x3, rd1 arg5 harg5 x4, rd1 arg6 harg6 x5, rd1 arg7 harg7 x6, rd1 arg8 harg8 x7] (pmL ![rd0 arg17 harg17 x16, rd0 arg18 harg18 x17, rd0 arg19 harg19 x18, rd0 arg20 harg20 x19, rd0 arg21 harg21 x20, rd0 arg22 harg22 x21, rd0 arg23 harg23 x22, rd0 arg24 harg24 x23] ![rd1 arg17 harg17 x16, rd1 arg18 harg18 x17, rd1 arg19 harg19 x18, rd1 arg20 harg20 x19, rd1 arg21 harg21 x20, rd1 arg22 harg22 x21, rd1 arg23 harg23 x22, rd1 arg24 harg24 x23] [])) ((kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.2.1.drop 4)) := by
  sl_kernel_rfl

end Cert.Proof.Link

end
-- ==== Proof.StageVal.lean ====
/- The two stages element by element. -/
module

public import proofs.«01_k».proof.Proof.Stage
public import Idealize.ShloMosaic.Lib.Pointwise
public import Idealize.ShloMosaic.PureOps.Ideal.Laws

@[expose] public section

set_option maxRecDepth 16384

noncomputable section

namespace Cert.Proof.Stage

open Idealize.ShloMosaic Cert.KernelIdeal Cert.KernelIdeal.Gen Cert.Proof.Math Cert.Proof.Tile Cert.Proof.Words

/-! ## Pairs of rows and rows -/

theorem vs_apply (raw : Vec Ideal S1x128x2x128 .bf16) (p : Fin 128) (par : Fin 2) (l : Fin 128) :
    k0_pay7 raw (ix2 ⟨2 * p.val + par.val, by have := p.isLt; have := par.isLt; omega⟩ l : S256x128.Idx) = raw (ix4 0 p par l) := by
  have hp := p.isLt
  unfold k0_pay7
  pointwise
  fin_vals par with hg
  all_goals
    repeat (first | rw [if_pos (by omega)] | rw [if_neg (by omega)])
    refine congrArg raw ?_
    congr 1
    all_goals (first | exact Fin.ext hg.symm | (apply Fin.ext; simp only; omega))

theorem sw_apply (raw : Vec Ideal S1x4x2x128 .bf16) (b : Fin 4) (l : Fin 128) :
    k0_pay8 raw (ix2 ⟨2 * b.val, by have := b.isLt; omega⟩ l : S8x128.Idx) = raw (ix4 0 b 0 l) := by
  have hp := b.isLt
  unfold k0_pay8
  pointwise
  rw [if_pos (by omega)]
  refine congrArg raw ?_
  congr 1
  all_goals (apply Fin.ext; simp only; omega)

theorem az_apply (raw : Vec Ideal S1x4x128 .f32) (b : Fin 4) (l : Fin 128) :
    k0_pay9 raw (ix2 b l) = raw (ix3 0 b l) := by
  have hp := b.isLt
  unfold k0_pay9
  pointwise

set_option maxHeartbeats 4000000 in
theorem sSt_apply (x : Fin 8 → Vec Ideal S128x128 .bf16) (t : Fin 8) (k : Fin 64) (par : Fin 2) (l : Fin 128) :
    sSt (x 0) (x 1) (x 2) (x 3) (x 4) (x 5) (x 6) (x 7) (ix4 0 ⟨64 * t.val + k.val, by have := t.isLt; have := k.isLt; omega⟩ par l : S1x512x2x128.Idx)
      = x t (ix2 l ⟨2 * k.val + par.val, by have := k.isLt; have := par.isLt; omega⟩) := by
  have hp := k.isLt
  unfold sSt k0_pay351 xtT
  pointwise
  simp only [Nat.sub_sub, Nat.reduceAdd]
  fin_vals par with hg
  · refine (if_pos (by omega)).trans ?_
    fin_vals t with ht
    · refine (dif_pos (by omega)).trans ?_
      exact congr (congrArg x (Fin.ext ht.symm)) (congrArg (fun q => (ix2 l q : S128x128.Idx)) (Fin.ext (by simp only; omega)))
    · refine (dif_neg (by omega)).trans ((dif_pos (by omega)).trans ?_)
      exact congr (congrArg x (Fin.ext ht.symm)) (congrArg (fun q => (ix2 l q : S128x128.Idx)) (Fin.ext (by simp only; omega)))
    · refine (dif_neg (by omega)).trans ((dif_neg (by omega)).trans ((dif_pos (by omega)).trans ?_))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_pos (by omega)).trans ?_)))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_pos (by omega)).trans ?_))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_pos (by omega)).trans ?_)))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_neg (by omega)).trans ((dif_pos (by omega)).trans ?_))))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_neg (by omega)).trans ((dif_neg (by omega)).trans ?_))))))
      exact congr (congrArg x (Fin.ext ht.symm)) (congrArg (fun q => (ix2 l q : S128x128.Idx)) (Fin.ext (by simp only; omega)))
  · refine (if_neg (by omega)).trans ?_
    fin_vals t with ht
    · refine (dif_pos (by omega)).trans ?_
      exact congr (congrArg x (Fin.ext ht.symm)) (congrArg (fun q => (ix2 l q : S128x128.Idx)) (Fin.ext (by simp only; omega)))
    · refine (dif_neg (by omega)).trans ((dif_pos (by omega)).trans ?_)
      exact congr (congrArg x (Fin.ext ht.symm)) (congrArg (fun q => (ix2 l q : S128x128.Idx)) (Fin.ext (by simp only; omega)))
    · refine (dif_neg (by omega)).trans ((dif_neg (by omega)).trans ((dif_pos (by omega)).trans ?_))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_pos (by omega)).trans ?_)))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_pos (by omega)).trans ?_))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_pos (by omega)).trans ?_)))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_neg (by omega)).trans ((dif_pos (by omega)).trans ?_))))))
      exact congr (congrArg x (Fin.ext ht.symm)) (congrArg (fun q => (ix2 l q : S128x128.Idx)) (Fin.ext (by simp only; omega)))
    · refine (dif_neg (by omega)).trans ((dif_neg (by omega)).trans ((dif_neg (by omega)).trans ((dif_neg (by omega)).trans ((dif_neg (by omega)).trans ((dif_neg (by omega)).trans ((dif_neg (by omega)).trans ?_))))))
      exact congr (congrArg x (Fin.ext ht.symm)) (congrArg (fun q => (ix2 l q : S128x128.Idx)) (Fin.ext (by simp only; omega)))

/-! ## The largest magnitudes -/

/-- The largest of four magnitudes. -/
def m4 (y : Fin 4 → EReal) : EReal :=
  max (max (max (max (y 0) (-(y 0))) (max (y 1) (-(y 1)))) (max (y 2) (-(y 2)))) (max (y 3) (-(y 3)))

/-- The largest of eight. -/
def t8 (y : Fin 8 → EReal) : EReal :=
  max (max (max (y 0) (y 1)) (max (y 2) (y 3))) (max (max (y 4) (y 5)) (max (y 6) (y 7)))

set_option maxHeartbeats 4000000 in
theorem pmSt_apply (x : Fin 4 → Vec Ideal S128x128 .bf16) (i k : Fin 8) (par : Fin 2) (l : Fin 128) :
    pmSt (x 0) (x 1) (x 2) (x 3) (ix3 ⟨8 * i.val + k.val, by have := i.isLt; have := k.isLt; omega⟩ par l : S64x2x128.Idx)
      = m4 (fun j => x ⟨i.val / 2, by have := i.isLt; omega⟩
        (ix2 l ⟨64 * (i.val % 2) + 16 * j.val + 2 * k.val + par.val, by have := j.isLt; have := k.isLt; have := par.isLt; omega⟩)) := by
  have hp := k.isLt
  have e : ∀ (t t' : Fin 4) (a b : Fin 128), t.val = t'.val → a.val = b.val →
      @FloatOps.absf Ideal _ .bf16 (x t (ix2 l a)) = max (x t' (ix2 l b)) (-(x t' (ix2 l b))) := by
    intro t t' a b h h'
    obtain rfl := Fin.ext h
    obtain rfl := Fin.ext h'
    rfl
  have d3 : ((3 : Fin 4) : ℕ) = 3 := rfl
  unfold pmSt m0T m1T xtT m4
  pointwise
  simp only [Nat.sub_sub, Nat.reduceAdd]
  fin_vals par with hg
  · refine (if_pos (by omega)).trans ?_
    fin_vals i with ht
    · refine (dif_pos (by omega)).trans ?_
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_pos (by omega)).trans ?_)
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_pos (by omega)).trans ?_))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_pos (by omega)).trans ?_)))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_pos (by omega)).trans ?_))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_pos (by omega)).trans ?_)))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_neg (by omega)).trans ((dif_pos (by omega)).trans ?_))))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_neg (by omega)).trans ((dif_neg (by omega)).trans ?_))))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
  · refine (if_neg (by omega)).trans ?_
    fin_vals i with ht
    · refine (dif_pos (by omega)).trans ?_
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_pos (by omega)).trans ?_)
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_pos (by omega)).trans ?_))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_pos (by omega)).trans ?_)))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_pos (by omega)).trans ?_))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_pos (by omega)).trans ?_)))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_neg (by omega)).trans ((dif_pos (by omega)).trans ?_))))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)
    · refine (dif_neg (by omega)).trans ((dif_neg (by omega)).trans ((dif_neg (by omega)).trans ((dif_neg (by omega)).trans ((dif_neg (by omega)).trans ((dif_neg (by omega)).trans ((dif_neg (by omega)).trans ?_))))))
      refine congrArg₂ max (congrArg₂ max (congrArg₂ max (e _ _ _ _ ?_ ?_) (e _ _ _ _ ?_ ?_)) (e _ _ _ _ ?_ ?_)) (e _ _ _ _ ?_ ?_)
      all_goals (simp only [Fin.val_zero, Fin.val_one, Fin.val_two, d3]; omega)

set_option maxHeartbeats 4000000 in
theorem amaxT_apply (r : Fin 8 → Vec Ideal S8x2x128 .bf16) (q : Fin 8) (l : Fin 128) :
    amaxT (r 0) (r 1) (r 2) (r 3) (r 4) (r 5) (r 6) (r 7) (ix2 q l)
      = max (t8 fun k => r k (ix3 q 1 l)) (t8 fun k => r k (ix3 q 0 l)) := by
  have hp := q.isLt
  have e : ∀ (k : Fin 8) (a b : Fin 8) (p : Fin 2), a.val = b.val → r k (ix3 a p l) = r k (ix3 b p l) := by
    intro k a b p h
    obtain rfl := Fin.ext h
    rfl
  unfold amaxT partT t8
  pointwise
  simp only [if_neg (show ¬ (2 * q.val + 1) % 2 = 0 by omega), if_pos (show 2 * q.val % 2 = 0 by omega)]
  refine congrArg₂ max (congrArg₂ max (congrArg₂ max (congrArg₂ max ?_ ?_) (congrArg₂ max ?_ ?_)) (congrArg₂ max (congrArg₂ max ?_ ?_) (congrArg₂ max ?_ ?_)))
    (congrArg₂ max (congrArg₂ max (congrArg₂ max ?_ ?_) (congrArg₂ max ?_ ?_)) (congrArg₂ max (congrArg₂ max ?_ ?_) (congrArg₂ max ?_ ?_)))
  all_goals (refine e _ _ _ _ ?_; simp only; omega)

theorem azSt_apply (a : FVec Ideal S8x128 .f32) (q : Fin 8) (l : Fin 128) :
    azSt a (ix3 0 q l) = safe (a (ix2 q l)) := by
  unfold azSt azT safe
  pointwise

theorem swSt_apply (a : FVec Ideal S8x128 .f32) (q : Fin 8) (par : Fin 2) (l : Fin 128) :
    swSt a (ix4 0 q par l) = (slopeR : EReal) * Ideal.div 1 (safe (a (ix2 q l))) := by
  unfold swSt azT safe
  pointwise
  rw [ite_self]
  exact congrArg (· * _) slope_eq

theorem atSt_apply (a : FVec Ideal S8x128 .f32) (q : Fin 8) (l : Fin 128) :
    atSt a (ix2 q l) = a (ix2 q l) := by
  unfold atSt
  pointwise

/-- The largest magnitude of 64 values. -/
def bmax (y : Fin 64 → EReal) : EReal := Finset.univ.sup fun f => max (y f) (-(y f))

theorem bmax_eq (y : Fin 64 → EReal) :
    max (t8 fun k => m4 fun j => y ⟨16 * j.val + 2 * k.val + 1, by have := j.isLt; have := k.isLt; omega⟩)
      (t8 fun k => m4 fun j => y ⟨16 * j.val + 2 * k.val + 0, by have := j.isLt; have := k.isLt; omega⟩) = bmax y := by
  have h4 : ∀ (z : Fin 4 → EReal) (c : EReal), m4 z ≤ c ↔ ∀ j, max (z j) (-(z j)) ≤ c := by
    intro z c
    unfold m4
    rw [max_le_iff, max_le_iff, max_le_iff]
    exact ⟨fun ⟨⟨⟨a, b⟩, d⟩, e⟩ j => by fin_cases j <;> assumption, fun h => ⟨⟨⟨h 0, h 1⟩, h 2⟩, h 3⟩⟩
  have h8 : ∀ (z : Fin 8 → EReal) (c : EReal), t8 z ≤ c ↔ ∀ j, z j ≤ c := by
    intro z c
    unfold t8
    simp only [max_le_iff]
    exact ⟨fun ⟨⟨⟨a, b⟩, d, e⟩, ⟨f, g⟩, h, i⟩ j => by fin_cases j <;> assumption, fun h => ⟨⟨⟨h 0, h 1⟩, h 2, h 3⟩, ⟨h 4, h 5⟩, h 6, h 7⟩⟩
  refine eq_of_forall_ge_iff fun c => ?_
  rw [max_le_iff, h8, h8]
  simp only [h4]
  unfold bmax
  rw [Finset.sup_le_iff]
  constructor
  · rintro ⟨h1, h0⟩ f -
    have hf := f.isLt
    rcases Nat.mod_two_eq_zero_or_one f.val with h | h
    · have := h0 ⟨f.val % 16 / 2, by omega⟩ ⟨f.val / 16, by omega⟩
      rw [show (⟨16 * (f.val / 16) + 2 * (f.val % 16 / 2) + 0, by omega⟩ : Fin 64) = f from Fin.ext (by simp only; omega)] at this
      exact this
    · have := h1 ⟨f.val % 16 / 2, by omega⟩ ⟨f.val / 16, by omega⟩
      rw [show (⟨16 * (f.val / 16) + 2 * (f.val % 16 / 2) + 1, by omega⟩ : Fin 64) = f from Fin.ext (by simp only; omega)] at this
      exact this
  · intro h
    exact ⟨fun k j => h _ (Finset.mem_univ _), fun k j => h _ (Finset.mem_univ _)⟩

theorem le_bmax (y : Fin 64 → EReal) (f : Fin 64) : max (y f) (-(y f)) ≤ bmax y :=
  Finset.le_sup (f := fun f => max (y f) (-(y f))) (Finset.mem_univ f)

end Cert.Proof.Stage

end
-- ==== Proof.Reads.lean ====
/- What the lists of stores hold, element by element, and what is read back from them. -/
module

public import proofs.«01_k».proof.Proof.StageVal
public import proofs.«01_k».proof.Proof.Pieces
public import Idealize.ShloMosaic.Lib.Pipeline.FrameBody
public import Idealize.ShloMosaic.Lib.Pipeline.ValueKit.Tiles

@[expose] public section

set_option maxRecDepth 16384

noncomputable section

namespace Cert.Proof.Stage

open Idealize.ShloMosaic Cert.KernelIdeal Cert.KernelIdeal.Gen Cert.Proof.Math Cert.Proof.Tile Cert.Proof.Words

/-- An element under the newest store. -/
theorem canon_in {Val : EltTy → Type} [∀ e, Nonempty (Val e)] {s : Shape} {e : EltTy} {off size : Fin s.rank → Nat} (inb)
    (w : (Rect.unit off size inb : Rect s).shape.Idx → Val e) (L : List (View.Piece Val s e)) (y : s.Idx)
    (x : (Rect.unit off size inb : Rect s).shape.Idx) (h : ∀ a, (y a : Nat) = off a + x a) :
    View.canon ((⟨Rect.unit off size inb, w⟩ : View.Piece Val s e) :: L) y = w x := by
  have e : y = (Rect.unit off size inb : Rect s).emb x :=
    funext fun a => Fin.ext ((h a).trans (Rect.idx_unit_val off size inb x a).symm)
  rw [e]
  exact View.canon_cons_emb _ w L x

/-- An element off the newest store. -/
theorem canon_out {Val : EltTy → Type} [∀ e, Nonempty (Val e)] {s : Shape} {e : EltTy} {off size : Fin s.rank → Nat} (inb)
    (w : (Rect.unit off size inb : Rect s).shape.Idx → Val e) (L : List (View.Piece Val s e)) (y : s.Idx)
    (a : Fin s.rank) (h : (y a : Nat) < off a ∨ off a + size a ≤ y a) :
    View.canon ((⟨Rect.unit off size inb, w⟩ : View.Piece Val s e) :: L) y = View.canon L y := by
  refine View.canon_cons_of_not_mem _ L fun hm => ?_
  have := (Rect.mem_set_unit (inb := inb)).mp hm a
  omega

/-- The largest magnitude of a row's block. -/
def bm (y : ℕ → EReal) (q : ℕ) : EReal := bmax fun f : Fin 64 => y (64 * q + f.val)

/-- Eight tiles hold the features of a chunk's rows. -/
def HoldsT (X : Fin 8 → Vec Ideal S128x128 .bf16) (x : Fin 128 → ℕ → EReal) : Prop :=
  ∀ (t : Fin 8) (r k : Fin 128), X t (ix2 r k) = x r (128 * t.val + k.val)

/-- The pairs of rows of a chunk. -/
def HoldsS (S : Vec Ideal S2x512x2x128 .bf16) (x : Fin 2 → Fin 128 → ℕ → EReal) : Prop :=
  ∀ (h : Fin 2) (p : Fin 512) (par : Fin 2) (l : Fin 128), S (ix4 h p par l) = x h l (2 * p.val + par.val)

/-- The divisors of a chunk. -/
def HoldsZ (Z : Vec Ideal S2x16x128 .f32) (x : Fin 2 → Fin 128 → ℕ → EReal) : Prop :=
  ∀ (h : Fin 2) (q : Fin 16) (l : Fin 128), Z (ix3 h q l) = safe (bm (x h l) q.val)

/-- The scales of a chunk. -/
def HoldsW (W : Vec Ideal S2x16x2x128 .bf16) (x : Fin 2 → Fin 128 → ℕ → EReal) : Prop :=
  ∀ (h : Fin 2) (q : Fin 16) (par : Fin 2) (l : Fin 128), W (ix4 h q par l) = (slopeR : EReal) * Ideal.div 1 (safe (bm (x h l) q.val))

variable (X0 X1 : Tiles Ideal) (x : Fin 2 → Fin 128 → ℕ → EReal) (h0 : HoldsT X0 (x 0)) (h1 : HoldsT X1 (x 1))

include h0 h1

theorem sL_holds (T) : HoldsS (View.canon (sL X0 X1 T)) x := by
  intro h p par l
  have hp := p.isLt
  have hpar := par.isLt
  have key : ∀ (X : Tiles Ideal) (y : Fin 128 → ℕ → EReal), HoldsT X y →
      sSt (X 0) (X 1) (X 2) (X 3) (X 4) (X 5) (X 6) (X 7) (ix4 0 p par l) = y l (2 * p.val + par.val) := by
    intro X y hX
    have := sSt_apply X ⟨p.val / 64, by omega⟩ ⟨p.val % 64, by omega⟩ par l
    rw [hX] at this
    simp only at this
    rw [show 128 * (p.val / 64) + (2 * (p.val % 64) + par.val) = 2 * p.val + par.val by omega] at this
    rw [← this]
    congr 2
    apply Fin.ext
    simp only
    omega
  unfold sL
  fin_vals h with hh
  · obtain rfl : h = 0 := Fin.ext hh
    refine (canon_out _ _ _ _ 0 (Or.inl ?_)).trans ((canon_in _ _ _ _ (ix4 0 p par l) ?_).trans (key X0 _ h0))
    · simp
    · intro a
      fin_cases a <;> simp
  · obtain rfl : h = 1 := Fin.ext hh
    refine (canon_in _ _ _ _ (ix4 0 p par l) ?_).trans (key X1 _ h1)
    intro a
    fin_cases a <;> simp

theorem pmL_apply (T) (u h : Fin 2) (q k : Fin 8) (par : Fin 2) (l : Fin 128) (i : Fin 256) (hi : i.val = 128 * u.val + 64 * h.val + 8 * q.val + k.val) :
    View.canon (pmL X0 X1 T) (ix3 i par l) = m4 fun j => x h l (64 * (8 * u.val + q.val) + 16 * j.val + 2 * k.val + par.val) := by
  have hq := q.isLt
  have hk := k.isLt
  have hpar := par.isLt
  have key : ∀ (v : Fin 2) (X : Tiles Ideal) (y : Fin 128 → ℕ → EReal), HoldsT X y →
      m4 (fun j => (fun e : Fin 4 => X ⟨4 * v.val + e.val, by have := v.isLt; have := e.isLt; omega⟩) ⟨q.val / 2, by omega⟩
        (ix2 l ⟨64 * (q.val % 2) + 16 * j.val + 2 * k.val + par.val, by have := j.isLt; omega⟩))
      = m4 fun j => y l (64 * (8 * v.val + q.val) + 16 * j.val + 2 * k.val + par.val) := by
    intro v X y hX
    congr 1
    funext j
    refine (hX _ _ _).trans ?_
    congr 1
    simp only
    omega
  have ix : ∀ (r : Rect S256x2x128), True := fun _ => trivial
  unfold pmL
  fin_vals u with hu
  · obtain rfl : u = 0 := Fin.ext hu
    fin_vals h with hh
    · obtain rfl : h = 0 := Fin.ext hh
      simp only [Fin.val_zero] at hi
      refine (canon_out _ _ _ _ 0 (Or.inl (by simp; omega))).trans ((canon_out _ _ _ _ 0 (Or.inl (by simp; omega))).trans
        ((canon_out _ _ _ _ 0 (Or.inl (by simp; omega))).trans ((canon_in _ _ _ _ (ix3 ⟨8 * q.val + k.val, by omega⟩ par l : S64x2x128.Idx) ?_).trans
          ((pmSt_apply (fun e : Fin 4 => X0 ⟨4 * 0 + e.val, by have := e.isLt; omega⟩) q k par l).trans (key 0 X0 _ h0)))))
      intro a
      fin_cases a <;> simp <;> omega
    · obtain rfl : h = 1 := Fin.ext hh
      simp only [Fin.val_zero, Fin.val_one] at hi
      refine (canon_out _ _ _ _ 0 (Or.inl (by simp; omega))).trans ((canon_in _ _ _ _ (ix3 ⟨8 * q.val + k.val, by omega⟩ par l : S64x2x128.Idx) ?_).trans
          ((pmSt_apply (fun e : Fin 4 => X1 ⟨4 * 0 + e.val, by have := e.isLt; omega⟩) q k par l).trans (key 0 X1 _ h1)))
      intro a
      fin_cases a <;> simp <;> omega
  · obtain rfl : u = 1 := Fin.ext hu
    fin_vals h with hh
    · obtain rfl : h = 0 := Fin.ext hh
      simp only [Fin.val_zero, Fin.val_one] at hi
      refine (canon_out _ _ _ _ 0 (Or.inl (by simp; omega))).trans ((canon_out _ _ _ _ 0 (Or.inr (by simp; omega))).trans
        ((canon_in _ _ _ _ (ix3 ⟨8 * q.val + k.val, by omega⟩ par l : S64x2x128.Idx) ?_).trans
          ((pmSt_apply (fun e : Fin 4 => X0 ⟨4 * 1 + e.val, by have := e.isLt; omega⟩) q k par l).trans (key 1 X0 _ h0))))
      intro a
      fin_cases a <;> simp <;> omega
    · obtain rfl : h = 1 := Fin.ext hh
      simp only [Fin.val_one] at hi
      refine (canon_in _ _ _ _ (ix3 ⟨8 * q.val + k.val, by omega⟩ par l : S64x2x128.Idx) ?_).trans
          ((pmSt_apply (fun e : Fin 4 => X1 ⟨4 * 1 + e.val, by have := e.isLt; omega⟩) q k par l).trans (key 1 X1 _ h1))
      intro a
      fin_cases a <;> simp <;> omega

end Cert.Proof.Stage

end
-- ==== Proof.Reads2.lean ====
/- The largest magnitudes of a chunk's blocks, and what is stored of them. -/
module

public import proofs.«01_k».proof.Proof.Reads

@[expose] public section

set_option maxRecDepth 16384

noncomputable section

namespace Cert.Proof.Stage

open Idealize.ShloMosaic Cert.KernelIdeal Cert.KernelIdeal.Gen Cert.Proof.Math Cert.Proof.Tile Cert.Proof.Words

/-- Every eighth row from a row on, read back. -/
theorem rdp_apply (v : View sig .tc .vmem S256x2x128 .bf16) (L : List (View.Piece (Elt Ideal) S256x2x128 .bf16)) (o : ℕ) (inb)
    (q : Fin 8) (par : Fin 2) (l : Fin 128) (i : Fin 256) (hi : i.val = o + 8 * q.val) :
    (v.readCov L ⟨![o, 0, 0], S8x2x128.size, ![8, 1, 1], inb⟩ : Vec Ideal S8x2x128 .bf16) (ix3 q par l) = View.canon L (ix3 i par l) := by
  rw [View.readCov_eq_canon']
  refine congrArg (View.canon L) (funext fun a => Fin.ext ?_)
  have key : ∀ a : Fin 3, ((![o, 0, 0] : Fin 3 → ℕ) a) + ((![8, 1, 1] : Fin 3 → ℕ) a) * ((ix3 q par l : S8x2x128.Idx) a).val = ((ix3 i par l : S256x2x128.Idx) a).val := by
    intro a
    fin_cases a
    · simp; omega
    · simp
    · simp
  exact key a

theorem amaxT_of (r0 r1 r2 r3 r4 r5 r6 r7 : Vec Ideal S8x2x128 .bf16) (y : ℕ → EReal) (Q : ℕ) (q : Fin 8) (l : Fin 128)
    (f : Fin 8 → Fin 2 → EReal) (hf : ∀ k par, f k par = m4 fun j => y (64 * Q + 16 * j.val + 2 * k.val + par.val))
    (h0 : ∀ par, r0 (ix3 q par l) = f 0 par) (h1 : ∀ par, r1 (ix3 q par l) = f 1 par) (h2 : ∀ par, r2 (ix3 q par l) = f 2 par)
    (h3 : ∀ par, r3 (ix3 q par l) = f 3 par) (h4 : ∀ par, r4 (ix3 q par l) = f 4 par) (h5 : ∀ par, r5 (ix3 q par l) = f 5 par)
    (h6 : ∀ par, r6 (ix3 q par l) = f 6 par) (h7 : ∀ par, r7 (ix3 q par l) = f 7 par) :
    amaxT r0 r1 r2 r3 r4 r5 r6 r7 (ix2 q l) = bm y Q := by
  have hr : ∀ (k : Fin 8) (par : Fin 2), (![r0, r1, r2, r3, r4, r5, r6, r7] : Fin 8 → Vec Ideal S8x2x128 .bf16) k (ix3 q par l) = f k par := by
    intro k par
    fin_cases k
    exacts [h0 par, h1 par, h2 par, h3 par, h4 par, h5 par, h6 par, h7 par]
  refine (amaxT_apply ![r0, r1, r2, r3, r4, r5, r6, r7] q l).trans ?_
  simp only [hr, hf]
  unfold bm
  rw [← bmax_eq]
  simp only [Fin.val_zero, Fin.val_one, Nat.add_assoc]

/-- The four stores of a chunk's divisors, element by element. -/
theorem az4_apply (w0 w1 w2 w3 : Vec Ideal S1x8x128 .f32) (T : List (View.Piece (Elt Ideal) S2x16x128 .f32)) (G : Fin 2 → Fin 128 → ℕ → EReal)
    (h0 : ∀ (q : Fin 8) l, w0 (ix3 0 q l) = G 0 l q.val) (h1 : ∀ (q : Fin 8) l, w1 (ix3 0 q l) = G 1 l q.val)
    (h2 : ∀ (q : Fin 8) l, w2 (ix3 0 q l) = G 0 l (8 + q.val)) (h3 : ∀ (q : Fin 8) l, w3 (ix3 0 q l) = G 1 l (8 + q.val))
    (h : Fin 2) (q : Fin 16) (l : Fin 128) :
    View.canon (⟨(Rect.unit ![1, 8, 0] S1x8x128.size inb_S2x16x128_S1x8x128_1_8_0 : Rect S2x16x128), w3⟩ ::
  ⟨(Rect.unit ![0, 8, 0] S1x8x128.size inb_S2x16x128_S1x8x128_0_8_0 : Rect S2x16x128), w2⟩ ::
  ⟨(Rect.unit ![1, 0, 0] S1x8x128.size inb_S2x16x128_S1x8x128_1_0_0 : Rect S2x16x128), w1⟩ ::
  ⟨(Rect.unit ![0, 0, 0] S1x8x128.size inb_S2x16x128_S1x8x128_0_0_0 : Rect S2x16x128), w0⟩ :: T) (ix3 h q l) = G h l q.val := by
  have hq := q.isLt
  fin_vals h with hh
  · obtain rfl : h = 0 := Fin.ext hh
    rcases Nat.lt_or_ge q.val 8 with hlt | hge
    · refine (canon_out _ _ _ _ 0 (Or.inl (by simp))).trans ((canon_out _ _ _ _ 1 (Or.inl (by simp; omega))).trans
        ((canon_out _ _ _ _ 0 (Or.inl (by simp))).trans ((canon_in _ _ _ _ (ix3 0 ⟨q.val, hlt⟩ l : S1x8x128.Idx) ?_).trans (h0 _ _))))
      intro a; fin_cases a <;> simp
    · refine (canon_out _ _ _ _ 0 (Or.inl (by simp))).trans ((canon_in _ _ _ _ (ix3 0 ⟨q.val - 8, by omega⟩ l : S1x8x128.Idx) ?_).trans ((h2 _ _).trans ?_))
      · intro a; fin_cases a <;> simp <;> omega
      · rw [show 8 + (q.val - 8) = q.val by omega]
  · obtain rfl : h = 1 := Fin.ext hh
    rcases Nat.lt_or_ge q.val 8 with hlt | hge
    · refine (canon_out _ _ _ _ 1 (Or.inl (by simp; omega))).trans ((canon_out _ _ _ _ 0 (Or.inr (by simp))).trans
        ((canon_in _ _ _ _ (ix3 0 ⟨q.val, hlt⟩ l : S1x8x128.Idx) ?_).trans (h1 _ _)))
      intro a; fin_cases a <;> simp
    · refine (canon_in _ _ _ _ (ix3 0 ⟨q.val - 8, by omega⟩ l : S1x8x128.Idx) ?_).trans ((h3 _ _).trans ?_)
      · intro a; fin_cases a <;> simp <;> omega
      · rw [show 8 + (q.val - 8) = q.val by omega]

/-- The four stores of a chunk's scales, element by element. -/
theorem sw4_apply (w0 w1 w2 w3 : Vec Ideal S1x8x2x128 .bf16) (T : List (View.Piece (Elt Ideal) S2x16x2x128 .bf16)) (G : Fin 2 → Fin 128 → ℕ → EReal)
    (h0 : ∀ (q : Fin 8) par l, w0 (ix4 0 q par l) = G 0 l q.val) (h1 : ∀ (q : Fin 8) par l, w1 (ix4 0 q par l) = G 1 l q.val)
    (h2 : ∀ (q : Fin 8) par l, w2 (ix4 0 q par l) = G 0 l (8 + q.val)) (h3 : ∀ (q : Fin 8) par l, w3 (ix4 0 q par l) = G 1 l (8 + q.val))
    (h : Fin 2) (q : Fin 16) (par : Fin 2) (l : Fin 128) :
    View.canon (⟨(Rect.unit ![1, 8, 0, 0] S1x8x2x128.size inb_S2x16x2x128_S1x8x2x128_1_8_0_0 : Rect S2x16x2x128), w3⟩ ::
  ⟨(Rect.unit ![0, 8, 0, 0] S1x8x2x128.size inb_S2x16x2x128_S1x8x2x128_0_8_0_0 : Rect S2x16x2x128), w2⟩ ::
  ⟨(Rect.unit ![1, 0, 0, 0] S1x8x2x128.size inb_S2x16x2x128_S1x8x2x128_1_0_0_0 : Rect S2x16x2x128), w1⟩ ::
  ⟨(Rect.unit ![0, 0, 0, 0] S1x8x2x128.size inb_S2x16x2x128_S1x8x2x128_0_0_0_0 : Rect S2x16x2x128), w0⟩ :: T) (ix4 h q par l) = G h l q.val := by
  have hq := q.isLt
  fin_vals h with hh
  · obtain rfl : h = 0 := Fin.ext hh
    rcases Nat.lt_or_ge q.val 8 with hlt | hge
    · refine (canon_out _ _ _ _ 0 (Or.inl (by simp))).trans ((canon_out _ _ _ _ 1 (Or.inl (by simp; omega))).trans
        ((canon_out _ _ _ _ 0 (Or.inl (by simp))).trans ((canon_in _ _ _ _ (ix4 0 ⟨q.val, hlt⟩ par l : S1x8x2x128.Idx) ?_).trans (h0 _ _ _))))
      intro a; fin_cases a <;> simp
    · refine (canon_out _ _ _ _ 0 (Or.inl (by simp))).trans ((canon_in _ _ _ _ (ix4 0 ⟨q.val - 8, by omega⟩ par l : S1x8x2x128.Idx) ?_).trans ((h2 _ _ _).trans ?_))
      · intro a; fin_cases a <;> simp <;> omega
      · rw [show 8 + (q.val - 8) = q.val by omega]
  · obtain rfl : h = 1 := Fin.ext hh
    rcases Nat.lt_or_ge q.val 8 with hlt | hge
    · refine (canon_out _ _ _ _ 1 (Or.inl (by simp; omega))).trans ((canon_out _ _ _ _ 0 (Or.inr (by simp))).trans
        ((canon_in _ _ _ _ (ix4 0 ⟨q.val, hlt⟩ par l : S1x8x2x128.Idx) ?_).trans (h1 _ _ _)))
      intro a; fin_cases a <;> simp
    · refine (canon_in _ _ _ _ (ix4 0 ⟨q.val - 8, by omega⟩ par l : S1x8x2x128.Idx) ?_).trans ((h3 _ _ _).trans ?_)
      · intro a; fin_cases a <;> simp <;> omega
      · rw [show 8 + (q.val - 8) = q.val by omega]

variable (X0 X1 : Tiles Ideal) (x : Fin 2 → Fin 128 → ℕ → EReal) (h0 : HoldsT X0 (x 0)) (h1 : HoldsT X1 (x 1))
variable (v : View sig .tc .vmem S256x2x128 .bf16) (T : List (View.Piece (Elt Ideal) S256x2x128 .bf16))

include h0 h1

theorem am0_apply (q : Fin 8) (l : Fin 128) : am0 v (pmL X0 X1 T) (ix2 q l) = bm (x 0 l) (0 + q.val) := by
  have hq := q.isLt
  unfold am0
  generalize hL : pmL X0 X1 T = L
  refine amaxT_of _ _ _ _ _ _ _ _ _ _ q l
    (fun k par => View.canon L (ix3 ⟨0 + 8 * q.val + k.val, by have := k.isLt; omega⟩ par l : S256x2x128.Idx)) ?_ ?_ ?_ ?_ ?_ ?_ ?_ ?_ ?_
  · intro k par
    rw [← hL]
    exact pmL_apply X0 X1 x h0 h1 T 0 0 q k par l _ rfl
  · intro par
    exact rdp_apply v L 0 _ q par l ⟨0 + 8 * q.val + 0, by omega⟩ (by simp only; omega)
  · intro par
    exact rdp_apply v L 1 _ q par l ⟨0 + 8 * q.val + 1, by omega⟩ (by simp only; omega)
  · intro par
    exact rdp_apply v L 2 _ q par l ⟨0 + 8 * q.val + 2, by omega⟩ (by simp only; omega)
  · intro par
    exact rdp_apply v L 3 _ q par l ⟨0 + 8 * q.val + 3, by omega⟩ (by simp only; omega)
  · intro par
    exact rdp_apply v L 4 _ q par l ⟨0 + 8 * q.val + 4, by omega⟩ (by simp only; omega)
  · intro par
    exact rdp_apply v L 5 _ q par l ⟨0 + 8 * q.val + 5, by omega⟩ (by simp only; omega)
  · intro par
    exact rdp_apply v L 6 _ q par l ⟨0 + 8 * q.val + 6, by omega⟩ (by simp only; omega)
  · intro par
    exact rdp_apply v L 7 _ q par l ⟨0 + 8 * q.val + 7, by omega⟩ (by simp only; omega)

theorem am1_apply (q : Fin 8) (l : Fin 128) : am1 v (pmL X0 X1 T) (ix2 q l) = bm (x 1 l) (0 + q.val) := by
  have hq := q.isLt
  unfold am1
  generalize hL : pmL X0 X1 T = L
  refine amaxT_of _ _ _ _ _ _ _ _ _ _ q l
    (fun k par => View.canon L (ix3 ⟨64 + 8 * q.val + k.val, by have := k.isLt; omega⟩ par l : S256x2x128.Idx)) ?_ ?_ ?_ ?_ ?_ ?_ ?_ ?_ ?_
  · intro k par
    rw [← hL]
    exact pmL_apply X0 X1 x h0 h1 T 0 1 q k par l _ rfl
  · intro par
    exact rdp_apply v L 64 _ q par l ⟨64 + 8 * q.val + 0, by omega⟩ (by simp only; omega)
  · intro par
    exact rdp_apply v L 65 _ q par l ⟨64 + 8 * q.val + 1, by omega⟩ (by simp only; omega)
  · intro par
    exact rdp_apply v L 66 _ q par l ⟨64 + 8 * q.val + 2, by omega⟩ (by simp only; omega)
  · intro par
    exact rdp_apply v L 67 _ q par l ⟨64 + 8 * q.val + 3, by omega⟩ (by simp only; omega)
  · intro par
    exact rdp_apply v L 68 _ q par l ⟨64 + 8 * q.val + 4, by omega⟩ (by simp only; omega)
  · intro par
    exact rdp_apply v L 69 _ q par l ⟨64 + 8 * q.val + 5, by omega⟩ (by simp only; omega)
  · intro par
    exact rdp_apply v L 70 _ q par l ⟨64 + 8 * q.val + 6, by omega⟩ (by simp only; omega)
  · intro par
    exact rdp_apply v L 71 _ q par l ⟨64 + 8 * q.val + 7, by omega⟩ (by simp only; omega)

theorem am2_apply (q : Fin 8) (l : Fin 128) : am2 v (pmL X0 X1 T) (ix2 q l) = bm (x 0 l) (8 + q.val) := by
  have hq := q.isLt
  unfold am2
  generalize hL : pmL X0 X1 T = L
  refine amaxT_of _ _ _ _ _ _ _ _ _ _ q l
    (fun k par => View.canon L (ix3 ⟨128 + 8 * q.val + k.val, by have := k.isLt; omega⟩ par l : S256x2x128.Idx)) ?_ ?_ ?_ ?_ ?_ ?_ ?_ ?_ ?_
  · intro k par
    rw [← hL]
    exact pmL_apply X0 X1 x h0 h1 T 1 0 q k par l _ rfl
  · intro par
    exact rdp_apply v L 128 _ q par l ⟨128 + 8 * q.val + 0, by omega⟩ (by simp only; omega)
  · intro par
    exact rdp_apply v L 129 _ q par l ⟨128 + 8 * q.val + 1, by omega⟩ (by simp only; omega)
  · intro par
    exact rdp_apply v L 130 _ q par l ⟨128 + 8 * q.val + 2, by omega⟩ (by simp only; omega)
  · intro par
    exact rdp_apply v L 131 _ q par l ⟨128 + 8 * q.val + 3, by omega⟩ (by simp only; omega)
  · intro par
    exact rdp_apply v L 132 _ q par l ⟨128 + 8 * q.val + 4, by omega⟩ (by simp only; omega)
  · intro par
    exact rdp_apply v L 133 _ q par l ⟨128 + 8 * q.val + 5, by omega⟩ (by simp only; omega)
  · intro par
    exact rdp_apply v L 134 _ q par l ⟨128 + 8 * q.val + 6, by omega⟩ (by simp only; omega)
  · intro par
    exact rdp_apply v L 135 _ q par l ⟨128 + 8 * q.val + 7, by omega⟩ (by simp only; omega)

theorem am3_apply (q : Fin 8) (l : Fin 128) : am3 v (pmL X0 X1 T) (ix2 q l) = bm (x 1 l) (8 + q.val) := by
  have hq := q.isLt
  unfold am3
  generalize hL : pmL X0 X1 T = L
  refine amaxT_of _ _ _ _ _ _ _ _ _ _ q l
    (fun k par => View.canon L (ix3 ⟨192 + 8 * q.val + k.val, by have := k.isLt; omega⟩ par l : S256x2x128.Idx)) ?_ ?_ ?_ ?_ ?_ ?_ ?_ ?_ ?_
  · intro k par
    rw [← hL]
    exact pmL_apply X0 X1 x h0 h1 T 1 1 q k par l _ rfl
  · intro par
    exact rdp_apply v L 192 _ q par l ⟨192 + 8 * q.val + 0, by omega⟩ (by simp only; omega)
  · intro par
    exact rdp_apply v L 193 _ q par l ⟨192 + 8 * q.val + 1, by omega⟩ (by simp only; omega)
  · intro par
    exact rdp_apply v L 194 _ q par l ⟨192 + 8 * q.val + 2, by omega⟩ (by simp only; omega)
  · intro par
    exact rdp_apply v L 195 _ q par l ⟨192 + 8 * q.val + 3, by omega⟩ (by simp only; omega)
  · intro par
    exact rdp_apply v L 196 _ q par l ⟨192 + 8 * q.val + 4, by omega⟩ (by simp only; omega)
  · intro par
    exact rdp_apply v L 197 _ q par l ⟨192 + 8 * q.val + 5, by omega⟩ (by simp only; omega)
  · intro par
    exact rdp_apply v L 198 _ q par l ⟨192 + 8 * q.val + 6, by omega⟩ (by simp only; omega)
  · intro par
    exact rdp_apply v L 199 _ q par l ⟨192 + 8 * q.val + 7, by omega⟩ (by simp only; omega)

theorem azL_holds (Tz : List (View.Piece (Elt Ideal) S2x16x128 .f32)) : HoldsZ (View.canon (azL v (pmL X0 X1 T) Tz)) x := by
  intro h q l
  have e0 := am0_apply X0 X1 x h0 h1 v T
  have e1 := am1_apply X0 X1 x h0 h1 v T
  have e2 := am2_apply X0 X1 x h0 h1 v T
  have e3 := am3_apply X0 X1 x h0 h1 v T
  unfold azL
  generalize am0 v (pmL X0 X1 T) = a0 at *
  generalize am1 v (pmL X0 X1 T) = a1 at *
  generalize am2 v (pmL X0 X1 T) = a2 at *
  generalize am3 v (pmL X0 X1 T) = a3 at *
  refine az4_apply _ _ _ _ Tz (fun h l q => safe (bm (x h l) q)) ?_ ?_ ?_ ?_ h q l
  · intro q l; rw [azSt_apply, e0, Nat.zero_add]
  · intro q l; rw [azSt_apply, e1, Nat.zero_add]
  · intro q l; rw [azSt_apply, e2]
  · intro q l; rw [azSt_apply, e3]

theorem swL_holds (Tz : List (View.Piece (Elt Ideal) S2x16x2x128 .bf16)) : HoldsW (View.canon (swL v (pmL X0 X1 T) Tz)) x := by
  intro h q par l
  have e0 := am0_apply X0 X1 x h0 h1 v T
  have e1 := am1_apply X0 X1 x h0 h1 v T
  have e2 := am2_apply X0 X1 x h0 h1 v T
  have e3 := am3_apply X0 X1 x h0 h1 v T
  unfold swL
  generalize am0 v (pmL X0 X1 T) = a0 at *
  generalize am1 v (pmL X0 X1 T) = a1 at *
  generalize am2 v (pmL X0 X1 T) = a2 at *
  generalize am3 v (pmL X0 X1 T) = a3 at *
  refine sw4_apply _ _ _ _ Tz (fun h l q => (slopeR : EReal) * Ideal.div 1 (safe (bm (x h l) q))) ?_ ?_ ?_ ?_ h q par l
  · intro q par l; rw [swSt_apply, e0, Nat.zero_add]
  · intro q par l; rw [swSt_apply, e1, Nat.zero_add]
  · intro q par l; rw [swSt_apply, e2]
  · intro q par l; rw [swSt_apply, e3]

end Cert.Proof.Stage

end
-- ==== Proof.Encode.lean ====
/- What the two stages compute: a chunk's words from what its buffers hold. -/
module

public import proofs.«01_k».proof.Proof.Reads2
public import proofs.«01_k».proof.Proof.PackTable

@[expose] public section

set_option maxRecDepth 16384

noncomputable section

namespace Cert.Proof.Stage

open Idealize.ShloMosaic Cert.KernelIdeal Cert.KernelIdeal.Gen Cert.Proof.Math Cert.Proof.Tile Cert.Proof.Words

/-- The codes of a row. -/
def cd (y : ℕ → EReal) (k : ℕ) : ℕ := code (y k) (bm y (k / 64))

/-- A word of eight codes. -/
def wordAt (c : ℕ → ℕ) (w : ℕ) : BitVec 32 :=
  BitVec.ofNat 32 (c (8 * w) + 16 * c (8 * w + 1) + 256 * c (8 * w + 2) + 4096 * c (8 * w + 3)
    + 65536 * (c (8 * w + 4) + 16 * c (8 * w + 5) + 256 * c (8 * w + 6) + 4096 * c (8 * w + 7)))

theorem cd_shift (y : ℕ → EReal) (n k : ℕ) : cd (fun k => y (64 * n + k)) k = cd y (64 * n + k) := by
  unfold cd bm
  rw [show (64 * n + k) / 64 = n + k / 64 by omega]
  simp only [Nat.mul_add, Nat.add_assoc]

/-- The table's rows and the packing weights. -/
def Tables (c0 c1 : FVec Ideal S8x128 .f32) (pack : FVec Ideal S64x256 .bf16) : Prop :=
  (∀ (r : Fin 8) (l : Fin 128), c0 (ix2 r l) = ((thrR r.val : ℝ) : EReal))
  ∧ (∀ (r : Fin 8) (l : Fin 128), c1 (ix2 r l) = ((thrR (8 + r.val) : ℝ) : EReal))
  ∧ ∀ (i : Fin 64) (k : Fin 256), pack (ix2 i k) = Ideal.ofBits .bf16 (PackTable.packBits i.val k.val)

theorem chunkT_apply (c0 c1 : FVec Ideal S8x128 .f32) (pack : FVec Ideal S64x256 .bf16) (hT : Tables c0 c1 pack)
    (s : Vec Ideal S1x128x2x128 .bf16) (sw : Vec Ideal S1x4x2x128 .bf16) (az : Vec Ideal S1x4x128 .f32) (l : Fin 128) (z : ℕ → EReal)
    (hs : ∀ (p : Fin 128) (par : Fin 2), s (ix4 0 p par l) = z (2 * p.val + par.val))
    (hw : ∀ b : Fin 4, sw (ix4 0 b 0 l) = (slopeR : EReal) * Ideal.div 1 (safe (bm z b.val)))
    (hz : ∀ b : Fin 4, az (ix3 0 b l) = safe (bm z b.val)) (k : Fin 256) :
    chunkT c0 c1 s sw az (ix2 k l) = ((((129 + cd z k.val : ℕ) : ℝ) / 8 : ℝ) : EReal) := by
  obtain ⟨hc0, hc1, -⟩ := hT
  have hk := k.isLt
  have hv : ∀ (i : Fin 256), k0_pay7 s (ix2 i l) = z i.val := by
    intro i
    have hi := i.isLt
    have := vs_apply s ⟨i.val / 2, by omega⟩ ⟨i.val % 2, by omega⟩ l
    rw [hs] at this
    have e : 2 * (i.val / 2) + i.val % 2 = i.val := by omega
    have ei : i = (⟨2 * (i.val / 2) + i.val % 2, by omega⟩ : Fin 256) := Fin.ext e.symm
    exact (congrArg (fun i => k0_pay7 s (ix2 i l)) ei).trans (this.trans (congrArg z e))
  have hsw : ∀ (b : Fin 4), k0_pay8 sw (ix2 ⟨2 * b.val, by have := b.isLt; omega⟩ l : S8x128.Idx) = (slopeR : EReal) * Ideal.div 1 (safe (bm z b.val)) :=
    fun b => (sw_apply sw b l).trans (hw b)
  have haz : ∀ (b : Fin 4), k0_pay9 az (ix2 b l) = safe (bm z b.val) := fun b => (az_apply az b l).trans (hz b)
  unfold chunkT
  generalize k0_pay7 s = V at hv ⊢
  generalize k0_pay8 sw = W at hsw ⊢
  generalize k0_pay9 az = Z at haz ⊢
  have hi : k = (⟨64 * (k.val / 64) + k.val % 64, by omega⟩ : Fin 256) := Fin.ext (by simp only; omega)
  have main : ∀ (b : Fin 4) (hb : k.val / 64 = b.val) (a : FVec Ideal S1x128 .f32) (sb : FVec Ideal S1x128 .bf16) (v : FVec Ideal S64x128 .bf16),
      a (ix2 0 l) = Z (ix2 b l) → sb (ix2 0 l) = W (ix2 ⟨2 * b.val, by have := b.isLt; omega⟩ l : S8x128.Idx) →
      (∀ i : Fin 64, v (ix2 i l) = V (ix2 ⟨64 * b.val + i.val, by have := b.isLt; have := i.isLt; omega⟩ l : S256x128.Idx)) →
      tileT c0 c1 a sb v (ix2 ⟨k.val % 64, by omega⟩ l : S64x128.Idx) = ((((129 + cd z k.val : ℕ) : ℝ) / 8 : ℝ) : EReal) := by
    intro b hb a sb v h1 h2 h3
    have := tileT_apply c0 c1 a sb v (bm z b.val) ⟨k.val % 8, by omega⟩ ⟨k.val % 64 / 8, by omega⟩ l (fun r => hc0 r l) (fun r => hc1 r l)
      (h1.trans (haz b)) (h2.trans (hsw b)) (z k.val)
      (by
        refine (h3 _).trans ((hv _).trans (congrArg z ?_))
        simp only
        omega)
      (by
        have := le_bmax (fun f : Fin 64 => z (64 * b.val + f.val)) ⟨k.val % 64, by omega⟩
        simp only at this
        rw [show 64 * b.val + k.val % 64 = k.val by omega] at this
        exact this)
    have ei : (ix2 ⟨k.val % 64, by omega⟩ l : S64x128.Idx) = ix2 ⟨8 * (k.val % 64 / 8) + k.val % 8, by omega⟩ l := by
      congr 1
      apply Fin.ext
      simp only
      omega
    rw [ei]
    refine this.trans ?_
    unfold cd
    rw [hb]
  have hcase : k.val / 64 = 0 ∨ k.val / 64 = 1 ∨ k.val / 64 = 2 ∨ k.val / 64 = 3 := by omega
  have hh := fun (X : Fin 4 → FVec Ideal S64x128 .bf16) (b : Fin 4) (hb : k.val / 64 = b.val) =>
    (congrArg (fun i => halfT (X 0) (X 1) (X 2) (X 3) (ix2 i l : S256x128.Idx)) (show k = (⟨64 * b.val + k.val % 64, by have := b.isLt; omega⟩ : Fin 256) from Fin.ext (by simp only; omega))).trans
      (halfT_apply X b ⟨k.val % 64, by omega⟩ l)
  rcases hcase with hb | hb | hb | hb
  · refine (hh ![_, _, _, _] 0 hb).trans (main 0 hb _ _ _ ?_ ?_ ?_)
    · pointwise
    · pointwise
    · intro i
      have := i.isLt
      pointwise
  · refine (hh ![_, _, _, _] 1 hb).trans (main 1 hb _ _ _ ?_ ?_ ?_)
    · pointwise
    · pointwise
    · intro i
      have := i.isLt
      pointwise
  · refine (hh ![_, _, _, _] 2 hb).trans (main 2 hb _ _ _ ?_ ?_ ?_)
    · pointwise
    · pointwise
    · intro i
      have := i.isLt
      pointwise
  · refine (hh ![_, _, _, _] 3 hb).trans (main 3 hb _ _ _ ?_ ?_ ?_)
    · pointwise
    · pointwise
    · intro i
      have := i.isLt
      pointwise

theorem wtile_apply (c0 c1 : FVec Ideal S8x128 .f32) (pack : FVec Ideal S64x256 .bf16) (hT : Tables c0 c1 pack)
    (s0 s1 : Vec Ideal S1x128x2x128 .bf16) (sw0 sw1 : Vec Ideal S1x4x2x128 .bf16) (az0 az1 : Vec Ideal S1x4x128 .f32)
    (kt : Fin 4) (x : Fin 2 → Fin 128 → ℕ → EReal)
    (hs0 : ∀ (p : Fin 128) (par : Fin 2) (l : Fin 128), s0 (ix4 0 p par l) = x 0 l (64 * (4 * kt.val) + (2 * p.val + par.val)))
    (hs1 : ∀ (p : Fin 128) (par : Fin 2) (l : Fin 128), s1 (ix4 0 p par l) = x 1 l (64 * (4 * kt.val) + (2 * p.val + par.val)))
    (hw0 : ∀ (b : Fin 4) (l : Fin 128), sw0 (ix4 0 b 0 l) = (slopeR : EReal) * Ideal.div 1 (safe (bm (x 0 l) (4 * kt.val + b.val))))
    (hw1 : ∀ (b : Fin 4) (l : Fin 128), sw1 (ix4 0 b 0 l) = (slopeR : EReal) * Ideal.div 1 (safe (bm (x 1 l) (4 * kt.val + b.val))))
    (hz0 : ∀ (b : Fin 4) (l : Fin 128), az0 (ix3 0 b l) = safe (bm (x 0 l) (4 * kt.val + b.val)))
    (hz1 : ∀ (b : Fin 4) (l : Fin 128), az1 (ix3 0 b l) = safe (bm (x 1 l) (4 * kt.val + b.val)))
    (w : Fin 32) (h : Fin 2) (l : Fin 128) :
    wtile c0 c1 pack s0 sw0 az0 s1 sw1 az1 (ix2 w ⟨128 * h.val + l.val, by have := h.isLt; have := l.isLt; omega⟩ : S32x256.Idx)
      = wordAt (cd (x h l)) (32 * kt.val + w.val) := by
  have hbm : ∀ (h : Fin 2) (b : Fin 4), bm (fun k => x h l (64 * (4 * kt.val) + k)) b.val = bm (x h l) (4 * kt.val + b.val) := by
    intro h b
    unfold bm
    congr 1
    funext f
    exact congrArg (x h l) (by omega)
  have key : ∀ k : Fin 256, (![chunkT c0 c1 s0 sw0 az0, chunkT c0 c1 s1 sw1 az1] : Fin 2 → FVec Ideal S256x128 .bf16) h (ix2 k l)
      = ((((129 + cd (fun k => x h l (64 * (4 * kt.val) + k)) k.val : ℕ) : ℝ) / 8 : ℝ) : EReal) := by
    intro k
    fin_vals h with hh
    · obtain rfl : h = 0 := Fin.ext hh
      exact chunkT_apply c0 c1 pack hT s0 sw0 az0 l _ (fun p par => hs0 p par l) (fun b => by rw [hbm]; exact hw0 b l) (fun b => by rw [hbm]; exact hz0 b l) k
    · obtain rfl : h = 1 := Fin.ext hh
      exact chunkT_apply c0 c1 pack hT s1 sw1 az1 l _ (fun p par => hs1 p par l) (fun b => by rw [hbm]; exact hw1 b l) (fun b => by rw [hbm]; exact hz1 b l) k
  have hw := w.isLt
  refine (wordT_apply _ (cd (fun k => x h l (64 * (4 * kt.val) + k))) (fun k => code_lt _ _) w _ fun q hq => ?_).trans ?_
  · exact accT_apply pack ![chunkT c0 c1 s0 sw0 az0, chunkT c0 c1 s1 sw1 az1] _ h l hT.2.2 key w.val q hw hq
  · unfold wordAt
    simp only [cd_shift]
    rw [show 8 * (32 * kt.val + w.val) = 64 * (4 * kt.val) + 8 * w.val by omega]
    rfl

/-! ## Reading the buffers -/

theorem rds_apply (v : View sig .tc .vmem S2x512x2x128 .bf16) (L : List (View.Piece (Elt Ideal) S2x512x2x128 .bf16)) (a o : ℕ) (inb)
    (p : Fin 128) (par : Fin 2) (l : Fin 128) (h : Fin 2) (i : Fin 512) (hh : h.val = a) (hi : i.val = o + p.val) :
    (v.readCov L (Rect.unit ![a, o, 0, 0] S1x128x2x128.size inb : Rect S2x512x2x128).toLoadRect : Vec Ideal S1x128x2x128 .bf16) (ix4 0 p par l) = View.canon L (ix4 h i par l) := by
  rw [View.readCov_eq_canon']
  refine View.ld_unit_apply_of (View.canon L) _ _ _ _ _ fun a => ?_
  fin_cases a <;> simp <;> omega

theorem rdw_apply (v : View sig .tc .vmem S2x16x2x128 .bf16) (L : List (View.Piece (Elt Ideal) S2x16x2x128 .bf16)) (a o : ℕ) (inb)
    (p : Fin 4) (par : Fin 2) (l : Fin 128) (h : Fin 2) (i : Fin 16) (hh : h.val = a) (hi : i.val = o + p.val) :
    (v.readCov L (Rect.unit ![a, o, 0, 0] S1x4x2x128.size inb : Rect S2x16x2x128).toLoadRect : Vec Ideal S1x4x2x128 .bf16) (ix4 0 p par l) = View.canon L (ix4 h i par l) := by
  rw [View.readCov_eq_canon']
  refine View.ld_unit_apply_of (View.canon L) _ _ _ _ _ fun a => ?_
  fin_cases a <;> simp <;> omega

theorem rdz_apply (v : View sig .tc .vmem S2x16x128 .f32) (L : List (View.Piece (Elt Ideal) S2x16x128 .f32)) (a o : ℕ) (inb)
    (p : Fin 4) (l : Fin 128) (h : Fin 2) (i : Fin 16) (hh : h.val = a) (hi : i.val = o + p.val) :
    (v.readCov L (Rect.unit ![a, o, 0] S1x4x128.size inb : Rect S2x16x128).toLoadRect : Vec Ideal S1x4x128 .f32) (ix3 0 p l) = View.canon L (ix3 h i l) := by
  rw [View.readCov_eq_canon']
  refine View.ld_unit_apply_of (View.canon L) _ _ _ _ _ fun a => ?_
  fin_cases a <;> simp <;> omega

theorem ras_apply (m : Memref sig .tc .vmem S2x512x2x128 .bf16) (hm : m.IsWhole) (X : Vec Ideal S2x512x2x128 .bf16) (a o : ℕ) (inb)
    (p : Fin 128) (par : Fin 2) (l : Fin 128) (h : Fin 2) (i : Fin 512) (hh : h.val = a) (hi : i.val = o + p.val) :
    (View.readAt (Elt Ideal) m.view (Rect.unit ![a, o, 0, 0] S1x128x2x128.size inb : Rect S2x512x2x128).toLoadRect (hm.unread X) : Vec Ideal S1x128x2x128 .bf16) (ix4 0 p par l) = X (ix4 h i par l) := by
  rw [View.readAt_eq_ld, hm.read_unread]
  refine View.ld_unit_apply_of X _ _ _ _ _ fun a => ?_
  fin_cases a <;> simp <;> omega

theorem raw_apply (m : Memref sig .tc .vmem S2x16x2x128 .bf16) (hm : m.IsWhole) (X : Vec Ideal S2x16x2x128 .bf16) (a o : ℕ) (inb)
    (p : Fin 4) (par : Fin 2) (l : Fin 128) (h : Fin 2) (i : Fin 16) (hh : h.val = a) (hi : i.val = o + p.val) :
    (View.readAt (Elt Ideal) m.view (Rect.unit ![a, o, 0, 0] S1x4x2x128.size inb : Rect S2x16x2x128).toLoadRect (hm.unread X) : Vec Ideal S1x4x2x128 .bf16) (ix4 0 p par l) = X (ix4 h i par l) := by
  rw [View.readAt_eq_ld, hm.read_unread]
  refine View.ld_unit_apply_of X _ _ _ _ _ fun a => ?_
  fin_cases a <;> simp <;> omega

theorem raz_apply (m : Memref sig .tc .vmem S2x16x128 .f32) (hm : m.IsWhole) (X : Vec Ideal S2x16x128 .f32) (a o : ℕ) (inb)
    (p : Fin 4) (l : Fin 128) (h : Fin 2) (i : Fin 16) (hh : h.val = a) (hi : i.val = o + p.val) :
    (View.readAt (Elt Ideal) m.view (Rect.unit ![a, o, 0] S1x4x128.size inb : Rect S2x16x128).toLoadRect (hm.unread X) : Vec Ideal S1x4x128 .f32) (ix3 0 p l) = X (ix3 h i l) := by
  rw [View.readAt_eq_ld, hm.read_unread]
  refine View.ld_unit_apply_of X _ _ _ _ _ fun a => ?_
  fin_cases a <;> simp <;> omega

theorem wst_apply (c0 c1 : FVec Ideal S8x128 .f32) (pack : FVec Ideal S64x256 .bf16) (hT : Tables c0 c1 pack) (vs : View sig .tc .vmem S2x512x2x128 .bf16) (Ls : List (View.Piece (Elt Ideal) S2x512x2x128 .bf16))
    (vw : View sig .tc .vmem S2x16x2x128 .bf16) (Lw : List (View.Piece (Elt Ideal) S2x16x2x128 .bf16)) (vz : View sig .tc .vmem S2x16x128 .f32) (Lz : List (View.Piece (Elt Ideal) S2x16x128 .f32))
    (x : Fin 2 → Fin 128 → ℕ → EReal) (HS : HoldsS (View.canon Ls) x) (HW : HoldsW (View.canon Lw) x) (HZ : HoldsZ (View.canon Lz) x) (w : Fin 128) (h : Fin 2) (l : Fin 128) :
    wst c0 c1 pack vs Ls vw Lw vz Lz (ix2 w ⟨128 * h.val + l.val, by have := h.isLt; have := l.isLt; omega⟩ : S128x256.Idx) = wordAt (cd (x h l)) w.val := by
  have hwl := w.isLt
  have hcase : w.val / 32 = 0 ∨ w.val / 32 = 1 ∨ w.val / 32 = 2 ∨ w.val / 32 = 3 := by omega
  have hh := fun (X : Fin 4 → IVec S32x256 32) (b : Fin 4) (hb : w.val / 32 = b.val) (l : Fin 256) =>
    (congrArg (fun i => stackT (X 0) (X 1) (X 2) (X 3) (ix2 i l : S128x256.Idx)) (show w = (⟨32 * b.val + w.val % 32, by have := b.isLt; omega⟩ : Fin 128) from Fin.ext (by simp only; omega))).trans
      (stackT_apply X b ⟨w.val % 32, by omega⟩ l)
  have fin : ∀ kt : ℕ, w.val / 32 = kt → wordAt (cd (x h l)) (32 * kt + w.val % 32) = wordAt (cd (x h l)) w.val := by
    intro kt hk
    rw [show 32 * kt + w.val % 32 = w.val by omega]
  unfold wst
  rcases hcase with hb | hb | hb | hb
  · refine (hh ![_, _, _, _] 0 hb _).trans (Eq.trans ?_ (fin 0 hb))
    show wt0 c0 c1 pack vs Ls vw Lw vz Lz _ = _
    unfold wt0
    refine wtile_apply c0 c1 pack hT _ _ _ _ _ _ 0 x ?_ ?_ ?_ ?_ ?_ ?_ ⟨w.val % 32, by omega⟩ h l
    · intro p par l
      exact (rds_apply vs Ls 0 0 _ p par l 0 ⟨0 + p.val, by omega⟩ rfl rfl).trans ((HS _ _ _ _).trans (congrArg (x 0 l) (by show 2 * (0 + p.val) + par.val = 64 * (4 * 0) + (2 * p.val + par.val); omega)))
    · intro p par l
      exact (rds_apply vs Ls 1 0 _ p par l 1 ⟨0 + p.val, by omega⟩ rfl rfl).trans ((HS _ _ _ _).trans (congrArg (x 1 l) (by show 2 * (0 + p.val) + par.val = 64 * (4 * 0) + (2 * p.val + par.val); omega)))
    · intro b l
      exact (rdw_apply vw Lw 0 0 _ b 0 l 0 ⟨0 + b.val, by omega⟩ rfl rfl).trans (HW _ _ _ _)
    · intro b l
      exact (rdw_apply vw Lw 1 0 _ b 0 l 1 ⟨0 + b.val, by omega⟩ rfl rfl).trans (HW _ _ _ _)
    · intro b l
      exact (rdz_apply vz Lz 0 0 _ b l 0 ⟨0 + b.val, by omega⟩ rfl rfl).trans (HZ _ _ _)
    · intro b l
      exact (rdz_apply vz Lz 1 0 _ b l 1 ⟨0 + b.val, by omega⟩ rfl rfl).trans (HZ _ _ _)
  · refine (hh ![_, _, _, _] 1 hb _).trans (Eq.trans ?_ (fin 1 hb))
    show wt1 c0 c1 pack vs Ls vw Lw vz Lz _ = _
    unfold wt1
    refine wtile_apply c0 c1 pack hT _ _ _ _ _ _ 1 x ?_ ?_ ?_ ?_ ?_ ?_ ⟨w.val % 32, by omega⟩ h l
    · intro p par l
      exact (rds_apply vs Ls 0 128 _ p par l 0 ⟨128 + p.val, by omega⟩ rfl rfl).trans ((HS _ _ _ _).trans (congrArg (x 0 l) (by show 2 * (128 + p.val) + par.val = 64 * (4 * 1) + (2 * p.val + par.val); omega)))
    · intro p par l
      exact (rds_apply vs Ls 1 128 _ p par l 1 ⟨128 + p.val, by omega⟩ rfl rfl).trans ((HS _ _ _ _).trans (congrArg (x 1 l) (by show 2 * (128 + p.val) + par.val = 64 * (4 * 1) + (2 * p.val + par.val); omega)))
    · intro b l
      exact (rdw_apply vw Lw 0 4 _ b 0 l 0 ⟨4 + b.val, by omega⟩ rfl rfl).trans (HW _ _ _ _)
    · intro b l
      exact (rdw_apply vw Lw 1 4 _ b 0 l 1 ⟨4 + b.val, by omega⟩ rfl rfl).trans (HW _ _ _ _)
    · intro b l
      exact (rdz_apply vz Lz 0 4 _ b l 0 ⟨4 + b.val, by omega⟩ rfl rfl).trans (HZ _ _ _)
    · intro b l
      exact (rdz_apply vz Lz 1 4 _ b l 1 ⟨4 + b.val, by omega⟩ rfl rfl).trans (HZ _ _ _)
  · refine (hh ![_, _, _, _] 2 hb _).trans (Eq.trans ?_ (fin 2 hb))
    show wt2 c0 c1 pack vs Ls vw Lw vz Lz _ = _
    unfold wt2
    refine wtile_apply c0 c1 pack hT _ _ _ _ _ _ 2 x ?_ ?_ ?_ ?_ ?_ ?_ ⟨w.val % 32, by omega⟩ h l
    · intro p par l
      exact (rds_apply vs Ls 0 256 _ p par l 0 ⟨256 + p.val, by omega⟩ rfl rfl).trans ((HS _ _ _ _).trans (congrArg (x 0 l) (by show 2 * (256 + p.val) + par.val = 64 * (4 * 2) + (2 * p.val + par.val); omega)))
    · intro p par l
      exact (rds_apply vs Ls 1 256 _ p par l 1 ⟨256 + p.val, by omega⟩ rfl rfl).trans ((HS _ _ _ _).trans (congrArg (x 1 l) (by show 2 * (256 + p.val) + par.val = 64 * (4 * 2) + (2 * p.val + par.val); omega)))
    · intro b l
      exact (rdw_apply vw Lw 0 8 _ b 0 l 0 ⟨8 + b.val, by omega⟩ rfl rfl).trans (HW _ _ _ _)
    · intro b l
      exact (rdw_apply vw Lw 1 8 _ b 0 l 1 ⟨8 + b.val, by omega⟩ rfl rfl).trans (HW _ _ _ _)
    · intro b l
      exact (rdz_apply vz Lz 0 8 _ b l 0 ⟨8 + b.val, by omega⟩ rfl rfl).trans (HZ _ _ _)
    · intro b l
      exact (rdz_apply vz Lz 1 8 _ b l 1 ⟨8 + b.val, by omega⟩ rfl rfl).trans (HZ _ _ _)
  · refine (hh ![_, _, _, _] 3 hb _).trans (Eq.trans ?_ (fin 3 hb))
    show wt3 c0 c1 pack vs Ls vw Lw vz Lz _ = _
    unfold wt3
    refine wtile_apply c0 c1 pack hT _ _ _ _ _ _ 3 x ?_ ?_ ?_ ?_ ?_ ?_ ⟨w.val % 32, by omega⟩ h l
    · intro p par l
      exact (rds_apply vs Ls 0 384 _ p par l 0 ⟨384 + p.val, by omega⟩ rfl rfl).trans ((HS _ _ _ _).trans (congrArg (x 0 l) (by show 2 * (384 + p.val) + par.val = 64 * (4 * 3) + (2 * p.val + par.val); omega)))
    · intro p par l
      exact (rds_apply vs Ls 1 384 _ p par l 1 ⟨384 + p.val, by omega⟩ rfl rfl).trans ((HS _ _ _ _).trans (congrArg (x 1 l) (by show 2 * (384 + p.val) + par.val = 64 * (4 * 3) + (2 * p.val + par.val); omega)))
    · intro b l
      exact (rdw_apply vw Lw 0 12 _ b 0 l 0 ⟨12 + b.val, by omega⟩ rfl rfl).trans (HW _ _ _ _)
    · intro b l
      exact (rdw_apply vw Lw 1 12 _ b 0 l 1 ⟨12 + b.val, by omega⟩ rfl rfl).trans (HW _ _ _ _)
    · intro b l
      exact (rdz_apply vz Lz 0 12 _ b l 0 ⟨12 + b.val, by omega⟩ rfl rfl).trans (HZ _ _ _)
    · intro b l
      exact (rdz_apply vz Lz 1 12 _ b l 1 ⟨12 + b.val, by omega⟩ rfl rfl).trans (HZ _ _ _)

theorem wrst_apply (c0 c1 : FVec Ideal S8x128 .f32) (pack : FVec Ideal S64x256 .bf16) (hT : Tables c0 c1 pack) (ms : Memref sig .tc .vmem S2x512x2x128 .bf16) (hs : ms.IsWhole) (xs : Vec Ideal S2x512x2x128 .bf16)
    (mw : Memref sig .tc .vmem S2x16x2x128 .bf16) (hw : mw.IsWhole) (xw : Vec Ideal S2x16x2x128 .bf16) (mz : Memref sig .tc .vmem S2x16x128 .f32) (hz : mz.IsWhole) (xz : Vec Ideal S2x16x128 .f32)
    (x : Fin 2 → Fin 128 → ℕ → EReal) (HS : HoldsS xs x) (HW : HoldsW xw x) (HZ : HoldsZ xz x) (w : Fin 128) (h : Fin 2) (l : Fin 128) :
    wrst c0 c1 pack ms hs xs mw hw xw mz hz xz (ix2 w ⟨128 * h.val + l.val, by have := h.isLt; have := l.isLt; omega⟩ : S128x256.Idx) = wordAt (cd (x h l)) w.val := by
  have hwl := w.isLt
  have hcase : w.val / 32 = 0 ∨ w.val / 32 = 1 ∨ w.val / 32 = 2 ∨ w.val / 32 = 3 := by omega
  have hh := fun (X : Fin 4 → IVec S32x256 32) (b : Fin 4) (hb : w.val / 32 = b.val) (l : Fin 256) =>
    (congrArg (fun i => stackT (X 0) (X 1) (X 2) (X 3) (ix2 i l : S128x256.Idx)) (show w = (⟨32 * b.val + w.val % 32, by have := b.isLt; omega⟩ : Fin 128) from Fin.ext (by simp only; omega))).trans
      (stackT_apply X b ⟨w.val % 32, by omega⟩ l)
  have fin : ∀ kt : ℕ, w.val / 32 = kt → wordAt (cd (x h l)) (32 * kt + w.val % 32) = wordAt (cd (x h l)) w.val := by
    intro kt hk
    rw [show 32 * kt + w.val % 32 = w.val by omega]
  unfold wrst
  rcases hcase with hb | hb | hb | hb
  · refine (hh ![_, _, _, _] 0 hb _).trans (Eq.trans ?_ (fin 0 hb))
    show wr0 c0 c1 pack ms hs xs mw hw xw mz hz xz _ = _
    unfold wr0
    refine wtile_apply c0 c1 pack hT _ _ _ _ _ _ 0 x ?_ ?_ ?_ ?_ ?_ ?_ ⟨w.val % 32, by omega⟩ h l
    · intro p par l
      exact (ras_apply ms hs xs 0 0 _ p par l 0 ⟨0 + p.val, by omega⟩ rfl rfl).trans ((HS _ _ _ _).trans (congrArg (x 0 l) (by show 2 * (0 + p.val) + par.val = 64 * (4 * 0) + (2 * p.val + par.val); omega)))
    · intro p par l
      exact (ras_apply ms hs xs 1 0 _ p par l 1 ⟨0 + p.val, by omega⟩ rfl rfl).trans ((HS _ _ _ _).trans (congrArg (x 1 l) (by show 2 * (0 + p.val) + par.val = 64 * (4 * 0) + (2 * p.val + par.val); omega)))
    · intro b l
      exact (raw_apply mw hw xw 0 0 _ b 0 l 0 ⟨0 + b.val, by omega⟩ rfl rfl).trans (HW _ _ _ _)
    · intro b l
      exact (raw_apply mw hw xw 1 0 _ b 0 l 1 ⟨0 + b.val, by omega⟩ rfl rfl).trans (HW _ _ _ _)
    · intro b l
      exact (raz_apply mz hz xz 0 0 _ b l 0 ⟨0 + b.val, by omega⟩ rfl rfl).trans (HZ _ _ _)
    · intro b l
      exact (raz_apply mz hz xz 1 0 _ b l 1 ⟨0 + b.val, by omega⟩ rfl rfl).trans (HZ _ _ _)
  · refine (hh ![_, _, _, _] 1 hb _).trans (Eq.trans ?_ (fin 1 hb))
    show wr1 c0 c1 pack ms hs xs mw hw xw mz hz xz _ = _
    unfold wr1
    refine wtile_apply c0 c1 pack hT _ _ _ _ _ _ 1 x ?_ ?_ ?_ ?_ ?_ ?_ ⟨w.val % 32, by omega⟩ h l
    · intro p par l
      exact (ras_apply ms hs xs 0 128 _ p par l 0 ⟨128 + p.val, by omega⟩ rfl rfl).trans ((HS _ _ _ _).trans (congrArg (x 0 l) (by show 2 * (128 + p.val) + par.val = 64 * (4 * 1) + (2 * p.val + par.val); omega)))
    · intro p par l
      exact (ras_apply ms hs xs 1 128 _ p par l 1 ⟨128 + p.val, by omega⟩ rfl rfl).trans ((HS _ _ _ _).trans (congrArg (x 1 l) (by show 2 * (128 + p.val) + par.val = 64 * (4 * 1) + (2 * p.val + par.val); omega)))
    · intro b l
      exact (raw_apply mw hw xw 0 4 _ b 0 l 0 ⟨4 + b.val, by omega⟩ rfl rfl).trans (HW _ _ _ _)
    · intro b l
      exact (raw_apply mw hw xw 1 4 _ b 0 l 1 ⟨4 + b.val, by omega⟩ rfl rfl).trans (HW _ _ _ _)
    · intro b l
      exact (raz_apply mz hz xz 0 4 _ b l 0 ⟨4 + b.val, by omega⟩ rfl rfl).trans (HZ _ _ _)
    · intro b l
      exact (raz_apply mz hz xz 1 4 _ b l 1 ⟨4 + b.val, by omega⟩ rfl rfl).trans (HZ _ _ _)
  · refine (hh ![_, _, _, _] 2 hb _).trans (Eq.trans ?_ (fin 2 hb))
    show wr2 c0 c1 pack ms hs xs mw hw xw mz hz xz _ = _
    unfold wr2
    refine wtile_apply c0 c1 pack hT _ _ _ _ _ _ 2 x ?_ ?_ ?_ ?_ ?_ ?_ ⟨w.val % 32, by omega⟩ h l
    · intro p par l
      exact (ras_apply ms hs xs 0 256 _ p par l 0 ⟨256 + p.val, by omega⟩ rfl rfl).trans ((HS _ _ _ _).trans (congrArg (x 0 l) (by show 2 * (256 + p.val) + par.val = 64 * (4 * 2) + (2 * p.val + par.val); omega)))
    · intro p par l
      exact (ras_apply ms hs xs 1 256 _ p par l 1 ⟨256 + p.val, by omega⟩ rfl rfl).trans ((HS _ _ _ _).trans (congrArg (x 1 l) (by show 2 * (256 + p.val) + par.val = 64 * (4 * 2) + (2 * p.val + par.val); omega)))
    · intro b l
      exact (raw_apply mw hw xw 0 8 _ b 0 l 0 ⟨8 + b.val, by omega⟩ rfl rfl).trans (HW _ _ _ _)
    · intro b l
      exact (raw_apply mw hw xw 1 8 _ b 0 l 1 ⟨8 + b.val, by omega⟩ rfl rfl).trans (HW _ _ _ _)
    · intro b l
      exact (raz_apply mz hz xz 0 8 _ b l 0 ⟨8 + b.val, by omega⟩ rfl rfl).trans (HZ _ _ _)
    · intro b l
      exact (raz_apply mz hz xz 1 8 _ b l 1 ⟨8 + b.val, by omega⟩ rfl rfl).trans (HZ _ _ _)
  · refine (hh ![_, _, _, _] 3 hb _).trans (Eq.trans ?_ (fin 3 hb))
    show wr3 c0 c1 pack ms hs xs mw hw xw mz hz xz _ = _
    unfold wr3
    refine wtile_apply c0 c1 pack hT _ _ _ _ _ _ 3 x ?_ ?_ ?_ ?_ ?_ ?_ ⟨w.val % 32, by omega⟩ h l
    · intro p par l
      exact (ras_apply ms hs xs 0 384 _ p par l 0 ⟨384 + p.val, by omega⟩ rfl rfl).trans ((HS _ _ _ _).trans (congrArg (x 0 l) (by show 2 * (384 + p.val) + par.val = 64 * (4 * 3) + (2 * p.val + par.val); omega)))
    · intro p par l
      exact (ras_apply ms hs xs 1 384 _ p par l 1 ⟨384 + p.val, by omega⟩ rfl rfl).trans ((HS _ _ _ _).trans (congrArg (x 1 l) (by show 2 * (384 + p.val) + par.val = 64 * (4 * 3) + (2 * p.val + par.val); omega)))
    · intro b l
      exact (raw_apply mw hw xw 0 12 _ b 0 l 0 ⟨12 + b.val, by omega⟩ rfl rfl).trans (HW _ _ _ _)
    · intro b l
      exact (raw_apply mw hw xw 1 12 _ b 0 l 1 ⟨12 + b.val, by omega⟩ rfl rfl).trans (HW _ _ _ _)
    · intro b l
      exact (raz_apply mz hz xz 0 12 _ b l 0 ⟨12 + b.val, by omega⟩ rfl rfl).trans (HZ _ _ _)
    · intro b l
      exact (raz_apply mz hz xz 1 12 _ b l 1 ⟨12 + b.val, by omega⟩ rfl rfl).trans (HZ _ _ _)

theorem wout0_apply (w : IVec S128x256 32) (l p : Fin 128) : wout0 w (ix2 l p) = w (ix2 p ⟨128 * 0 + l.val, by have := l.isLt; omega⟩ : S128x256.Idx) := by
  have := l.isLt
  unfold wout0
  pointwise
  try (congr 2; apply Fin.ext; simp only; omega)

theorem wout1_apply (w : IVec S128x256 32) (l p : Fin 128) : wout1 w (ix2 l p) = w (ix2 p ⟨128 * 1 + l.val, by have := l.isLt; omega⟩ : S128x256.Idx) := by
  have := l.isLt
  unfold wout1
  pointwise
  try (congr 2; apply Fin.ext; simp only; omega)

end Cert.Proof.Stage

end
-- ==== Proof.PieceVal.lean ====
/- What the lists of stores hold: the words of a row block, its largest magnitudes, what is carried. -/
module

public import proofs.«01_k».proof.Proof.Encode
public import Idealize.ShloMosaic.Lib.WritesUnit

@[expose] public section

set_option maxRecDepth 16384

noncomputable section

namespace Cert.Proof.Stage

open Idealize.ShloMosaic Cert.KernelIdeal Cert.KernelIdeal.Gen Cert.Proof.Math Cert.Proof.Tile Cert.Proof.Words

theorem rd0_apply (a : Memref sig .tc .vmem S256x128 .bf16) (h : a.IsWhole) (x : Vec Ideal S256x128 .bf16) (r k : Fin 128) :
    rd0 a h x (ix2 r k) = x (ix2 ⟨r.val, by have := r.isLt; omega⟩ k) := by
  unfold rd0
  rw [View.readAt_eq_ld, h.read_unread]
  refine View.ld_unit_apply_of x _ _ _ _ _ fun a => ?_
  fin_cases a <;> simp

theorem rd1_apply (a : Memref sig .tc .vmem S256x128 .bf16) (h : a.IsWhole) (x : Vec Ideal S256x128 .bf16) (r k : Fin 128) :
    rd1 a h x (ix2 r k) = x (ix2 ⟨128 + r.val, by have := r.isLt; omega⟩ k) := by
  unfold rd1
  rw [View.readAt_eq_ld, h.read_unread]
  refine View.ld_unit_apply_of x _ _ _ _ _ fun a => ?_
  fin_cases a <;> simp

/-- Eight tiles of 256 rows hold the features of a chunk. -/
def HoldsB (X : Fin 8 → Vec Ideal S256x128 .bf16) (y : ℕ → ℕ → EReal) : Prop :=
  ∀ (t : Fin 8) (r : Fin 256) (k : Fin 128), X t (ix2 r k) = y r.val (128 * t.val + k.val)

theorem tiles0 (a0 : Memref sig .tc .vmem S256x128 .bf16) (h0 : a0.IsWhole) (a1 : Memref sig .tc .vmem S256x128 .bf16) (h1 : a1.IsWhole) (a2 : Memref sig .tc .vmem S256x128 .bf16) (h2 : a2.IsWhole) (a3 : Memref sig .tc .vmem S256x128 .bf16) (h3 : a3.IsWhole) (a4 : Memref sig .tc .vmem S256x128 .bf16) (h4 : a4.IsWhole) (a5 : Memref sig .tc .vmem S256x128 .bf16) (h5 : a5.IsWhole) (a6 : Memref sig .tc .vmem S256x128 .bf16) (h6 : a6.IsWhole) (a7 : Memref sig .tc .vmem S256x128 .bf16) (h7 : a7.IsWhole)
    (x0 x1 x2 x3 x4 x5 x6 x7 : Vec Ideal S256x128 .bf16) (y : ℕ → ℕ → EReal) (hx : HoldsB ![x0, x1, x2, x3, x4, x5, x6, x7] y) :
    HoldsT ![rd0 a0 h0 x0, rd0 a1 h1 x1, rd0 a2 h2 x2, rd0 a3 h3 x3, rd0 a4 h4 x4, rd0 a5 h5 x5, rd0 a6 h6 x6, rd0 a7 h7 x7] (fun r k => y (128 * 0 + r.val) k) := by
  intro t r k
  fin_vals t with ht
  · obtain rfl : t = 0 := Fin.ext ht
    exact (rd0_apply a0 h0 x0 r k).trans ((hx 0 _ k).trans (congrArg (fun i => y i _) (by simp only <;> omega)))
  · obtain rfl : t = 1 := Fin.ext ht
    exact (rd0_apply a1 h1 x1 r k).trans ((hx 1 _ k).trans (congrArg (fun i => y i _) (by simp only <;> omega)))
  · obtain rfl : t = 2 := Fin.ext ht
    exact (rd0_apply a2 h2 x2 r k).trans ((hx 2 _ k).trans (congrArg (fun i => y i _) (by simp only <;> omega)))
  · obtain rfl : t = 3 := Fin.ext ht
    exact (rd0_apply a3 h3 x3 r k).trans ((hx 3 _ k).trans (congrArg (fun i => y i _) (by simp only <;> omega)))
  · obtain rfl : t = 4 := Fin.ext ht
    exact (rd0_apply a4 h4 x4 r k).trans ((hx 4 _ k).trans (congrArg (fun i => y i _) (by simp only <;> omega)))
  · obtain rfl : t = 5 := Fin.ext ht
    exact (rd0_apply a5 h5 x5 r k).trans ((hx 5 _ k).trans (congrArg (fun i => y i _) (by simp only <;> omega)))
  · obtain rfl : t = 6 := Fin.ext ht
    exact (rd0_apply a6 h6 x6 r k).trans ((hx 6 _ k).trans (congrArg (fun i => y i _) (by simp only <;> omega)))
  · obtain rfl : t = 7 := Fin.ext ht
    exact (rd0_apply a7 h7 x7 r k).trans ((hx 7 _ k).trans (congrArg (fun i => y i _) (by simp only <;> omega)))

theorem tiles1 (a0 : Memref sig .tc .vmem S256x128 .bf16) (h0 : a0.IsWhole) (a1 : Memref sig .tc .vmem S256x128 .bf16) (h1 : a1.IsWhole) (a2 : Memref sig .tc .vmem S256x128 .bf16) (h2 : a2.IsWhole) (a3 : Memref sig .tc .vmem S256x128 .bf16) (h3 : a3.IsWhole) (a4 : Memref sig .tc .vmem S256x128 .bf16) (h4 : a4.IsWhole) (a5 : Memref sig .tc .vmem S256x128 .bf16) (h5 : a5.IsWhole) (a6 : Memref sig .tc .vmem S256x128 .bf16) (h6 : a6.IsWhole) (a7 : Memref sig .tc .vmem S256x128 .bf16) (h7 : a7.IsWhole)
    (x0 x1 x2 x3 x4 x5 x6 x7 : Vec Ideal S256x128 .bf16) (y : ℕ → ℕ → EReal) (hx : HoldsB ![x0, x1, x2, x3, x4, x5, x6, x7] y) :
    HoldsT ![rd1 a0 h0 x0, rd1 a1 h1 x1, rd1 a2 h2 x2, rd1 a3 h3 x3, rd1 a4 h4 x4, rd1 a5 h5 x5, rd1 a6 h6 x6, rd1 a7 h7 x7] (fun r k => y (128 * 1 + r.val) k) := by
  intro t r k
  fin_vals t with ht
  · obtain rfl : t = 0 := Fin.ext ht
    exact (rd1_apply a0 h0 x0 r k).trans ((hx 0 _ k).trans (congrArg (fun i => y i _) (by simp only <;> omega)))
  · obtain rfl : t = 1 := Fin.ext ht
    exact (rd1_apply a1 h1 x1 r k).trans ((hx 1 _ k).trans (congrArg (fun i => y i _) (by simp only <;> omega)))
  · obtain rfl : t = 2 := Fin.ext ht
    exact (rd1_apply a2 h2 x2 r k).trans ((hx 2 _ k).trans (congrArg (fun i => y i _) (by simp only <;> omega)))
  · obtain rfl : t = 3 := Fin.ext ht
    exact (rd1_apply a3 h3 x3 r k).trans ((hx 3 _ k).trans (congrArg (fun i => y i _) (by simp only <;> omega)))
  · obtain rfl : t = 4 := Fin.ext ht
    exact (rd1_apply a4 h4 x4 r k).trans ((hx 4 _ k).trans (congrArg (fun i => y i _) (by simp only <;> omega)))
  · obtain rfl : t = 5 := Fin.ext ht
    exact (rd1_apply a5 h5 x5 r k).trans ((hx 5 _ k).trans (congrArg (fun i => y i _) (by simp only <;> omega)))
  · obtain rfl : t = 6 := Fin.ext ht
    exact (rd1_apply a6 h6 x6 r k).trans ((hx 6 _ k).trans (congrArg (fun i => y i _) (by simp only <;> omega)))
  · obtain rfl : t = 7 := Fin.ext ht
    exact (rd1_apply a7 h7 x7 r k).trans ((hx 7 _ k).trans (congrArg (fun i => y i _) (by simp only <;> omega)))

/-- The values of a row block's chunk, half by half. -/
def xc (y : ℕ → ℕ → EReal) (j : ℕ) (h : Fin 2) (l : Fin 128) (k : ℕ) : EReal := y (128 * h.val + l.val) (64 * (16 * j) + k)

theorem bm_xc (y : ℕ → ℕ → EReal) (j : ℕ) (h : Fin 2) (l : Fin 128) (q : ℕ) : bm (xc y j h l) q = bm (y (128 * h.val + l.val)) (16 * j + q) := by
  unfold bm xc
  congr 1
  funext f
  exact congrArg (y (128 * h.val + l.val)) (by omega)

theorem word_xc (y : ℕ → ℕ → EReal) (j : ℕ) (h : Fin 2) (l : Fin 128) (w : ℕ) :
    wordAt (cd (xc y j h l)) w = wordAt (cd (y (128 * h.val + l.val))) (128 * j + w) := by
  unfold wordAt xc
  simp only [cd_shift]
  rw [show 8 * (128 * j + w) = 64 * (16 * j) + 8 * w by omega]
  rfl

/-- The words of a row block, from its four chunks' words. -/
theorem words_apply (w0 w1 w2 w3 : IVec S128x256 32) (y : ℕ → ℕ → EReal)
    (H0 : ∀ (w : Fin 128) (h : Fin 2) (l : Fin 128), w0 (ix2 w ⟨128 * h.val + l.val, by have := h.isLt; have := l.isLt; omega⟩ : S128x256.Idx) = wordAt (cd (xc y 0 h l)) w.val)
    (H1 : ∀ (w : Fin 128) (h : Fin 2) (l : Fin 128), w1 (ix2 w ⟨128 * h.val + l.val, by have := h.isLt; have := l.isLt; omega⟩ : S128x256.Idx) = wordAt (cd (xc y 1 h l)) w.val)
    (H2 : ∀ (w : Fin 128) (h : Fin 2) (l : Fin 128), w2 (ix2 w ⟨128 * h.val + l.val, by have := h.isLt; have := l.isLt; omega⟩ : S128x256.Idx) = wordAt (cd (xc y 2 h l)) w.val)
    (H3 : ∀ (w : Fin 128) (h : Fin 2) (l : Fin 128), w3 (ix2 w ⟨128 * h.val + l.val, by have := h.isLt; have := l.isLt; omega⟩ : S128x256.Idx) = wordAt (cd (xc y 3 h l)) w.val)
    (i : Fin 256) (k : Fin 512) :
    View.canon ([
      ⟨(Rect.unit ![128, 384] S128x128.size inb_S256x512_S128x128_128_384 : Rect S256x512), wout1 w3⟩,
      ⟨(Rect.unit ![0, 384] S128x128.size inb_S256x512_S128x128_0_384 : Rect S256x512), wout0 w3⟩,
      ⟨(Rect.unit ![128, 256] S128x128.size inb_S256x512_S128x128_128_256 : Rect S256x512), wout1 w2⟩,
      ⟨(Rect.unit ![0, 256] S128x128.size inb_S256x512_S128x128_0_256 : Rect S256x512), wout0 w2⟩,
      ⟨(Rect.unit ![128, 128] S128x128.size inb_S256x512_S128x128_128_128 : Rect S256x512), wout1 w1⟩,
      ⟨(Rect.unit ![0, 128] S128x128.size inb_S256x512_S128x128_0_128 : Rect S256x512), wout0 w1⟩,
      ⟨(Rect.unit ![128, 0] S128x128.size inb_S256x512_S128x128_128_0 : Rect S256x512), wout1 w0⟩,
      ⟨(Rect.unit ![0, 0] S128x128.size inb_S256x512_S128x128_0_0 : Rect S256x512), wout0 w0⟩] : List (View.Piece (Elt Ideal) S256x512 .i32)) (ix2 i k) = wordAt (cd (y i.val)) k.val := by
  have hi := i.isLt
  have hk := k.isLt
  have hcase : (i.val / 128 = 0 ∨ i.val / 128 = 1) ∧ (k.val / 128 = 0 ∨ k.val / 128 = 1 ∨ k.val / 128 = 2 ∨ k.val / 128 = 3) := by omega
  obtain ⟨hI, hK⟩ := hcase
  rcases hI with hI | hI <;> rcases hK with hK | hK | hK | hK
  · refine (canon_out _ _ _ _ 0 (Or.inl (show i.val < 128 by omega))).trans ?_
    refine (canon_out _ _ _ _ 1 (Or.inl (show k.val < 384 by omega))).trans ?_
    refine (canon_out _ _ _ _ 0 (Or.inl (show i.val < 128 by omega))).trans ?_
    refine (canon_out _ _ _ _ 1 (Or.inl (show k.val < 256 by omega))).trans ?_
    refine (canon_out _ _ _ _ 0 (Or.inl (show i.val < 128 by omega))).trans ?_
    refine (canon_out _ _ _ _ 1 (Or.inl (show k.val < 128 by omega))).trans ?_
    refine (canon_out _ _ _ _ 0 (Or.inl (show i.val < 128 by omega))).trans ?_
    refine (canon_in _ _ _ _ (ix2 ⟨i.val % 128, by omega⟩ ⟨k.val % 128, by omega⟩ : S128x128.Idx) fun a => ?_).trans ?_
    · fin_cases a
      · show i.val = 0 + i.val % 128
        omega
      · show k.val = 0 + k.val % 128
        omega
    · refine (wout0_apply w0 _ _).trans ((H0 ⟨k.val % 128, by omega⟩ 0 ⟨i.val % 128, by omega⟩).trans ((word_xc y 0 0 _ _).trans ?_))
      show wordAt (cd (y (128 * 0 + i.val % 128))) (128 * 0 + k.val % 128) = _
      rw [show 128 * 0 + i.val % 128 = i.val by omega, show 128 * 0 + k.val % 128 = k.val by omega]
  · refine (canon_out _ _ _ _ 0 (Or.inl (show i.val < 128 by omega))).trans ?_
    refine (canon_out _ _ _ _ 1 (Or.inl (show k.val < 384 by omega))).trans ?_
    refine (canon_out _ _ _ _ 0 (Or.inl (show i.val < 128 by omega))).trans ?_
    refine (canon_out _ _ _ _ 1 (Or.inl (show k.val < 256 by omega))).trans ?_
    refine (canon_out _ _ _ _ 0 (Or.inl (show i.val < 128 by omega))).trans ?_
    refine (canon_in _ _ _ _ (ix2 ⟨i.val % 128, by omega⟩ ⟨k.val % 128, by omega⟩ : S128x128.Idx) fun a => ?_).trans ?_
    · fin_cases a
      · show i.val = 0 + i.val % 128
        omega
      · show k.val = 128 + k.val % 128
        omega
    · refine (wout0_apply w1 _ _).trans ((H1 ⟨k.val % 128, by omega⟩ 0 ⟨i.val % 128, by omega⟩).trans ((word_xc y 1 0 _ _).trans ?_))
      show wordAt (cd (y (128 * 0 + i.val % 128))) (128 * 1 + k.val % 128) = _
      rw [show 128 * 0 + i.val % 128 = i.val by omega, show 128 * 1 + k.val % 128 = k.val by omega]
  · refine (canon_out _ _ _ _ 0 (Or.inl (show i.val < 128 by omega))).trans ?_
    refine (canon_out _ _ _ _ 1 (Or.inl (show k.val < 384 by omega))).trans ?_
    refine (canon_out _ _ _ _ 0 (Or.inl (show i.val < 128 by omega))).trans ?_
    refine (canon_in _ _ _ _ (ix2 ⟨i.val % 128, by omega⟩ ⟨k.val % 128, by omega⟩ : S128x128.Idx) fun a => ?_).trans ?_
    · fin_cases a
      · show i.val = 0 + i.val % 128
        omega
      · show k.val = 256 + k.val % 128
        omega
    · refine (wout0_apply w2 _ _).trans ((H2 ⟨k.val % 128, by omega⟩ 0 ⟨i.val % 128, by omega⟩).trans ((word_xc y 2 0 _ _).trans ?_))
      show wordAt (cd (y (128 * 0 + i.val % 128))) (128 * 2 + k.val % 128) = _
      rw [show 128 * 0 + i.val % 128 = i.val by omega, show 128 * 2 + k.val % 128 = k.val by omega]
  · refine (canon_out _ _ _ _ 0 (Or.inl (show i.val < 128 by omega))).trans ?_
    refine (canon_in _ _ _ _ (ix2 ⟨i.val % 128, by omega⟩ ⟨k.val % 128, by omega⟩ : S128x128.Idx) fun a => ?_).trans ?_
    · fin_cases a
      · show i.val = 0 + i.val % 128
        omega
      · show k.val = 384 + k.val % 128
        omega
    · refine (wout0_apply w3 _ _).trans ((H3 ⟨k.val % 128, by omega⟩ 0 ⟨i.val % 128, by omega⟩).trans ((word_xc y 3 0 _ _).trans ?_))
      show wordAt (cd (y (128 * 0 + i.val % 128))) (128 * 3 + k.val % 128) = _
      rw [show 128 * 0 + i.val % 128 = i.val by omega, show 128 * 3 + k.val % 128 = k.val by omega]
  · refine (canon_out _ _ _ _ 1 (Or.inl (show k.val < 384 by omega))).trans ?_
    refine (canon_out _ _ _ _ 0 (Or.inr (show 0 + 128 ≤ i.val by omega))).trans ?_
    refine (canon_out _ _ _ _ 1 (Or.inl (show k.val < 256 by omega))).trans ?_
    refine (canon_out _ _ _ _ 0 (Or.inr (show 0 + 128 ≤ i.val by omega))).trans ?_
    refine (canon_out _ _ _ _ 1 (Or.inl (show k.val < 128 by omega))).trans ?_
    refine (canon_out _ _ _ _ 0 (Or.inr (show 0 + 128 ≤ i.val by omega))).trans ?_
    refine (canon_in _ _ _ _ (ix2 ⟨i.val % 128, by omega⟩ ⟨k.val % 128, by omega⟩ : S128x128.Idx) fun a => ?_).trans ?_
    · fin_cases a
      · show i.val = 128 + i.val % 128
        omega
      · show k.val = 0 + k.val % 128
        omega
    · refine (wout1_apply w0 _ _).trans ((H0 ⟨k.val % 128, by omega⟩ 1 ⟨i.val % 128, by omega⟩).trans ((word_xc y 0 1 _ _).trans ?_))
      show wordAt (cd (y (128 * 1 + i.val % 128))) (128 * 0 + k.val % 128) = _
      rw [show 128 * 1 + i.val % 128 = i.val by omega, show 128 * 0 + k.val % 128 = k.val by omega]
  · refine (canon_out _ _ _ _ 1 (Or.inl (show k.val < 384 by omega))).trans ?_
    refine (canon_out _ _ _ _ 0 (Or.inr (show 0 + 128 ≤ i.val by omega))).trans ?_
    refine (canon_out _ _ _ _ 1 (Or.inl (show k.val < 256 by omega))).trans ?_
    refine (canon_out _ _ _ _ 0 (Or.inr (show 0 + 128 ≤ i.val by omega))).trans ?_
    refine (canon_in _ _ _ _ (ix2 ⟨i.val % 128, by omega⟩ ⟨k.val % 128, by omega⟩ : S128x128.Idx) fun a => ?_).trans ?_
    · fin_cases a
      · show i.val = 128 + i.val % 128
        omega
      · show k.val = 128 + k.val % 128
        omega
    · refine (wout1_apply w1 _ _).trans ((H1 ⟨k.val % 128, by omega⟩ 1 ⟨i.val % 128, by omega⟩).trans ((word_xc y 1 1 _ _).trans ?_))
      show wordAt (cd (y (128 * 1 + i.val % 128))) (128 * 1 + k.val % 128) = _
      rw [show 128 * 1 + i.val % 128 = i.val by omega, show 128 * 1 + k.val % 128 = k.val by omega]
  · refine (canon_out _ _ _ _ 1 (Or.inl (show k.val < 384 by omega))).trans ?_
    refine (canon_out _ _ _ _ 0 (Or.inr (show 0 + 128 ≤ i.val by omega))).trans ?_
    refine (canon_in _ _ _ _ (ix2 ⟨i.val % 128, by omega⟩ ⟨k.val % 128, by omega⟩ : S128x128.Idx) fun a => ?_).trans ?_
    · fin_cases a
      · show i.val = 128 + i.val % 128
        omega
      · show k.val = 256 + k.val % 128
        omega
    · refine (wout1_apply w2 _ _).trans ((H2 ⟨k.val % 128, by omega⟩ 1 ⟨i.val % 128, by omega⟩).trans ((word_xc y 2 1 _ _).trans ?_))
      show wordAt (cd (y (128 * 1 + i.val % 128))) (128 * 2 + k.val % 128) = _
      rw [show 128 * 1 + i.val % 128 = i.val by omega, show 128 * 2 + k.val % 128 = k.val by omega]
  · refine (canon_in _ _ _ _ (ix2 ⟨i.val % 128, by omega⟩ ⟨k.val % 128, by omega⟩ : S128x128.Idx) fun a => ?_).trans ?_
    · fin_cases a
      · show i.val = 128 + i.val % 128
        omega
      · show k.val = 384 + k.val % 128
        omega
    · refine (wout1_apply w3 _ _).trans ((H3 ⟨k.val % 128, by omega⟩ 1 ⟨i.val % 128, by omega⟩).trans ((word_xc y 3 1 _ _).trans ?_))
      show wordAt (cd (y (128 * 1 + i.val % 128))) (128 * 3 + k.val % 128) = _
      rw [show 128 * 1 + i.val % 128 = i.val by omega, show 128 * 3 + k.val % 128 = k.val by omega]

/-- The first 16 rows of the carried magnitudes. -/
def HoldsA (A : Vec Ideal S64x128 .f32) (x : Fin 128 → ℕ → EReal) : Prop :=
  ∀ (q : Fin 64) (l : Fin 128), q.val < 16 → A (ix2 q l) = bm (x l) q.val

theorem atL0_0_holds (v : View sig .tc .vmem S256x2x128 .bf16) (L : List (View.Piece (Elt Ideal) S256x2x128 .bf16)) (T : List (View.Piece (Elt Ideal) S64x128 .f32)) (x : Fin 128 → ℕ → EReal)
    (hl : ∀ (q : Fin 8) (l : Fin 128), am0 v L (ix2 q l) = bm (x l) (0 + q.val)) (hh : ∀ (q : Fin 8) (l : Fin 128), am2 v L (ix2 q l) = bm (x l) (8 + q.val)) :
    HoldsA (View.canon (atL0_0 v L T)) x := by
  intro q l hq
  unfold atL0_0
  have hcase : q.val < 8 ∨ 8 ≤ q.val := by omega
  rcases hcase with h | h
  · refine (canon_out _ _ _ _ 0 (Or.inl (show q.val < 8 from h))).trans ((canon_in _ _ _ _ (ix2 ⟨q.val, h⟩ l : S8x128.Idx) fun a => ?_).trans ?_)
    · fin_cases a <;> simp
    · refine (atSt_apply _ _ _).trans ((hl _ _).trans ?_)
      simp only [Nat.zero_add]
  · refine (canon_in _ _ _ _ (ix2 ⟨q.val - 8, by omega⟩ l : S8x128.Idx) fun a => ?_).trans ?_
    · fin_cases a
      · show q.val = 8 + (q.val - 8)
        omega
      · simp
    · refine (atSt_apply _ _ _).trans ((hh _ _).trans (congrArg (bm (x l)) ?_))
      show 8 + (q.val - 8) = q.val
      omega

/-- The largest magnitudes of a half, read whole: the first 16 rows carried, the others stored. -/
theorem abrd0_apply (a : Memref sig .tc .vmem S64x128 .f32) (ha : a.IsWhole) (X : Vec Ideal S64x128 .f32) (y : ℕ → ℕ → EReal)
    (v1 v2 v3 : View sig .tc .vmem S256x2x128 .bf16) (L1 L2 L3 : List (View.Piece (Elt Ideal) S256x2x128 .bf16))
    (h0 : HoldsA X (xc y 0 0))
    (l1 : ∀ (q : Fin 8) (l : Fin 128), am0 v1 L1 (ix2 q l) = bm (xc y 1 0 l) (0 + q.val)) (u1 : ∀ (q : Fin 8) (l : Fin 128), am2 v1 L1 (ix2 q l) = bm (xc y 1 0 l) (8 + q.val))
    (l2 : ∀ (q : Fin 8) (l : Fin 128), am0 v2 L2 (ix2 q l) = bm (xc y 2 0 l) (0 + q.val)) (u2 : ∀ (q : Fin 8) (l : Fin 128), am2 v2 L2 (ix2 q l) = bm (xc y 2 0 l) (8 + q.val))
    (l3 : ∀ (q : Fin 8) (l : Fin 128), am0 v3 L3 (ix2 q l) = bm (xc y 3 0 l) (0 + q.val)) (u3 : ∀ (q : Fin 8) (l : Fin 128), am2 v3 L3 (ix2 q l) = bm (xc y 3 0 l) (8 + q.val))
    (q : Fin 64) (l : Fin 128) :
    abrd a ha X (atL0_3 v3 L3 (atL0_2 v2 L2 (atL0_1 v1 L1 []))) (ix3 0 q l) = bm (y (128 * 0 + l.val)) q.val := by
  have hql := q.isLt
  unfold abrd
  have e : ∀ (A : Vec Ideal S64x128 .f32), (shapeCast S1x64x128 A shapeCasts_S64x128_S1x64x128 : FVec Ideal S1x64x128 .f32) (ix3 0 q l) = A (ix2 q l) := by
    intro A
    pointwise
  refine (e _).trans ?_
  rw [View.readAt_eq_ld]
  refine (View.ld_unit_apply_of _ _ _ _ _ (ix2 q l) fun a => ?_).trans ?_
  · fin_cases a <;> simp
  unfold atL0_3 atL0_2 atL0_1
  have hcase : q.val / 8 < 2 ∨ q.val / 8 = 2 ∨ q.val / 8 = 3 ∨ q.val / 8 = 4 ∨ q.val / 8 = 5 ∨ q.val / 8 = 6 ∨ q.val / 8 = 7 := by omega
  rcases hcase with hc | hc | hc | hc | hc | hc | hc
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_not_mem _ _ _ _ _ _ rfl 0 (Or.inl (show q.val < 24 by omega))).trans ?_
    refine (View.read_writes_cons_unit_of_not_mem _ _ _ _ _ _ rfl 0 (Or.inl (show q.val < 16 by omega))).trans ?_
    show a.view.read (Elt Ideal) (ha.unread X) (ix2 q l) = _
    rw [ha.read_unread]
    refine (h0 q l (by omega)).trans ((bm_xc y 0 0 l _).trans (congrArg (bm (y _)) ?_))
    omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_not_mem _ _ _ _ _ _ rfl 0 (Or.inl (show q.val < 24 by omega))).trans ?_
    refine (View.read_writes_cons_unit_of_mem _ _ _ _ _ _ (ix2 ⟨q.val - 16, by omega⟩ l : S8x128.Idx) rfl fun a => ?_).trans ?_
    · fin_cases a
      · show q.val = 16 + (q.val - 16)
        omega
      · simp
    · refine (atSt_apply _ _ _).trans ((l1 _ _).trans ((bm_xc y 1 0 l _).trans (congrArg (bm (y _)) ?_)))
      show 16 * 1 + (0 + (q.val - 16)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_mem _ _ _ _ _ _ (ix2 ⟨q.val - 24, by omega⟩ l : S8x128.Idx) rfl fun a => ?_).trans ?_
    · fin_cases a
      · show q.val = 24 + (q.val - 24)
        omega
      · simp
    · refine (atSt_apply _ _ _).trans ((u1 _ _).trans ((bm_xc y 1 0 l _).trans (congrArg (bm (y _)) ?_)))
      show 16 * 1 + (8 + (q.val - 24)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_mem _ _ _ _ _ _ (ix2 ⟨q.val - 32, by omega⟩ l : S8x128.Idx) rfl fun a => ?_).trans ?_
    · fin_cases a
      · show q.val = 32 + (q.val - 32)
        omega
      · simp
    · refine (atSt_apply _ _ _).trans ((l2 _ _).trans ((bm_xc y 2 0 l _).trans (congrArg (bm (y _)) ?_)))
      show 16 * 2 + (0 + (q.val - 32)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_mem _ _ _ _ _ _ (ix2 ⟨q.val - 40, by omega⟩ l : S8x128.Idx) rfl fun a => ?_).trans ?_
    · fin_cases a
      · show q.val = 40 + (q.val - 40)
        omega
      · simp
    · refine (atSt_apply _ _ _).trans ((u2 _ _).trans ((bm_xc y 2 0 l _).trans (congrArg (bm (y _)) ?_)))
      show 16 * 2 + (8 + (q.val - 40)) = q.val
      omega
  · refine (View.read_writes_cons_unit_of_not_mem _ _ _ _ _ _ rfl 0 (Or.inl (show q.val < 56 by omega))).trans ?_
    refine (View.read_writes_cons_unit_of_mem _ _ _ _ _ _ (ix2 ⟨q.val - 48, by omega⟩ l : S8x128.Idx) rfl fun a => ?_).trans ?_
    · fin_cases a
      · show q.val = 48 + (q.val - 48)
        omega
      · simp
    · refine (atSt_apply _ _ _).trans ((l3 _ _).trans ((bm_xc y 3 0 l _).trans (congrArg (bm (y _)) ?_)))
      show 16 * 3 + (0 + (q.val - 48)) = q.val
      omega
  · refine (View.read_writes_cons_unit_of_mem _ _ _ _ _ _ (ix2 ⟨q.val - 56, by omega⟩ l : S8x128.Idx) rfl fun a => ?_).trans ?_
    · fin_cases a
      · show q.val = 56 + (q.val - 56)
        omega
      · simp
    · refine (atSt_apply _ _ _).trans ((u3 _ _).trans ((bm_xc y 3 0 l _).trans (congrArg (bm (y _)) ?_)))
      show 16 * 3 + (8 + (q.val - 56)) = q.val
      omega

theorem atL1_0_holds (v : View sig .tc .vmem S256x2x128 .bf16) (L : List (View.Piece (Elt Ideal) S256x2x128 .bf16)) (T : List (View.Piece (Elt Ideal) S64x128 .f32)) (x : Fin 128 → ℕ → EReal)
    (hl : ∀ (q : Fin 8) (l : Fin 128), am1 v L (ix2 q l) = bm (x l) (0 + q.val)) (hh : ∀ (q : Fin 8) (l : Fin 128), am3 v L (ix2 q l) = bm (x l) (8 + q.val)) :
    HoldsA (View.canon (atL1_0 v L T)) x := by
  intro q l hq
  unfold atL1_0
  have hcase : q.val < 8 ∨ 8 ≤ q.val := by omega
  rcases hcase with h | h
  · refine (canon_out _ _ _ _ 0 (Or.inl (show q.val < 8 from h))).trans ((canon_in _ _ _ _ (ix2 ⟨q.val, h⟩ l : S8x128.Idx) fun a => ?_).trans ?_)
    · fin_cases a <;> simp
    · refine (atSt_apply _ _ _).trans ((hl _ _).trans ?_)
      simp only [Nat.zero_add]
  · refine (canon_in _ _ _ _ (ix2 ⟨q.val - 8, by omega⟩ l : S8x128.Idx) fun a => ?_).trans ?_
    · fin_cases a
      · show q.val = 8 + (q.val - 8)
        omega
      · simp
    · refine (atSt_apply _ _ _).trans ((hh _ _).trans (congrArg (bm (x l)) ?_))
      show 8 + (q.val - 8) = q.val
      omega

/-- The largest magnitudes of a half, read whole: the first 16 rows carried, the others stored. -/
theorem abrd1_apply (a : Memref sig .tc .vmem S64x128 .f32) (ha : a.IsWhole) (X : Vec Ideal S64x128 .f32) (y : ℕ → ℕ → EReal)
    (v1 v2 v3 : View sig .tc .vmem S256x2x128 .bf16) (L1 L2 L3 : List (View.Piece (Elt Ideal) S256x2x128 .bf16))
    (h0 : HoldsA X (xc y 0 1))
    (l1 : ∀ (q : Fin 8) (l : Fin 128), am1 v1 L1 (ix2 q l) = bm (xc y 1 1 l) (0 + q.val)) (u1 : ∀ (q : Fin 8) (l : Fin 128), am3 v1 L1 (ix2 q l) = bm (xc y 1 1 l) (8 + q.val))
    (l2 : ∀ (q : Fin 8) (l : Fin 128), am1 v2 L2 (ix2 q l) = bm (xc y 2 1 l) (0 + q.val)) (u2 : ∀ (q : Fin 8) (l : Fin 128), am3 v2 L2 (ix2 q l) = bm (xc y 2 1 l) (8 + q.val))
    (l3 : ∀ (q : Fin 8) (l : Fin 128), am1 v3 L3 (ix2 q l) = bm (xc y 3 1 l) (0 + q.val)) (u3 : ∀ (q : Fin 8) (l : Fin 128), am3 v3 L3 (ix2 q l) = bm (xc y 3 1 l) (8 + q.val))
    (q : Fin 64) (l : Fin 128) :
    abrd a ha X (atL1_3 v3 L3 (atL1_2 v2 L2 (atL1_1 v1 L1 []))) (ix3 0 q l) = bm (y (128 * 1 + l.val)) q.val := by
  have hql := q.isLt
  unfold abrd
  have e : ∀ (A : Vec Ideal S64x128 .f32), (shapeCast S1x64x128 A shapeCasts_S64x128_S1x64x128 : FVec Ideal S1x64x128 .f32) (ix3 0 q l) = A (ix2 q l) := by
    intro A
    pointwise
  refine (e _).trans ?_
  rw [View.readAt_eq_ld]
  refine (View.ld_unit_apply_of _ _ _ _ _ (ix2 q l) fun a => ?_).trans ?_
  · fin_cases a <;> simp
  unfold atL1_3 atL1_2 atL1_1
  have hcase : q.val / 8 < 2 ∨ q.val / 8 = 2 ∨ q.val / 8 = 3 ∨ q.val / 8 = 4 ∨ q.val / 8 = 5 ∨ q.val / 8 = 6 ∨ q.val / 8 = 7 := by omega
  rcases hcase with hc | hc | hc | hc | hc | hc | hc
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_not_mem _ _ _ _ _ _ rfl 0 (Or.inl (show q.val < 24 by omega))).trans ?_
    refine (View.read_writes_cons_unit_of_not_mem _ _ _ _ _ _ rfl 0 (Or.inl (show q.val < 16 by omega))).trans ?_
    show a.view.read (Elt Ideal) (ha.unread X) (ix2 q l) = _
    rw [ha.read_unread]
    refine (h0 q l (by omega)).trans ((bm_xc y 0 1 l _).trans (congrArg (bm (y _)) ?_))
    omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_not_mem _ _ _ _ _ _ rfl 0 (Or.inl (show q.val < 24 by omega))).trans ?_
    refine (View.read_writes_cons_unit_of_mem _ _ _ _ _ _ (ix2 ⟨q.val - 16, by omega⟩ l : S8x128.Idx) rfl fun a => ?_).trans ?_
    · fin_cases a
      · show q.val = 16 + (q.val - 16)
        omega
      · simp
    · refine (atSt_apply _ _ _).trans ((l1 _ _).trans ((bm_xc y 1 1 l _).trans (congrArg (bm (y _)) ?_)))
      show 16 * 1 + (0 + (q.val - 16)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_not_mem _ _ _ _ _ _ rfl 0 (Or.inl (show q.val < 32 by omega))).trans ?_
    refine (View.read_writes_cons_unit_of_mem _ _ _ _ _ _ (ix2 ⟨q.val - 24, by omega⟩ l : S8x128.Idx) rfl fun a => ?_).trans ?_
    · fin_cases a
      · show q.val = 24 + (q.val - 24)
        omega
      · simp
    · refine (atSt_apply _ _ _).trans ((u1 _ _).trans ((bm_xc y 1 1 l _).trans (congrArg (bm (y _)) ?_)))
      show 16 * 1 + (8 + (q.val - 24)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_not_mem _ _ _ _ _ _ rfl 0 (Or.inl (show q.val < 40 by omega))).trans ?_
    refine (View.read_writes_cons_unit_of_mem _ _ _ _ _ _ (ix2 ⟨q.val - 32, by omega⟩ l : S8x128.Idx) rfl fun a => ?_).trans ?_
    · fin_cases a
      · show q.val = 32 + (q.val - 32)
        omega
      · simp
    · refine (atSt_apply _ _ _).trans ((l2 _ _).trans ((bm_xc y 2 1 l _).trans (congrArg (bm (y _)) ?_)))
      show 16 * 2 + (0 + (q.val - 32)) = q.val
      omega
  · refine (View.read_writes_cons_unit_of_not_mem _ _ _ _ _ _ rfl 0 (Or.inl (show q.val < 56 by omega))).trans ?_
    refine (View.read_writes_cons_unit_of_not_mem _ _ _ _ _ _ rfl 0 (Or.inl (show q.val < 48 by omega))).trans ?_
    refine (View.read_writes_cons_unit_of_mem _ _ _ _ _ _ (ix2 ⟨q.val - 40, by omega⟩ l : S8x128.Idx) rfl fun a => ?_).trans ?_
    · fin_cases a
      · show q.val = 40 + (q.val - 40)
        omega
      · simp
    · refine (atSt_apply _ _ _).trans ((u2 _ _).trans ((bm_xc y 2 1 l _).trans (congrArg (bm (y _)) ?_)))
      show 16 * 2 + (8 + (q.val - 40)) = q.val
      omega
  · refine (View.read_writes_cons_unit_of_not_mem _ _ _ _ _ _ rfl 0 (Or.inl (show q.val < 56 by omega))).trans ?_
    refine (View.read_writes_cons_unit_of_mem _ _ _ _ _ _ (ix2 ⟨q.val - 48, by omega⟩ l : S8x128.Idx) rfl fun a => ?_).trans ?_
    · fin_cases a
      · show q.val = 48 + (q.val - 48)
        omega
      · simp
    · refine (atSt_apply _ _ _).trans ((l3 _ _).trans ((bm_xc y 3 1 l _).trans (congrArg (bm (y _)) ?_)))
      show 16 * 3 + (0 + (q.val - 48)) = q.val
      omega
  · refine (View.read_writes_cons_unit_of_mem _ _ _ _ _ _ (ix2 ⟨q.val - 56, by omega⟩ l : S8x128.Idx) rfl fun a => ?_).trans ?_
    · fin_cases a
      · show q.val = 56 + (q.val - 56)
        omega
      · simp
    · refine (atSt_apply _ _ _).trans ((u3 _ _).trans ((bm_xc y 3 1 l _).trans (congrArg (bm (y _)) ?_)))
      show 16 * 3 + (8 + (q.val - 56)) = q.val
      omega

/-- The two halves side by side. -/
theorem abs_apply (A0 A1 : FVec Ideal S1x64x128 .f32) (y : ℕ → ℕ → EReal)
    (H0 : ∀ (q : Fin 64) (l : Fin 128), A0 (ix3 0 q l) = bm (y (128 * 0 + l.val)) q.val) (H1 : ∀ (q : Fin 64) (l : Fin 128), A1 (ix3 0 q l) = bm (y (128 * 1 + l.val)) q.val)
    (q : Fin 64) (i : Fin 256) :
    View.canon ([⟨(Rect.unit ![0, 0, 128] S1x64x128.size inb_S1x64x256_S1x64x128_0_0_128 : Rect S1x64x256), A1⟩,
      ⟨(Rect.unit ![0, 0, 0] S1x64x128.size inb_S1x64x256_S1x64x128_0_0_0 : Rect S1x64x256), A0⟩] : List (View.Piece (Elt Ideal) S1x64x256 .f32)) (ix3 0 q i) = bm (y i.val) q.val := by
  have hi := i.isLt
  have hcase : i.val < 128 ∨ 128 ≤ i.val := by omega
  rcases hcase with h | h
  · refine (canon_out _ _ _ _ 2 (Or.inl (show i.val < 128 from h))).trans ((canon_in _ _ _ _ (ix3 0 q ⟨i.val, h⟩ : S1x64x128.Idx) fun a => ?_).trans ?_)
    · fin_cases a <;> simp
    · refine (H0 _ _).trans (congrArg (fun i => bm (y i) q.val) ?_)
      show 128 * 0 + i.val = i.val
      omega
  · refine (canon_in _ _ _ _ (ix3 0 q ⟨i.val - 128, by omega⟩ : S1x64x128.Idx) fun a => ?_).trans ?_
    · fin_cases a
      · simp
      · simp
      · show i.val = 128 + (i.val - 128)
        omega
    · refine (H1 _ _).trans (congrArg (fun i => bm (y i) q.val) ?_)
      show 128 * 1 + (i.val - 128) = i.val
      omega

end Cert.Proof.Stage

end
-- ==== Proof.RunVal.lean ====
/- What the runs of the body leave, element by element: a block's words, its largest magnitudes, what the next point finds. -/
module

public import proofs.«01_k».proof.Proof.LinkA
public import proofs.«01_k».proof.Proof.LinkB
public import proofs.«01_k».proof.Proof.PieceVal

@[expose] public section

set_option maxRecDepth 65536

noncomputable section

namespace Cert.Proof.Stage

open Cert.KernelIdeal Cert.KernelIdeal.Gen Cert.KernelIdeal.Hand
open Idealize.ShloMosaic Idealize.ShloMosaic.TcCoe Idealize.SL.Sem
open Cert.Proof.Link

theorem runB_words_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal)
    (hT : Tables (tb0 arg33 harg33 x32) (tb1 arg33 harg33 x32) (pk arg35 harg35 x34))
    (HS : HoldsS xs0 (xc y 0)) (HW : HoldsW xs8 (xc y 0)) (HZ : HoldsZ xs6 (xc y 0)) (B1 : HoldsB ![x8, x9, x10, x11, x12, x13, x14, x15] (fun r k => y r (64 * (16 * 1) + k))) (B2 : HoldsB ![x16, x17, x18, x19, x20, x21, x22, x23] (fun r k => y r (64 * (16 * 2) + k))) (B3 : HoldsB ![x24, x25, x26, x27, x28, x29, x30, x31] (fun r k => y r (64 * (16 * 3) + k))) (p : Fin 256) (k : Fin 512) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).1 (ix2 p k) = wordAt (cd (y p.val)) k.val := by
  have t1 : HoldsT _ (xc y 1 0) := (tiles0 arg9 harg9 arg10 harg10 arg11 harg11 arg12 harg12 arg13 harg13 arg14 harg14 arg15 harg15 arg16 harg16 x8 x9 x10 x11 x12 x13 x14 x15 _ B1)
  have u1 : HoldsT _ (xc y 1 1) := (tiles1 arg9 harg9 arg10 harg10 arg11 harg11 arg12 harg12 arg13 harg13 arg14 harg14 arg15 harg15 arg16 harg16 x8 x9 x10 x11 x12 x13 x14 x15 _ B1)
  have t2 : HoldsT _ (xc y 2 0) := (tiles0 arg17 harg17 arg18 harg18 arg19 harg19 arg20 harg20 arg21 harg21 arg22 harg22 arg23 harg23 arg24 harg24 x16 x17 x18 x19 x20 x21 x22 x23 _ B2)
  have u2 : HoldsT _ (xc y 2 1) := (tiles1 arg17 harg17 arg18 harg18 arg19 harg19 arg20 harg20 arg21 harg21 arg22 harg22 arg23 harg23 arg24 harg24 x16 x17 x18 x19 x20 x21 x22 x23 _ B2)
  have t3 : HoldsT _ (xc y 3 0) := (tiles0 arg25 harg25 arg26 harg26 arg27 harg27 arg28 harg28 arg29 harg29 arg30 harg30 arg31 harg31 arg32 harg32 x24 x25 x26 x27 x28 x29 x30 x31 _ B3)
  have u3 : HoldsT _ (xc y 3 1) := (tiles1 arg25 harg25 arg26 harg26 arg27 harg27 arg28 harg28 arg29 harg29 arg30 harg30 arg31 harg31 arg32 harg32 x24 x25 x26 x27 x28 x29 x30 x31 _ B3)
  refine (congrArg (fun L => View.canon L (ix2 p k)) (runB_words c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8)).trans ?_
  exact words_apply _ _ _ _ y (fun w h l => wrst_apply _ _ _ hT _ _ _ _ _ _ _ _ _ (xc y 0) HS HW HZ w h l)
    (fun w h l => wst_apply _ _ _ hT _ _ _ _ _ _ (xc y 1) (sL_holds _ _ (xc y 1) t1 u1 _) (swL_holds _ _ (xc y 1) t1 u1 _ _ _) (azL_holds _ _ (xc y 1) t1 u1 _ _ _) w h l)
    (fun w h l => wst_apply _ _ _ hT _ _ _ _ _ _ (xc y 2) (sL_holds _ _ (xc y 2) t2 u2 _) (swL_holds _ _ (xc y 2) t2 u2 _ _ _) (azL_holds _ _ (xc y 2) t2 u2 _ _ _) w h l)
    (fun w h l => wst_apply _ _ _ hT _ _ _ _ _ _ (xc y 3) (sL_holds _ _ (xc y 3) t3 u3 _) (swL_holds _ _ (xc y 3) t3 u3 _ _ _) (azL_holds _ _ (xc y 3) t3 u3 _ _ _) w h l) p k

theorem runB_abs_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal)
    (H0 : HoldsA xs4 (xc y 0 0)) (H1 : HoldsA xs5 (xc y 0 1)) (B1 : HoldsB ![x8, x9, x10, x11, x12, x13, x14, x15] (fun r k => y r (64 * (16 * 1) + k))) (B2 : HoldsB ![x16, x17, x18, x19, x20, x21, x22, x23] (fun r k => y r (64 * (16 * 2) + k))) (B3 : HoldsB ![x24, x25, x26, x27, x28, x29, x30, x31] (fun r k => y r (64 * (16 * 3) + k))) (q : Fin 64) (p : Fin 256) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.1 (ix3 0 q p) = bm (y p.val) q.val := by
  have t1 : HoldsT _ (xc y 1 0) := (tiles0 arg9 harg9 arg10 harg10 arg11 harg11 arg12 harg12 arg13 harg13 arg14 harg14 arg15 harg15 arg16 harg16 x8 x9 x10 x11 x12 x13 x14 x15 _ B1)
  have u1 : HoldsT _ (xc y 1 1) := (tiles1 arg9 harg9 arg10 harg10 arg11 harg11 arg12 harg12 arg13 harg13 arg14 harg14 arg15 harg15 arg16 harg16 x8 x9 x10 x11 x12 x13 x14 x15 _ B1)
  have t2 : HoldsT _ (xc y 2 0) := (tiles0 arg17 harg17 arg18 harg18 arg19 harg19 arg20 harg20 arg21 harg21 arg22 harg22 arg23 harg23 arg24 harg24 x16 x17 x18 x19 x20 x21 x22 x23 _ B2)
  have u2 : HoldsT _ (xc y 2 1) := (tiles1 arg17 harg17 arg18 harg18 arg19 harg19 arg20 harg20 arg21 harg21 arg22 harg22 arg23 harg23 arg24 harg24 x16 x17 x18 x19 x20 x21 x22 x23 _ B2)
  have t3 : HoldsT _ (xc y 3 0) := (tiles0 arg25 harg25 arg26 harg26 arg27 harg27 arg28 harg28 arg29 harg29 arg30 harg30 arg31 harg31 arg32 harg32 x24 x25 x26 x27 x28 x29 x30 x31 _ B3)
  have u3 : HoldsT _ (xc y 3 1) := (tiles1 arg25 harg25 arg26 harg26 arg27 harg27 arg28 harg28 arg29 harg29 arg30 harg30 arg31 harg31 arg32 harg32 x24 x25 x26 x27 x28 x29 x30 x31 _ B3)
  refine (congrArg (fun L => View.canon L (ix3 0 q p)) (runB_abs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8)).trans ?_
  exact abs_apply _ _ y (fun q l => abrd0_apply _ _ _ y _ _ _ _ _ _ H0 (am0_apply _ _ (xc y 1) t1 u1 _ _) (am2_apply _ _ (xc y 1) t1 u1 _ _) (am0_apply _ _ (xc y 2) t2 u2 _ _) (am2_apply _ _ (xc y 2) t2 u2 _ _) (am0_apply _ _ (xc y 3) t3 u3 _ _) (am2_apply _ _ (xc y 3) t3 u3 _ _) q l)
    (fun q l => abrd1_apply _ _ _ y _ _ _ _ _ _ H1 (am1_apply _ _ (xc y 1) t1 u1 _ _) (am3_apply _ _ (xc y 1) t1 u1 _ _) (am1_apply _ _ (xc y 2) t2 u2 _ _) (am3_apply _ _ (xc y 2) t2 u2 _ _) (am1_apply _ _ (xc y 3) t3 u3 _ _) (am3_apply _ _ (xc y 3) t3 u3 _ _) q l) q p

theorem runA_s0_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (y : ℕ → ℕ → EReal) (B0 : HoldsB ![x0, x1, x2, x3, x4, x5, x6, x7] (fun r k => y r (64 * (16 * 0) + k))) :
    HoldsS (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsS X (xc y 0)) (congrArg View.canon (runA_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34))) (sL_holds _ _ (xc y 0) t0 u0 _)

theorem runA_s8_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (y : ℕ → ℕ → EReal) (B0 : HoldsB ![x0, x1, x2, x3, x4, x5, x6, x7] (fun r k => y r (64 * (16 * 0) + k))) :
    HoldsW (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsW X (xc y 0)) (congrArg View.canon (runA_s8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34))) (swL_holds _ _ (xc y 0) t0 u0 _ _ _)

theorem runA_s6_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (y : ℕ → ℕ → EReal) (B0 : HoldsB ![x0, x1, x2, x3, x4, x5, x6, x7] (fun r k => y r (64 * (16 * 0) + k))) :
    HoldsZ (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsZ X (xc y 0)) (congrArg View.canon (runA_s6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34))) (azL_holds _ _ (xc y 0) t0 u0 _ _ _)

theorem runA_s4_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (y : ℕ → ℕ → EReal) (B0 : HoldsB ![x0, x1, x2, x3, x4, x5, x6, x7] (fun r k => y r (64 * (16 * 0) + k))) :
    HoldsA (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.1) (xc y 0 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsA X (xc y 0 0)) (congrArg View.canon (runA_s4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34))) (atL0_0_holds _ _ _ (xc y 0 0) (am0_apply _ _ (xc y 0) t0 u0 _ _) (am2_apply _ _ (xc y 0) t0 u0 _ _))

theorem runA_s5_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (y : ℕ → ℕ → EReal) (B0 : HoldsB ![x0, x1, x2, x3, x4, x5, x6, x7] (fun r k => y r (64 * (16 * 0) + k))) :
    HoldsA (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34).2.2.2.2.2.1) (xc y 0 1) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsA X (xc y 0 1)) (congrArg View.canon (runA_s5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34))) (atL1_0_holds _ _ _ (xc y 0 1) (am1_apply _ _ (xc y 0) t0 u0 _ _) (am3_apply _ _ (xc y 0) t0 u0 _ _))

theorem runB_s0_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal) (B0 : HoldsB ![x0, x1, x2, x3, x4, x5, x6, x7] (fun r k => y r (64 * (16 * 0) + k))) :
    HoldsS (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsS X (xc y 0)) (congrArg View.canon (runB_s0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8))) (sL_holds _ _ (xc y 0) t0 u0 _)

theorem runB_s8_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal) (B0 : HoldsB ![x0, x1, x2, x3, x4, x5, x6, x7] (fun r k => y r (64 * (16 * 0) + k))) :
    HoldsW (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsW X (xc y 0)) (congrArg View.canon (runB_s8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8))) (swL_holds _ _ (xc y 0) t0 u0 _ _ _)

theorem runB_s6_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal) (B0 : HoldsB ![x0, x1, x2, x3, x4, x5, x6, x7] (fun r k => y r (64 * (16 * 0) + k))) :
    HoldsZ (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.2.1) (xc y 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsZ X (xc y 0)) (congrArg View.canon (runB_s6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8))) (azL_holds _ _ (xc y 0) t0 u0 _ _ _)

theorem runB_s4_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal) (B0 : HoldsB ![x0, x1, x2, x3, x4, x5, x6, x7] (fun r k => y r (64 * (16 * 0) + k))) :
    HoldsA (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.1) (xc y 0 0) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsA X (xc y 0 0)) (congrArg View.canon (runB_s4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8))) (atL0_0_holds _ _ _ (xc y 0 0) (am0_apply _ _ (xc y 0) t0 u0 _ _) (am2_apply _ _ (xc y 0) t0 u0 _ _))

theorem runB_s5_val (c : Dev nD) (i : grid0.Coords) (arg1 : Memref sig .tc .vmem S256x128 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x128 .bf16) (harg17 : arg17.IsWhole) (arg18 : Memref sig .tc .vmem S256x128 .bf16) (harg18 : arg18.IsWhole) (arg19 : Memref sig .tc .vmem S256x128 .bf16) (harg19 : arg19.IsWhole) (arg20 : Memref sig .tc .vmem S256x128 .bf16) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x128 .bf16) (harg23 : arg23.IsWhole) (arg24 : Memref sig .tc .vmem S256x128 .bf16) (harg24 : arg24.IsWhole) (arg25 : Memref sig .tc .vmem S256x128 .bf16) (harg25 : arg25.IsWhole) (arg26 : Memref sig .tc .vmem S256x128 .bf16) (harg26 : arg26.IsWhole) (arg27 : Memref sig .tc .vmem S256x128 .bf16) (harg27 : arg27.IsWhole) (arg28 : Memref sig .tc .vmem S256x128 .bf16) (harg28 : arg28.IsWhole) (arg29 : Memref sig .tc .vmem S256x128 .bf16) (harg29 : arg29.IsWhole) (arg30 : Memref sig .tc .vmem S256x128 .bf16) (harg30 : arg30.IsWhole) (arg31 : Memref sig .tc .vmem S256x128 .bf16) (harg31 : arg31.IsWhole) (arg32 : Memref sig .tc .vmem S256x128 .bf16) (harg32 : arg32.IsWhole) (arg33 : Memref sig .tc .vmem S16x128 .f32) (harg33 : arg33.IsWhole) (arg34 : Memref sig .tc .vmem S16x128 .i32) (harg34 : arg34.IsWhole) (arg35 : Memref sig .tc .vmem S64x256 .bf16) (harg35 : arg35.IsWhole) (arg36 : Memref sig .tc .vmem S256x512 .i32) (harg36 : arg36.IsWhole) (arg37 : Memref sig .tc .vmem S1x64x256 .f32) (harg37 : arg37.IsWhole) (arg38 : Memref sig .tc .vmem S8x128 .f32) (harg38 : arg38.IsWhole) (arg39 : Memref sig .tc .vmem S2x512x2x128 .bf16) (harg39 : arg39.IsWhole) (arg40 : Memref sig .tc .vmem S2x512x2x128 .bf16) (harg40 : arg40.IsWhole) (arg41 : Memref sig .tc .vmem S256x2x128 .bf16) (harg41 : arg41.IsWhole) (arg42 : Memref sig .tc .vmem S256x2x128 .bf16) (harg42 : arg42.IsWhole) (arg43 : Memref sig .tc .vmem S64x128 .f32) (harg43 : arg43.IsWhole) (arg44 : Memref sig .tc .vmem S64x128 .f32) (harg44 : arg44.IsWhole) (arg45 : Memref sig .tc .vmem S2x16x128 .f32) (harg45 : arg45.IsWhole) (arg46 : Memref sig .tc .vmem S2x16x128 .f32) (harg46 : arg46.IsWhole) (arg47 : Memref sig .tc .vmem S2x16x2x128 .bf16) (harg47 : arg47.IsWhole) (arg48 : Memref sig .tc .vmem S2x16x2x128 .bf16) (harg48 : arg48.IsWhole) (hc0 : ¬cond0_0 i)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S256x128 .bf16) (x8 : Vec Ideal S256x128 .bf16) (x9 : Vec Ideal S256x128 .bf16) (x10 : Vec Ideal S256x128 .bf16) (x11 : Vec Ideal S256x128 .bf16) (x12 : Vec Ideal S256x128 .bf16) (x13 : Vec Ideal S256x128 .bf16) (x14 : Vec Ideal S256x128 .bf16) (x15 : Vec Ideal S256x128 .bf16) (x16 : Vec Ideal S256x128 .bf16) (x17 : Vec Ideal S256x128 .bf16) (x18 : Vec Ideal S256x128 .bf16) (x19 : Vec Ideal S256x128 .bf16) (x20 : Vec Ideal S256x128 .bf16) (x21 : Vec Ideal S256x128 .bf16) (x22 : Vec Ideal S256x128 .bf16) (x23 : Vec Ideal S256x128 .bf16) (x24 : Vec Ideal S256x128 .bf16) (x25 : Vec Ideal S256x128 .bf16) (x26 : Vec Ideal S256x128 .bf16) (x27 : Vec Ideal S256x128 .bf16) (x28 : Vec Ideal S256x128 .bf16) (x29 : Vec Ideal S256x128 .bf16) (x30 : Vec Ideal S256x128 .bf16) (x31 : Vec Ideal S256x128 .bf16) (x32 : Vec Ideal S16x128 .f32) (x33 : Vec Ideal S16x128 .i32) (x34 : Vec Ideal S64x256 .bf16) (xo37 : Vec Ideal S8x128 .f32) (xs0 : Vec Ideal S2x512x2x128 .bf16) (xs4 : Vec Ideal S64x128 .f32) (xs5 : Vec Ideal S64x128 .f32) (xs6 : Vec Ideal S2x16x128 .f32) (xs8 : Vec Ideal S2x16x2x128 .bf16) (y : ℕ → ℕ → EReal) (B0 : HoldsB ![x0, x1, x2, x3, x4, x5, x6, x7] (fun r k => y r (64 * (16 * 0) + k))) :
    HoldsA (View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8).2.2.2.2.2.1) (xc y 0 1) := by
  have t0 : HoldsT _ (xc y 0 0) := (tiles0 arg1 harg1 arg2 harg2 arg3 harg3 arg4 harg4 arg5 harg5 arg6 harg6 arg7 harg7 arg8 harg8 x0 x1 x2 x3 x4 x5 x6 x7 _ B0)
  have u0 : HoldsT _ (xc y 0 1) := (tiles1 arg1 harg1 arg2 harg2 arg3 harg3 arg4 harg4 arg5 harg5 arg6 harg6 arg7 harg7 arg8 harg8 x0 x1 x2 x3 x4 x5 x6 x7 _ B0)
  exact Eq.mpr (congrArg (fun X => HoldsA X (xc y 0 1)) (congrArg View.canon (runB_s5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 hc0 x0 x1 x2 x3 x4 x5 x6 x7 x8 x9 x10 x11 x12 x13 x14 x15 x16 x17 x18 x19 x20 x21 x22 x23 x24 x25 x26 x27 x28 x29 x30 x31 x32 x33 x34 xo37 xs0 xs4 xs5 xs6 xs8))) (atL1_0_holds _ _ _ (xc y 0 1) (am1_apply _ _ (xc y 0) t0 u0 _ _) (am3_apply _ _ (xc y 0) t0 u0 _ _))

end Cert.Proof.Stage

end
-- ==== Proof.Blocks.lean ====
/- The blocks a point reads: rows of the weights, the threshold table, the packing weights. -/
module

public import proofs.«01_k».proof.Proof.Encode
public import proofs.«01_k».proof.Proof.Gen.KernelIdeal.Frame.Runs
public import Idealize.ShloMosaic.Lib.Claim
public import Idealize.ShloMosaic.Lib.Pipeline.ValueKit

@[expose] public section

set_option maxRecDepth 65536

noncomputable section

namespace Cert.Proof.Blocks

open Idealize.ShloMosaic Idealize.ShloMosaic.TcCoe Idealize.ShloMosaic.Tactic Cert.KernelIdeal Cert.KernelIdeal.Gen Cert.Proof.Math Cert.Proof.Stage Cert.Proof.Tile

theorem idx_0 : ∀ t : Fin cfg0.N, win0_0.index t = ![min t.val 128, 0] :=
  (by decide +kernel : ∀ t : Fin grid0.N, _)

theorem idx_1 : ∀ t : Fin cfg0.N, win0_1.index t = ![min t.val 128, 1] :=
  (by decide +kernel : ∀ t : Fin grid0.N, _)

theorem idx_2 : ∀ t : Fin cfg0.N, win0_2.index t = ![min t.val 128, 2] :=
  (by decide +kernel : ∀ t : Fin grid0.N, _)

theorem idx_3 : ∀ t : Fin cfg0.N, win0_3.index t = ![min t.val 128, 3] :=
  (by decide +kernel : ∀ t : Fin grid0.N, _)

theorem idx_4 : ∀ t : Fin cfg0.N, win0_4.index t = ![min t.val 128, 4] :=
  (by decide +kernel : ∀ t : Fin grid0.N, _)

theorem idx_5 : ∀ t : Fin cfg0.N, win0_5.index t = ![min t.val 128, 5] :=
  (by decide +kernel : ∀ t : Fin grid0.N, _)

theorem idx_6 : ∀ t : Fin cfg0.N, win0_6.index t = ![min t.val 128, 6] :=
  (by decide +kernel : ∀ t : Fin grid0.N, _)

theorem idx_7 : ∀ t : Fin cfg0.N, win0_7.index t = ![min t.val 128, 7] :=
  (by decide +kernel : ∀ t : Fin grid0.N, _)

theorem idx_8 : ∀ t : Fin cfg0.N, win0_8.index t = ![t.val - 1, 8] :=
  (by decide +kernel : ∀ t : Fin grid0.N, _)

theorem idx_9 : ∀ t : Fin cfg0.N, win0_9.index t = ![t.val - 1, 9] :=
  (by decide +kernel : ∀ t : Fin grid0.N, _)

theorem idx_10 : ∀ t : Fin cfg0.N, win0_10.index t = ![t.val - 1, 10] :=
  (by decide +kernel : ∀ t : Fin grid0.N, _)

theorem idx_11 : ∀ t : Fin cfg0.N, win0_11.index t = ![t.val - 1, 11] :=
  (by decide +kernel : ∀ t : Fin grid0.N, _)

theorem idx_12 : ∀ t : Fin cfg0.N, win0_12.index t = ![t.val - 1, 12] :=
  (by decide +kernel : ∀ t : Fin grid0.N, _)

theorem idx_13 : ∀ t : Fin cfg0.N, win0_13.index t = ![t.val - 1, 13] :=
  (by decide +kernel : ∀ t : Fin grid0.N, _)

theorem idx_14 : ∀ t : Fin cfg0.N, win0_14.index t = ![t.val - 1, 14] :=
  (by decide +kernel : ∀ t : Fin grid0.N, _)

theorem idx_15 : ∀ t : Fin cfg0.N, win0_15.index t = ![t.val - 1, 15] :=
  (by decide +kernel : ∀ t : Fin grid0.N, _)

theorem idx_16 : ∀ t : Fin cfg0.N, win0_16.index t = ![t.val - 1, 16] :=
  (by decide +kernel : ∀ t : Fin grid0.N, _)

theorem idx_17 : ∀ t : Fin cfg0.N, win0_17.index t = ![t.val - 1, 17] :=
  (by decide +kernel : ∀ t : Fin grid0.N, _)

theorem idx_18 : ∀ t : Fin cfg0.N, win0_18.index t = ![t.val - 1, 18] :=
  (by decide +kernel : ∀ t : Fin grid0.N, _)

theorem idx_19 : ∀ t : Fin cfg0.N, win0_19.index t = ![t.val - 1, 19] :=
  (by decide +kernel : ∀ t : Fin grid0.N, _)

theorem idx_20 : ∀ t : Fin cfg0.N, win0_20.index t = ![t.val - 1, 20] :=
  (by decide +kernel : ∀ t : Fin grid0.N, _)

theorem idx_21 : ∀ t : Fin cfg0.N, win0_21.index t = ![t.val - 1, 21] :=
  (by decide +kernel : ∀ t : Fin grid0.N, _)

theorem idx_22 : ∀ t : Fin cfg0.N, win0_22.index t = ![t.val - 1, 22] :=
  (by decide +kernel : ∀ t : Fin grid0.N, _)

theorem idx_23 : ∀ t : Fin cfg0.N, win0_23.index t = ![t.val - 1, 23] :=
  (by decide +kernel : ∀ t : Fin grid0.N, _)

theorem idx_24 : ∀ t : Fin cfg0.N, win0_24.index t = ![t.val - 1, 24] :=
  (by decide +kernel : ∀ t : Fin grid0.N, _)

theorem idx_25 : ∀ t : Fin cfg0.N, win0_25.index t = ![t.val - 1, 25] :=
  (by decide +kernel : ∀ t : Fin grid0.N, _)

theorem idx_26 : ∀ t : Fin cfg0.N, win0_26.index t = ![t.val - 1, 26] :=
  (by decide +kernel : ∀ t : Fin grid0.N, _)

theorem idx_27 : ∀ t : Fin cfg0.N, win0_27.index t = ![t.val - 1, 27] :=
  (by decide +kernel : ∀ t : Fin grid0.N, _)

theorem idx_28 : ∀ t : Fin cfg0.N, win0_28.index t = ![t.val - 1, 28] :=
  (by decide +kernel : ∀ t : Fin grid0.N, _)

theorem idx_29 : ∀ t : Fin cfg0.N, win0_29.index t = ![t.val - 1, 29] :=
  (by decide +kernel : ∀ t : Fin grid0.N, _)

theorem idx_30 : ∀ t : Fin cfg0.N, win0_30.index t = ![t.val - 1, 30] :=
  (by decide +kernel : ∀ t : Fin grid0.N, _)

theorem idx_31 : ∀ t : Fin cfg0.N, win0_31.index t = ![t.val - 1, 31] :=
  (by decide +kernel : ∀ t : Fin grid0.N, _)

theorem idx_32 : ∀ t : Fin cfg0.N, win0_32.index t = ![0, 0] :=
  (by decide +kernel : ∀ t : Fin grid0.N, _)

theorem idx_33 : ∀ t : Fin cfg0.N, win0_33.index t = ![0, 0] :=
  (by decide +kernel : ∀ t : Fin grid0.N, _)

theorem idx_34 : ∀ t : Fin cfg0.N, win0_34.index t = ![0, 0] :=
  (by decide +kernel : ∀ t : Fin grid0.N, _)

theorem idx_35 : ∀ t : Fin cfg0.N, win0_35.index t = ![t.val - 1, 0] :=
  (by decide +kernel : ∀ t : Fin grid0.N, _)

theorem idx_36 : ∀ t : Fin cfg0.N, win0_36.index t = ![(t.val - 1) / 43, 0, (t.val - 1) % 43] :=
  (by decide +kernel : ∀ t : Fin grid0.N, _)

/-- The bits of the threshold table's rows. -/
def thrBits (r : ℕ) : BitVec 32 :=
  ([0xC0800000#32, 0xBF591CD8#32, 0xBF1C5270#32, 0xBEEB8480#32, 0xBEADEA76#32, 0xBE703CEC#32, 0xBE0D38BC#32, 0xBD3A7871#32, 0x3D22FAFF#32, 0x3DF64862#32, 0x3E5067E0#32, 0x3E9582D4#32, 0x3EC753F9#32, 0x3F006D04#32, 0x3F248DAF#32, 0x3F5C89DA#32] : List (BitVec 32)).getD r 0#32

theorem lit0_eq : ∀ r : Fin 16, ∀ l : Fin 128, lit0 ⟨128 * r.val + l.val, by omega⟩ = thrBits r.val := by
  decide +kernel

theorem thr_val (r : Fin 16) : Ideal.ofBits .f32 (thrBits r.val) = ((thrR r.val : ℝ) : EReal) := by
  fin_vals r with hr
  · rw [hr]; exact negFour_eq
  · rw [hr]; exact t0_eq
  · rw [hr]; exact t1_eq
  · rw [hr]; exact t2_eq
  · rw [hr]; exact t3_eq
  · rw [hr]; exact t4_eq
  · rw [hr]; exact t5_eq
  · rw [hr]; exact t6_eq
  · rw [hr]; exact t7_eq
  · rw [hr]; exact t8_eq
  · rw [hr]; exact t9_eq
  · rw [hr]; exact t10_eq
  · rw [hr]; exact t11_eq
  · rw [hr]; exact t12_eq
  · rw [hr]; exact t13_eq
  · rw [hr]; exact t14_eq

variable (m : (ℓ : Loc nD τ sig) → Buf (Elt Ideal) ℓ) (c : Dev nD)

/-- Element `k` of row `r` of the weights as the kernel sees them. -/
def W (r : ℕ) (k : ℕ) : EReal :=
  if h : r < 33024 ∧ k < 4096 then
    (m ((c.tc : Thread nD τ).loc main_arg0) : Vec Ideal S3x11008x4096 .bf16) (ix3 ⟨r / 11008, by omega⟩ ⟨r % 11008, by omega⟩ ⟨k, h.2⟩)
  else 0

theorem W_of (r k : ℕ) (hr : r < 33024) (hk : k < 4096) : W m c r k =
    (m ((c.tc : Thread nD τ).loc main_arg0) : Vec Ideal S3x11008x4096 .bf16) (ix3 ⟨r / 11008, by omega⟩ ⟨r % 11008, by omega⟩ ⟨k, hk⟩) :=
  dif_pos ⟨hr, hk⟩

theorem V_v0 (i : S33024x4096.Idx) : (V m c main_v0 : Vec Ideal S33024x4096 .bf16) i = W m c (i 0).val (i 1).val := by
  have h0 := (i 0).isLt
  have h1 := (i 1).isLt
  idx_vars i
  rw [W_of m c _ _ h0 h1]
  entry_read
  pointwise

theorem iblk_0 (t : Fin cfg0.N) (r : Fin 256) (l : Fin 128) : (iblk m c 0 t : Vec Ideal S256x128 .bf16) (ix2 r l) = W m c (256 * (min t.val 128) + r.val) (128 * 0 + l.val) := by
  have := r.isLt
  have := l.isLt
  have hi := idx_0 t
  blk_simp [iblk]
  refine (V_v0 m c _).trans ?_
  refine congrArg₂ (W m c) ?_ ?_
  · blk_simp [hi]
    try omega
  · blk_simp [hi]
    try omega

theorem iblk_1 (t : Fin cfg0.N) (r : Fin 256) (l : Fin 128) : (iblk m c 1 t : Vec Ideal S256x128 .bf16) (ix2 r l) = W m c (256 * (min t.val 128) + r.val) (128 * 1 + l.val) := by
  have := r.isLt
  have := l.isLt
  have hi := idx_1 t
  blk_simp [iblk]
  refine (V_v0 m c _).trans ?_
  refine congrArg₂ (W m c) ?_ ?_
  · blk_simp [hi]
    try omega
  · blk_simp [hi]
    try omega

theorem iblk_2 (t : Fin cfg0.N) (r : Fin 256) (l : Fin 128) : (iblk m c 2 t : Vec Ideal S256x128 .bf16) (ix2 r l) = W m c (256 * (min t.val 128) + r.val) (128 * 2 + l.val) := by
  have := r.isLt
  have := l.isLt
  have hi := idx_2 t
  blk_simp [iblk]
  refine (V_v0 m c _).trans ?_
  refine congrArg₂ (W m c) ?_ ?_
  · blk_simp [hi]
    try omega
  · blk_simp [hi]
    try omega

theorem iblk_3 (t : Fin cfg0.N) (r : Fin 256) (l : Fin 128) : (iblk m c 3 t : Vec Ideal S256x128 .bf16) (ix2 r l) = W m c (256 * (min t.val 128) + r.val) (128 * 3 + l.val) := by
  have := r.isLt
  have := l.isLt
  have hi := idx_3 t
  blk_simp [iblk]
  refine (V_v0 m c _).trans ?_
  refine congrArg₂ (W m c) ?_ ?_
  · blk_simp [hi]
    try omega
  · blk_simp [hi]
    try omega

theorem iblk_4 (t : Fin cfg0.N) (r : Fin 256) (l : Fin 128) : (iblk m c 4 t : Vec Ideal S256x128 .bf16) (ix2 r l) = W m c (256 * (min t.val 128) + r.val) (128 * 4 + l.val) := by
  have := r.isLt
  have := l.isLt
  have hi := idx_4 t
  blk_simp [iblk]
  refine (V_v0 m c _).trans ?_
  refine congrArg₂ (W m c) ?_ ?_
  · blk_simp [hi]
    try omega
  · blk_simp [hi]
    try omega

theorem iblk_5 (t : Fin cfg0.N) (r : Fin 256) (l : Fin 128) : (iblk m c 5 t : Vec Ideal S256x128 .bf16) (ix2 r l) = W m c (256 * (min t.val 128) + r.val) (128 * 5 + l.val) := by
  have := r.isLt
  have := l.isLt
  have hi := idx_5 t
  blk_simp [iblk]
  refine (V_v0 m c _).trans ?_
  refine congrArg₂ (W m c) ?_ ?_
  · blk_simp [hi]
    try omega
  · blk_simp [hi]
    try omega

theorem iblk_6 (t : Fin cfg0.N) (r : Fin 256) (l : Fin 128) : (iblk m c 6 t : Vec Ideal S256x128 .bf16) (ix2 r l) = W m c (256 * (min t.val 128) + r.val) (128 * 6 + l.val) := by
  have := r.isLt
  have := l.isLt
  have hi := idx_6 t
  blk_simp [iblk]
  refine (V_v0 m c _).trans ?_
  refine congrArg₂ (W m c) ?_ ?_
  · blk_simp [hi]
    try omega
  · blk_simp [hi]
    try omega

theorem iblk_7 (t : Fin cfg0.N) (r : Fin 256) (l : Fin 128) : (iblk m c 7 t : Vec Ideal S256x128 .bf16) (ix2 r l) = W m c (256 * (min t.val 128) + r.val) (128 * 7 + l.val) := by
  have := r.isLt
  have := l.isLt
  have hi := idx_7 t
  blk_simp [iblk]
  refine (V_v0 m c _).trans ?_
  refine congrArg₂ (W m c) ?_ ?_
  · blk_simp [hi]
    try omega
  · blk_simp [hi]
    try omega

theorem iblk_8 (t : Fin cfg0.N) (r : Fin 256) (l : Fin 128) : (iblk m c 8 t : Vec Ideal S256x128 .bf16) (ix2 r l) = W m c (256 * (t.val - 1) + r.val) (128 * 8 + l.val) := by
  have := r.isLt
  have := l.isLt
  have hi := idx_8 t
  blk_simp [iblk]
  refine (V_v0 m c _).trans ?_
  refine congrArg₂ (W m c) ?_ ?_
  · blk_simp [hi]
    try omega
  · blk_simp [hi]
    try omega

theorem iblk_9 (t : Fin cfg0.N) (r : Fin 256) (l : Fin 128) : (iblk m c 9 t : Vec Ideal S256x128 .bf16) (ix2 r l) = W m c (256 * (t.val - 1) + r.val) (128 * 9 + l.val) := by
  have := r.isLt
  have := l.isLt
  have hi := idx_9 t
  blk_simp [iblk]
  refine (V_v0 m c _).trans ?_
  refine congrArg₂ (W m c) ?_ ?_
  · blk_simp [hi]
    try omega
  · blk_simp [hi]
    try omega

theorem iblk_10 (t : Fin cfg0.N) (r : Fin 256) (l : Fin 128) : (iblk m c 10 t : Vec Ideal S256x128 .bf16) (ix2 r l) = W m c (256 * (t.val - 1) + r.val) (128 * 10 + l.val) := by
  have := r.isLt
  have := l.isLt
  have hi := idx_10 t
  blk_simp [iblk]
  refine (V_v0 m c _).trans ?_
  refine congrArg₂ (W m c) ?_ ?_
  · blk_simp [hi]
    try omega
  · blk_simp [hi]
    try omega

theorem iblk_11 (t : Fin cfg0.N) (r : Fin 256) (l : Fin 128) : (iblk m c 11 t : Vec Ideal S256x128 .bf16) (ix2 r l) = W m c (256 * (t.val - 1) + r.val) (128 * 11 + l.val) := by
  have := r.isLt
  have := l.isLt
  have hi := idx_11 t
  blk_simp [iblk]
  refine (V_v0 m c _).trans ?_
  refine congrArg₂ (W m c) ?_ ?_
  · blk_simp [hi]
    try omega
  · blk_simp [hi]
    try omega

theorem iblk_12 (t : Fin cfg0.N) (r : Fin 256) (l : Fin 128) : (iblk m c 12 t : Vec Ideal S256x128 .bf16) (ix2 r l) = W m c (256 * (t.val - 1) + r.val) (128 * 12 + l.val) := by
  have := r.isLt
  have := l.isLt
  have hi := idx_12 t
  blk_simp [iblk]
  refine (V_v0 m c _).trans ?_
  refine congrArg₂ (W m c) ?_ ?_
  · blk_simp [hi]
    try omega
  · blk_simp [hi]
    try omega

theorem iblk_13 (t : Fin cfg0.N) (r : Fin 256) (l : Fin 128) : (iblk m c 13 t : Vec Ideal S256x128 .bf16) (ix2 r l) = W m c (256 * (t.val - 1) + r.val) (128 * 13 + l.val) := by
  have := r.isLt
  have := l.isLt
  have hi := idx_13 t
  blk_simp [iblk]
  refine (V_v0 m c _).trans ?_
  refine congrArg₂ (W m c) ?_ ?_
  · blk_simp [hi]
    try omega
  · blk_simp [hi]
    try omega

theorem iblk_14 (t : Fin cfg0.N) (r : Fin 256) (l : Fin 128) : (iblk m c 14 t : Vec Ideal S256x128 .bf16) (ix2 r l) = W m c (256 * (t.val - 1) + r.val) (128 * 14 + l.val) := by
  have := r.isLt
  have := l.isLt
  have hi := idx_14 t
  blk_simp [iblk]
  refine (V_v0 m c _).trans ?_
  refine congrArg₂ (W m c) ?_ ?_
  · blk_simp [hi]
    try omega
  · blk_simp [hi]
    try omega

theorem iblk_15 (t : Fin cfg0.N) (r : Fin 256) (l : Fin 128) : (iblk m c 15 t : Vec Ideal S256x128 .bf16) (ix2 r l) = W m c (256 * (t.val - 1) + r.val) (128 * 15 + l.val) := by
  have := r.isLt
  have := l.isLt
  have hi := idx_15 t
  blk_simp [iblk]
  refine (V_v0 m c _).trans ?_
  refine congrArg₂ (W m c) ?_ ?_
  · blk_simp [hi]
    try omega
  · blk_simp [hi]
    try omega

theorem iblk_16 (t : Fin cfg0.N) (r : Fin 256) (l : Fin 128) : (iblk m c 16 t : Vec Ideal S256x128 .bf16) (ix2 r l) = W m c (256 * (t.val - 1) + r.val) (128 * 16 + l.val) := by
  have := r.isLt
  have := l.isLt
  have hi := idx_16 t
  blk_simp [iblk]
  refine (V_v0 m c _).trans ?_
  refine congrArg₂ (W m c) ?_ ?_
  · blk_simp [hi]
    try omega
  · blk_simp [hi]
    try omega

theorem iblk_17 (t : Fin cfg0.N) (r : Fin 256) (l : Fin 128) : (iblk m c 17 t : Vec Ideal S256x128 .bf16) (ix2 r l) = W m c (256 * (t.val - 1) + r.val) (128 * 17 + l.val) := by
  have := r.isLt
  have := l.isLt
  have hi := idx_17 t
  blk_simp [iblk]
  refine (V_v0 m c _).trans ?_
  refine congrArg₂ (W m c) ?_ ?_
  · blk_simp [hi]
    try omega
  · blk_simp [hi]
    try omega

theorem iblk_18 (t : Fin cfg0.N) (r : Fin 256) (l : Fin 128) : (iblk m c 18 t : Vec Ideal S256x128 .bf16) (ix2 r l) = W m c (256 * (t.val - 1) + r.val) (128 * 18 + l.val) := by
  have := r.isLt
  have := l.isLt
  have hi := idx_18 t
  blk_simp [iblk]
  refine (V_v0 m c _).trans ?_
  refine congrArg₂ (W m c) ?_ ?_
  · blk_simp [hi]
    try omega
  · blk_simp [hi]
    try omega

theorem iblk_19 (t : Fin cfg0.N) (r : Fin 256) (l : Fin 128) : (iblk m c 19 t : Vec Ideal S256x128 .bf16) (ix2 r l) = W m c (256 * (t.val - 1) + r.val) (128 * 19 + l.val) := by
  have := r.isLt
  have := l.isLt
  have hi := idx_19 t
  blk_simp [iblk]
  refine (V_v0 m c _).trans ?_
  refine congrArg₂ (W m c) ?_ ?_
  · blk_simp [hi]
    try omega
  · blk_simp [hi]
    try omega

theorem iblk_20 (t : Fin cfg0.N) (r : Fin 256) (l : Fin 128) : (iblk m c 20 t : Vec Ideal S256x128 .bf16) (ix2 r l) = W m c (256 * (t.val - 1) + r.val) (128 * 20 + l.val) := by
  have := r.isLt
  have := l.isLt
  have hi := idx_20 t
  blk_simp [iblk]
  refine (V_v0 m c _).trans ?_
  refine congrArg₂ (W m c) ?_ ?_
  · blk_simp [hi]
    try omega
  · blk_simp [hi]
    try omega

theorem iblk_21 (t : Fin cfg0.N) (r : Fin 256) (l : Fin 128) : (iblk m c 21 t : Vec Ideal S256x128 .bf16) (ix2 r l) = W m c (256 * (t.val - 1) + r.val) (128 * 21 + l.val) := by
  have := r.isLt
  have := l.isLt
  have hi := idx_21 t
  blk_simp [iblk]
  refine (V_v0 m c _).trans ?_
  refine congrArg₂ (W m c) ?_ ?_
  · blk_simp [hi]
    try omega
  · blk_simp [hi]
    try omega

theorem iblk_22 (t : Fin cfg0.N) (r : Fin 256) (l : Fin 128) : (iblk m c 22 t : Vec Ideal S256x128 .bf16) (ix2 r l) = W m c (256 * (t.val - 1) + r.val) (128 * 22 + l.val) := by
  have := r.isLt
  have := l.isLt
  have hi := idx_22 t
  blk_simp [iblk]
  refine (V_v0 m c _).trans ?_
  refine congrArg₂ (W m c) ?_ ?_
  · blk_simp [hi]
    try omega
  · blk_simp [hi]
    try omega

theorem iblk_23 (t : Fin cfg0.N) (r : Fin 256) (l : Fin 128) : (iblk m c 23 t : Vec Ideal S256x128 .bf16) (ix2 r l) = W m c (256 * (t.val - 1) + r.val) (128 * 23 + l.val) := by
  have := r.isLt
  have := l.isLt
  have hi := idx_23 t
  blk_simp [iblk]
  refine (V_v0 m c _).trans ?_
  refine congrArg₂ (W m c) ?_ ?_
  · blk_simp [hi]
    try omega
  · blk_simp [hi]
    try omega

theorem iblk_24 (t : Fin cfg0.N) (r : Fin 256) (l : Fin 128) : (iblk m c 24 t : Vec Ideal S256x128 .bf16) (ix2 r l) = W m c (256 * (t.val - 1) + r.val) (128 * 24 + l.val) := by
  have := r.isLt
  have := l.isLt
  have hi := idx_24 t
  blk_simp [iblk]
  refine (V_v0 m c _).trans ?_
  refine congrArg₂ (W m c) ?_ ?_
  · blk_simp [hi]
    try omega
  · blk_simp [hi]
    try omega

theorem iblk_25 (t : Fin cfg0.N) (r : Fin 256) (l : Fin 128) : (iblk m c 25 t : Vec Ideal S256x128 .bf16) (ix2 r l) = W m c (256 * (t.val - 1) + r.val) (128 * 25 + l.val) := by
  have := r.isLt
  have := l.isLt
  have hi := idx_25 t
  blk_simp [iblk]
  refine (V_v0 m c _).trans ?_
  refine congrArg₂ (W m c) ?_ ?_
  · blk_simp [hi]
    try omega
  · blk_simp [hi]
    try omega

theorem iblk_26 (t : Fin cfg0.N) (r : Fin 256) (l : Fin 128) : (iblk m c 26 t : Vec Ideal S256x128 .bf16) (ix2 r l) = W m c (256 * (t.val - 1) + r.val) (128 * 26 + l.val) := by
  have := r.isLt
  have := l.isLt
  have hi := idx_26 t
  blk_simp [iblk]
  refine (V_v0 m c _).trans ?_
  refine congrArg₂ (W m c) ?_ ?_
  · blk_simp [hi]
    try omega
  · blk_simp [hi]
    try omega

theorem iblk_27 (t : Fin cfg0.N) (r : Fin 256) (l : Fin 128) : (iblk m c 27 t : Vec Ideal S256x128 .bf16) (ix2 r l) = W m c (256 * (t.val - 1) + r.val) (128 * 27 + l.val) := by
  have := r.isLt
  have := l.isLt
  have hi := idx_27 t
  blk_simp [iblk]
  refine (V_v0 m c _).trans ?_
  refine congrArg₂ (W m c) ?_ ?_
  · blk_simp [hi]
    try omega
  · blk_simp [hi]
    try omega

theorem iblk_28 (t : Fin cfg0.N) (r : Fin 256) (l : Fin 128) : (iblk m c 28 t : Vec Ideal S256x128 .bf16) (ix2 r l) = W m c (256 * (t.val - 1) + r.val) (128 * 28 + l.val) := by
  have := r.isLt
  have := l.isLt
  have hi := idx_28 t
  blk_simp [iblk]
  refine (V_v0 m c _).trans ?_
  refine congrArg₂ (W m c) ?_ ?_
  · blk_simp [hi]
    try omega
  · blk_simp [hi]
    try omega

theorem iblk_29 (t : Fin cfg0.N) (r : Fin 256) (l : Fin 128) : (iblk m c 29 t : Vec Ideal S256x128 .bf16) (ix2 r l) = W m c (256 * (t.val - 1) + r.val) (128 * 29 + l.val) := by
  have := r.isLt
  have := l.isLt
  have hi := idx_29 t
  blk_simp [iblk]
  refine (V_v0 m c _).trans ?_
  refine congrArg₂ (W m c) ?_ ?_
  · blk_simp [hi]
    try omega
  · blk_simp [hi]
    try omega

theorem iblk_30 (t : Fin cfg0.N) (r : Fin 256) (l : Fin 128) : (iblk m c 30 t : Vec Ideal S256x128 .bf16) (ix2 r l) = W m c (256 * (t.val - 1) + r.val) (128 * 30 + l.val) := by
  have := r.isLt
  have := l.isLt
  have hi := idx_30 t
  blk_simp [iblk]
  refine (V_v0 m c _).trans ?_
  refine congrArg₂ (W m c) ?_ ?_
  · blk_simp [hi]
    try omega
  · blk_simp [hi]
    try omega

theorem iblk_31 (t : Fin cfg0.N) (r : Fin 256) (l : Fin 128) : (iblk m c 31 t : Vec Ideal S256x128 .bf16) (ix2 r l) = W m c (256 * (t.val - 1) + r.val) (128 * 31 + l.val) := by
  have := r.isLt
  have := l.isLt
  have hi := idx_31 t
  blk_simp [iblk]
  refine (V_v0 m c _).trans ?_
  refine congrArg₂ (W m c) ?_ ?_
  · blk_simp [hi]
    try omega
  · blk_simp [hi]
    try omega

theorem iblk_32 (t : Fin cfg0.N) (r : Fin 16) (l : Fin 128) : (iblk m c 32 t : Vec Ideal S16x128 .f32) (ix2 r l) = ((thrR r.val : ℝ) : EReal) := by
  have := r.isLt
  have := l.isLt
  blk_simp [iblk, idx_32 t]
  entry_read
  refine Eq.trans ?_ (thr_val r)
  rw [← lit0_eq r l]
  show Ideal.ofBits .f32 (lit0 _) = Ideal.ofBits .f32 (lit0 _)
  congr 2
  apply Fin.ext
  show _ = 128 * r.val + l.val
  rw [rowMajor_val2 _ 128 rfl]
  blk_simp [idx_32 t]
  omega

theorem iblk_34 (t : Fin cfg0.N) (r : Fin 64) (l : Fin 256) : (iblk m c 34 t : Vec Ideal S64x256 .bf16) (ix2 r l) = Ideal.ofBits .bf16 (PackTable.packBits r.val l.val) := by
  have := r.isLt
  have := l.isLt
  blk_simp [iblk, idx_34 t]
  entry_read
  rw [← PackTable.lit2_eq r l]
  show Ideal.ofBits .bf16 (lit2 _) = Ideal.ofBits .bf16 (lit2 _)
  congr 2
  apply Fin.ext
  show _ = 256 * r.val + l.val
  rw [rowMajor_val2 _ 256 rfl]
  blk_simp [idx_34 t]
  omega

/-- The tables a point holds are the two halves of the thresholds and the packing weights. -/
theorem tables (t : Fin cfg0.N) (a33 : Memref sig .tc .vmem S16x128 .f32) (h33 : a33.IsWhole) (a35 : Memref sig .tc .vmem S64x256 .bf16) (h35 : a35.IsWhole) :
    Tables (tb0 a33 h33 (iblk m c 32 t : Vec Ideal S16x128 .f32)) (tb1 a33 h33 (iblk m c 32 t : Vec Ideal S16x128 .f32)) (pk a35 h35 (iblk m c 34 t : Vec Ideal S64x256 .bf16)) := by
  refine ⟨fun r l => ?_, fun r l => ?_, fun i k => ?_⟩
  · have := r.isLt
    unfold tb0
    rw [View.readAt_eq_ld, h33.read_unread]
    refine (View.ld_unit_apply_of (iblk m c 32 t : Vec Ideal S16x128 .f32) _ _ _ _ (ix2 ⟨r.val, by omega⟩ l) fun a => ?_).trans (iblk_32 m c t _ _)
    fin_cases a <;> simp
  · have := r.isLt
    unfold tb1
    rw [View.readAt_eq_ld, h33.read_unread]
    refine (View.ld_unit_apply_of (iblk m c 32 t : Vec Ideal S16x128 .f32) _ _ _ _ (ix2 ⟨8 + r.val, by omega⟩ l) fun a => ?_).trans (iblk_32 m c t _ _)
    fin_cases a <;> simp
  · unfold pk
    rw [View.readAt_eq_ld, h35.read_unread]
    refine (View.ld_unit_apply_of (iblk m c 34 t : Vec Ideal S64x256 .bf16) _ _ _ _ (ix2 i k) fun a => ?_).trans (iblk_34 m c t _ _)
    fin_cases a <;> simp

end Cert.Proof.Blocks

end
-- ==== Proof.PointB.lean ====
/- The kernel's two arrays, element by element: what each point finds and leaves, then the arrays. -/
module

public import proofs.«01_k».proof.Proof.RunVal
public import proofs.«01_k».proof.Proof.Blocks
public import proofs.«01_k».proof.Proof.Ideal.Launch
public import Idealize.ShloMosaic.Lib.Claim
public import Idealize.ShloMosaic.Lib.Pipeline.ValueKit

@[expose] public section

set_option maxRecDepth 65536
set_option maxHeartbeats 4000000

noncomputable section

namespace Cert.Proof.Point

open Cert.KernelIdeal Cert.KernelIdeal.Gen Cert.KernelIdeal.Hand
open Idealize.ShloMosaic Idealize.ShloMosaic.TcCoe Idealize.ShloMosaic.Tactic Idealize.SL.Sem
open Cert.Proof.Stage Cert.Proof.Blocks

variable (m : (ℓ : Loc nD τ sig) → Buf (Elt Ideal) ℓ) (c : Dev nD)

/-- The rows of a row block. -/
def yb (n r k : ℕ) : EReal := W m c (256 * n + r) k

theorem holdsB_of (x0 x1 x2 x3 x4 x5 x6 x7 : Vec Ideal S256x128 .bf16) (y : ℕ → ℕ → EReal)
    (h0 : ∀ (r : Fin 256) (k : Fin 128), x0 (ix2 r k) = y r.val (128 * 0 + k.val))
    (h1 : ∀ (r : Fin 256) (k : Fin 128), x1 (ix2 r k) = y r.val (128 * 1 + k.val))
    (h2 : ∀ (r : Fin 256) (k : Fin 128), x2 (ix2 r k) = y r.val (128 * 2 + k.val))
    (h3 : ∀ (r : Fin 256) (k : Fin 128), x3 (ix2 r k) = y r.val (128 * 3 + k.val))
    (h4 : ∀ (r : Fin 256) (k : Fin 128), x4 (ix2 r k) = y r.val (128 * 4 + k.val))
    (h5 : ∀ (r : Fin 256) (k : Fin 128), x5 (ix2 r k) = y r.val (128 * 5 + k.val))
    (h6 : ∀ (r : Fin 256) (k : Fin 128), x6 (ix2 r k) = y r.val (128 * 6 + k.val))
    (h7 : ∀ (r : Fin 256) (k : Fin 128), x7 (ix2 r k) = y r.val (128 * 7 + k.val)) :
    HoldsB ![x0, x1, x2, x3, x4, x5, x6, x7] y := by
  intro u r k
  fin_vals u with hu
  · obtain rfl : u = 0 := Fin.ext hu
    exact h0 r k
  · obtain rfl : u = 1 := Fin.ext hu
    exact h1 r k
  · obtain rfl : u = 2 := Fin.ext hu
    exact h2 r k
  · obtain rfl : u = 3 := Fin.ext hu
    exact h3 r k
  · obtain rfl : u = 4 := Fin.ext hu
    exact h4 r k
  · obtain rfl : u = 5 := Fin.ext hu
    exact h5 r k
  · obtain rfl : u = 6 := Fin.ext hu
    exact h6 r k
  · obtain rfl : u = 7 := Fin.ext hu
    exact h7 r k

theorem blocks_0 (t : Fin cfg0.N) : HoldsB ![(iblk m c 0 t : Vec Ideal S256x128 .bf16), (iblk m c 1 t : Vec Ideal S256x128 .bf16), (iblk m c 2 t : Vec Ideal S256x128 .bf16), (iblk m c 3 t : Vec Ideal S256x128 .bf16), (iblk m c 4 t : Vec Ideal S256x128 .bf16), (iblk m c 5 t : Vec Ideal S256x128 .bf16), (iblk m c 6 t : Vec Ideal S256x128 .bf16), (iblk m c 7 t : Vec Ideal S256x128 .bf16)] (fun r k => yb m c (min t.val 128) r (64 * (16 * 0) + k)) :=
  holdsB_of _ _ _ _ _ _ _ _ _
    (fun r k => (iblk_0 m c t r k).trans (congrArg (W m c (256 * (min t.val 128) + r.val)) (by omega)))
    (fun r k => (iblk_1 m c t r k).trans (congrArg (W m c (256 * (min t.val 128) + r.val)) (by omega)))
    (fun r k => (iblk_2 m c t r k).trans (congrArg (W m c (256 * (min t.val 128) + r.val)) (by omega)))
    (fun r k => (iblk_3 m c t r k).trans (congrArg (W m c (256 * (min t.val 128) + r.val)) (by omega)))
    (fun r k => (iblk_4 m c t r k).trans (congrArg (W m c (256 * (min t.val 128) + r.val)) (by omega)))
    (fun r k => (iblk_5 m c t r k).trans (congrArg (W m c (256 * (min t.val 128) + r.val)) (by omega)))
    (fun r k => (iblk_6 m c t r k).trans (congrArg (W m c (256 * (min t.val 128) + r.val)) (by omega)))
    (fun r k => (iblk_7 m c t r k).trans (congrArg (W m c (256 * (min t.val 128) + r.val)) (by omega)))

theorem blocks_1 (t : Fin cfg0.N) : HoldsB ![(iblk m c 8 t : Vec Ideal S256x128 .bf16), (iblk m c 9 t : Vec Ideal S256x128 .bf16), (iblk m c 10 t : Vec Ideal S256x128 .bf16), (iblk m c 11 t : Vec Ideal S256x128 .bf16), (iblk m c 12 t : Vec Ideal S256x128 .bf16), (iblk m c 13 t : Vec Ideal S256x128 .bf16), (iblk m c 14 t : Vec Ideal S256x128 .bf16), (iblk m c 15 t : Vec Ideal S256x128 .bf16)] (fun r k => yb m c (t.val - 1) r (64 * (16 * 1) + k)) :=
  holdsB_of _ _ _ _ _ _ _ _ _
    (fun r k => (iblk_8 m c t r k).trans (congrArg (W m c (256 * (t.val - 1) + r.val)) (by omega)))
    (fun r k => (iblk_9 m c t r k).trans (congrArg (W m c (256 * (t.val - 1) + r.val)) (by omega)))
    (fun r k => (iblk_10 m c t r k).trans (congrArg (W m c (256 * (t.val - 1) + r.val)) (by omega)))
    (fun r k => (iblk_11 m c t r k).trans (congrArg (W m c (256 * (t.val - 1) + r.val)) (by omega)))
    (fun r k => (iblk_12 m c t r k).trans (congrArg (W m c (256 * (t.val - 1) + r.val)) (by omega)))
    (fun r k => (iblk_13 m c t r k).trans (congrArg (W m c (256 * (t.val - 1) + r.val)) (by omega)))
    (fun r k => (iblk_14 m c t r k).trans (congrArg (W m c (256 * (t.val - 1) + r.val)) (by omega)))
    (fun r k => (iblk_15 m c t r k).trans (congrArg (W m c (256 * (t.val - 1) + r.val)) (by omega)))

theorem blocks_2 (t : Fin cfg0.N) : HoldsB ![(iblk m c 16 t : Vec Ideal S256x128 .bf16), (iblk m c 17 t : Vec Ideal S256x128 .bf16), (iblk m c 18 t : Vec Ideal S256x128 .bf16), (iblk m c 19 t : Vec Ideal S256x128 .bf16), (iblk m c 20 t : Vec Ideal S256x128 .bf16), (iblk m c 21 t : Vec Ideal S256x128 .bf16), (iblk m c 22 t : Vec Ideal S256x128 .bf16), (iblk m c 23 t : Vec Ideal S256x128 .bf16)] (fun r k => yb m c (t.val - 1) r (64 * (16 * 2) + k)) :=
  holdsB_of _ _ _ _ _ _ _ _ _
    (fun r k => (iblk_16 m c t r k).trans (congrArg (W m c (256 * (t.val - 1) + r.val)) (by omega)))
    (fun r k => (iblk_17 m c t r k).trans (congrArg (W m c (256 * (t.val - 1) + r.val)) (by omega)))
    (fun r k => (iblk_18 m c t r k).trans (congrArg (W m c (256 * (t.val - 1) + r.val)) (by omega)))
    (fun r k => (iblk_19 m c t r k).trans (congrArg (W m c (256 * (t.val - 1) + r.val)) (by omega)))
    (fun r k => (iblk_20 m c t r k).trans (congrArg (W m c (256 * (t.val - 1) + r.val)) (by omega)))
    (fun r k => (iblk_21 m c t r k).trans (congrArg (W m c (256 * (t.val - 1) + r.val)) (by omega)))
    (fun r k => (iblk_22 m c t r k).trans (congrArg (W m c (256 * (t.val - 1) + r.val)) (by omega)))
    (fun r k => (iblk_23 m c t r k).trans (congrArg (W m c (256 * (t.val - 1) + r.val)) (by omega)))

theorem blocks_3 (t : Fin cfg0.N) : HoldsB ![(iblk m c 24 t : Vec Ideal S256x128 .bf16), (iblk m c 25 t : Vec Ideal S256x128 .bf16), (iblk m c 26 t : Vec Ideal S256x128 .bf16), (iblk m c 27 t : Vec Ideal S256x128 .bf16), (iblk m c 28 t : Vec Ideal S256x128 .bf16), (iblk m c 29 t : Vec Ideal S256x128 .bf16), (iblk m c 30 t : Vec Ideal S256x128 .bf16), (iblk m c 31 t : Vec Ideal S256x128 .bf16)] (fun r k => yb m c (t.val - 1) r (64 * (16 * 3) + k)) :=
  holdsB_of _ _ _ _ _ _ _ _ _
    (fun r k => (iblk_24 m c t r k).trans (congrArg (W m c (256 * (t.val - 1) + r.val)) (by omega)))
    (fun r k => (iblk_25 m c t r k).trans (congrArg (W m c (256 * (t.val - 1) + r.val)) (by omega)))
    (fun r k => (iblk_26 m c t r k).trans (congrArg (W m c (256 * (t.val - 1) + r.val)) (by omega)))
    (fun r k => (iblk_27 m c t r k).trans (congrArg (W m c (256 * (t.val - 1) + r.val)) (by omega)))
    (fun r k => (iblk_28 m c t r k).trans (congrArg (W m c (256 * (t.val - 1) + r.val)) (by omega)))
    (fun r k => (iblk_29 m c t r k).trans (congrArg (W m c (256 * (t.val - 1) + r.val)) (by omega)))
    (fun r k => (iblk_30 m c t r k).trans (congrArg (W m c (256 * (t.val - 1) + r.val)) (by omega)))
    (fun r k => (iblk_31 m c t r k).trans (congrArg (W m c (256 * (t.val - 1) + r.val)) (by omega)))

end Cert.Proof.Point

end
-- ==== Proof.PointC.lean ====
/- The kernel's two arrays, element by element: what each point finds and leaves, then the arrays. -/
module

public import proofs.«01_k».proof.Proof.PointB
public import proofs.«01_k».proof.Proof.Blocks
public import proofs.«01_k».proof.Proof.Ideal.Launch
public import Idealize.ShloMosaic.Lib.Claim
public import Idealize.ShloMosaic.Lib.Pipeline.ValueKit

@[expose] public section

set_option maxRecDepth 65536
set_option maxHeartbeats 4000000

noncomputable section

namespace Cert.Proof.Point

open Cert.KernelIdeal Cert.KernelIdeal.Gen Cert.KernelIdeal.Hand
open Idealize.ShloMosaic Idealize.ShloMosaic.TcCoe Idealize.ShloMosaic.Tactic Idealize.SL.Sem
open Cert.Proof.Stage Cert.Proof.Blocks

variable (m : (ℓ : Loc nD τ sig) → Buf (Elt Ideal) ℓ) (c : Dev nD)

/-- What the carried scratch holds after a point that read row block `n`. -/
def Carried (n : ℕ) (s : Vec Ideal S2x512x2x128 .bf16) (a0 a1 : Vec Ideal S64x128 .f32) (z : Vec Ideal S2x16x128 .f32) (w : Vec Ideal S2x16x2x128 .bf16) : Prop :=
  HoldsS s (xc (yb m c n) 0) ∧ HoldsA a0 (xc (yb m c n) 0 0) ∧ HoldsA a1 (xc (yb m c n) 0 1) ∧ HoldsZ z (xc (yb m c n) 0) ∧ HoldsW w (xc (yb m c n) 0)

theorem carried_A_0 (t : Fin cfg0.N) (h0 : t.val % 130 = 0)  : HoldsS (sout0_A_0 m c t h0) (xc (yb m c (min t.val 128)) 0) :=
  Eq.mpr (congrArg (fun X => HoldsS X (xc (yb m c (min t.val 128)) 0)) (View.read_writes_junk_eq_canon VS0_0 (RA m c t h0).2.2.2.1))
    (runA_s0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (yb m c (min t.val 128)) (blocks_0 m c t))

theorem carried_A_4 (t : Fin cfg0.N) (h0 : t.val % 130 = 0)  : HoldsA (sout0_A_4 m c t h0) (xc (yb m c (min t.val 128)) 0 0) :=
  Eq.mpr (congrArg (fun X => HoldsA X (xc (yb m c (min t.val 128)) 0 0)) (View.read_writes_junk_eq_canon VS0_4 (RA m c t h0).2.2.2.2.1))
    (runA_s4_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (yb m c (min t.val 128)) (blocks_0 m c t))

theorem carried_A_5 (t : Fin cfg0.N) (h0 : t.val % 130 = 0)  : HoldsA (sout0_A_5 m c t h0) (xc (yb m c (min t.val 128)) 0 1) :=
  Eq.mpr (congrArg (fun X => HoldsA X (xc (yb m c (min t.val 128)) 0 1)) (View.read_writes_junk_eq_canon VS0_5 (RA m c t h0).2.2.2.2.2.1))
    (runA_s5_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (yb m c (min t.val 128)) (blocks_0 m c t))

theorem carried_A_6 (t : Fin cfg0.N) (h0 : t.val % 130 = 0)  : HoldsZ (sout0_A_6 m c t h0) (xc (yb m c (min t.val 128)) 0) :=
  Eq.mpr (congrArg (fun X => HoldsZ X (xc (yb m c (min t.val 128)) 0)) (View.read_writes_junk_eq_canon VS0_6 (RA m c t h0).2.2.2.2.2.2.1))
    (runA_s6_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (yb m c (min t.val 128)) (blocks_0 m c t))

theorem carried_A_8 (t : Fin cfg0.N) (h0 : t.val % 130 = 0)  : HoldsW (sout0_A_8 m c t h0) (xc (yb m c (min t.val 128)) 0) :=
  Eq.mpr (congrArg (fun X => HoldsW X (xc (yb m c (min t.val 128)) 0)) (View.read_writes_junk_eq_canon VS0_8 (RA m c t h0).2.2.2.2.2.2.2.1))
    (runA_s8_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (yb m c (min t.val 128)) (blocks_0 m c t))

theorem carried_B_0 (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) : HoldsS (sout0_B_0 m c t h0 xo37 xs0 xs4 xs5 xs6 xs8) (xc (yb m c (min t.val 128)) 0) :=
  Eq.mpr (congrArg (fun X => HoldsS X (xc (yb m c (min t.val 128)) 0)) (View.read_writes_junk_eq_canon VS0_0 (RB m c t h0 xo37 xs0 xs4 xs5 xs6 xs8).2.2.2.1))
    (runB_s0_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (min t.val 128)) (blocks_0 m c t))

theorem carried_B_4 (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) : HoldsA (sout0_B_4 m c t h0 xo37 xs0 xs4 xs5 xs6 xs8) (xc (yb m c (min t.val 128)) 0 0) :=
  Eq.mpr (congrArg (fun X => HoldsA X (xc (yb m c (min t.val 128)) 0 0)) (View.read_writes_junk_eq_canon VS0_4 (RB m c t h0 xo37 xs0 xs4 xs5 xs6 xs8).2.2.2.2.1))
    (runB_s4_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (min t.val 128)) (blocks_0 m c t))

theorem carried_B_5 (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) : HoldsA (sout0_B_5 m c t h0 xo37 xs0 xs4 xs5 xs6 xs8) (xc (yb m c (min t.val 128)) 0 1) :=
  Eq.mpr (congrArg (fun X => HoldsA X (xc (yb m c (min t.val 128)) 0 1)) (View.read_writes_junk_eq_canon VS0_5 (RB m c t h0 xo37 xs0 xs4 xs5 xs6 xs8).2.2.2.2.2.1))
    (runB_s5_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (min t.val 128)) (blocks_0 m c t))

theorem carried_B_6 (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) : HoldsZ (sout0_B_6 m c t h0 xo37 xs0 xs4 xs5 xs6 xs8) (xc (yb m c (min t.val 128)) 0) :=
  Eq.mpr (congrArg (fun X => HoldsZ X (xc (yb m c (min t.val 128)) 0)) (View.read_writes_junk_eq_canon VS0_6 (RB m c t h0 xo37 xs0 xs4 xs5 xs6 xs8).2.2.2.2.2.2.1))
    (runB_s6_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (min t.val 128)) (blocks_0 m c t))

theorem carried_B_8 (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) : HoldsW (sout0_B_8 m c t h0 xo37 xs0 xs4 xs5 xs6 xs8) (xc (yb m c (min t.val 128)) 0) :=
  Eq.mpr (congrArg (fun X => HoldsW X (xc (yb m c (min t.val 128)) 0)) (View.read_writes_junk_eq_canon VS0_8 (RB m c t h0 xo37 xs0 xs4 xs5 xs6 xs8).2.2.2.2.2.2.2.1))
    (runB_s8_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (min t.val 128)) (blocks_0 m c t))

theorem words_B (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) (hc : Carried m c (t.val - 1) xs0 xs4 xs5 xs6 xs8) (p : Fin 256) (k : Fin 512) :
    out0_B_35 m c t h0 xo37 xs0 xs4 xs5 xs6 xs8 (ix2 p k) = wordAt (cd (yb m c (t.val - 1) p.val)) k.val :=
  (congrFun (View.read_writes_junk_eq_canon VO0_35 (RB m c t h0 xo37 xs0 xs4 xs5 xs6 xs8).1) (ix2 p k)).trans
    (runB_words_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (t.val - 1)) (tables m c t _ _ _ _) hc.1 hc.2.2.2.2 hc.2.2.2.1 (blocks_1 m c t) (blocks_2 m c t) (blocks_3 m c t) p k)

theorem abs_B (t : Fin cfg0.N) (h0 : ¬t.val % 130 = 0) (xo37 : Vec Ideal S8x128 .f32) (xs0 : Vec Ideal S2x512x2x128 .bf16) (xs4 xs5 : Vec Ideal S64x128 .f32) (xs6 : Vec Ideal S2x16x128 .f32) (xs8 : Vec Ideal S2x16x2x128 .bf16) (hc : Carried m c (t.val - 1) xs0 xs4 xs5 xs6 xs8) (q : Fin 64) (p : Fin 256) :
    out0_B_36 m c t h0 xo37 xs0 xs4 xs5 xs6 xs8 (ix3 0 q p) = bm (yb m c (t.val - 1) p.val) q.val :=
  (congrFun (View.read_writes_junk_eq_canon VO0_36 (RB m c t h0 xo37 xs0 xs4 xs5 xs6 xs8).2.1) (ix3 0 q p)).trans
    (runB_abs_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) xo37 xs0 xs4 xs5 xs6 xs8 (yb m c (t.val - 1)) hc.2.1 hc.2.2.1 (blocks_1 m c t) (blocks_2 m c t) (blocks_3 m c t) q p)

end Cert.Proof.Point

end
-- ==== Proof.Point.lean ====
/- The kernel's two arrays, element by element: what each point finds and leaves, then the arrays. -/
module

public import proofs.«01_k».proof.Proof.PointC
public import proofs.«01_k».proof.Proof.Blocks
public import proofs.«01_k».proof.Proof.Ideal.Launch
public import Idealize.ShloMosaic.Lib.Claim
public import Idealize.ShloMosaic.Lib.Pipeline.ValueKit

@[expose] public section

set_option maxRecDepth 65536
set_option maxHeartbeats 4000000

noncomputable section

namespace Cert.Proof.Point

open Cert.KernelIdeal Cert.KernelIdeal.Gen Cert.KernelIdeal.Hand
open Idealize.ShloMosaic Idealize.ShloMosaic.TcCoe Idealize.ShloMosaic.Tactic Idealize.SL.Sem
open Cert.Proof.Stage Cert.Proof.Blocks

variable (m : (ℓ : Loc nD τ sig) → Buf (Elt Ideal) ℓ) (c : Dev nD)

/-- The same of a point's whole tuple. -/
def CarriedT (n : ℕ) (T : Vec Ideal S256x512 .i32 × Vec Ideal S1x64x256 .f32 × Vec Ideal S8x128 .f32 × Vec Ideal S2x512x2x128 .bf16 × Vec Ideal S64x128 .f32 × Vec Ideal S64x128 .f32 × Vec Ideal S2x16x128 .f32 × Vec Ideal S2x16x2x128 .bf16) : Prop :=
  Carried m c n T.2.2.2.1 T.2.2.2.2.1 T.2.2.2.2.2.1 T.2.2.2.2.2.2.1 T.2.2.2.2.2.2.2

theorem carriedT_mk (n : ℕ) (o1 : Vec Ideal S256x512 .i32) (o2 : Vec Ideal S1x64x256 .f32) (o3 : Vec Ideal S8x128 .f32) (s : Vec Ideal S2x512x2x128 .bf16) (a0 a1 : Vec Ideal S64x128 .f32) (z : Vec Ideal S2x16x128 .f32) (w : Vec Ideal S2x16x2x128 .bf16)
    (hs : HoldsS s (xc (yb m c n) 0)) (h0 : HoldsA a0 (xc (yb m c n) 0 0)) (h1 : HoldsA a1 (xc (yb m c n) 0 1)) (hz : HoldsZ z (xc (yb m c n) 0)) (hw : HoldsW w (xc (yb m c n) 0)) :
    CarriedT m c n (o1, o2, o3, s, a0, a1, z, w) := ⟨hs, h0, h1, hz, hw⟩

/-- After every point the carried scratch holds the first chunk of the row block the point read. -/
theorem carried_A (t : Fin cfg0.N) (h0 : t.val % 130 = 0) : CarriedT m c (min t.val 128) (outsAt0 m c t.val t.isLt) :=
  Eq.mpr (congrArg (CarriedT m c (min t.val 128)) (outsAt0_A m c t h0))
    (carriedT_mk m c (min t.val 128) _ _ _ _ _ _ _ _ (carried_A_0 m c t h0) (carried_A_4 m c t h0) (carried_A_5 m c t h0) (carried_A_6 m c t h0) (carried_A_8 m c t h0))

theorem carried_B (t : Fin cfg0.N) (h0 : ¬t.val % 130 = 0) : CarriedT m c (min t.val 128) (outsAt0 m c t.val t.isLt) :=
  Eq.mpr (congrArg (CarriedT m c (min t.val 128)) (outsAt0_B m c t h0))
    (carriedT_mk m c (min t.val 128) _ _ _ _ _ _ _ _ (carried_B_0 m c t h0 _ _ _ _ _ _) (carried_B_4 m c t h0 _ _ _ _ _ _) (carried_B_5 m c t h0 _ _ _ _ _ _) (carried_B_6 m c t h0 _ _ _ _ _ _) (carried_B_8 m c t h0 _ _ _ _ _ _))

theorem carried (n : ℕ) (hn : n < cfg0.N) : CarriedT m c (min n 128) (outsAt0 m c n hn) :=
  if h0 : n % 130 = 0 then carried_A m c ⟨n, hn⟩ h0 else carried_B m c ⟨n, hn⟩ h0

theorem N_lt (t : Fin cfg0.N) : t.val < 130 := by have := t.isLt; have e : cfg0.N = 130 := N_0; omega

/-- What a point after the first finds carried. -/
theorem found (t : Fin cfg0.N) (ht : t.val ≠ 0) (h : t.val - 1 < cfg0.N) : CarriedT m c (t.val - 1) (outsAt0 m c (t.val - 1) h) := by
  have hn := N_lt t
  have hm : min (t.val - 1) 128 = t.val - 1 := by omega
  have e := carried m c (t.val - 1) h
  rwa [hm] at e

theorem after_words (t : Fin cfg0.N) (ht : t.val ≠ 0) (p : Fin 256) (k : Fin 512) :
    ((dats m 0 c).after 35 t : Vec Ideal S256x512 .i32) (ix2 p k) = wordAt (cd (W m c (256 * (t.val - 1) + p.val))) k.val := by
  have hn := N_lt t
  have h0 : ¬t.val % 130 = 0 := by omega
  have e : (dats m 0 c).after 35 t = out0_B_35 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 :=
    (after0_35 m c t).trans (congrArg Prod.fst (outsAt0_B m c t h0))
  have hf := words_B m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (found m c t ht (Nat.lt_of_le_of_lt (Nat.sub_le _ _) t.isLt)) p k
  exact (congrFun e (ix2 p k)).trans hf

theorem after_abs (t : Fin cfg0.N) (ht : t.val ≠ 0) (q : Fin 64) (p : Fin 256) :
    ((dats m 0 c).after 36 t : Vec Ideal S1x64x256 .f32) (ix3 0 q p) = bm (W m c (256 * (t.val - 1) + p.val)) q.val := by
  have hn := N_lt t
  have h0 : ¬t.val % 130 = 0 := by omega
  have e : (dats m 0 c).after 36 t = out0_B_36 m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 :=
    (after0_36 m c t).trans (congrArg (fun T => T.2.1) (outsAt0_B m c t h0))
  have hf := abs_B m c t h0 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (found m c t ht (Nat.lt_of_le_of_lt (Nat.sub_le _ _) t.isLt)) q p
  exact (congrFun e (ix3 0 q p)).trans hf

end Cert.Proof.Point

end
-- ==== Proof.Arrays.lean ====
/- The kernel's two arrays after the run, element by element. -/
module

public import proofs.«01_k».proof.Proof.Point

@[expose] public section

set_option maxRecDepth 65536
set_option maxHeartbeats 4000000

noncomputable section

namespace Cert.Proof.Point

open Cert.KernelIdeal Cert.KernelIdeal.Gen Cert.KernelIdeal.Hand
open Idealize.ShloMosaic Idealize.ShloMosaic.TcCoe Idealize.ShloMosaic.Tactic Idealize.SL.Sem
open Cert.Proof.Stage Cert.Proof.Blocks

variable (m : (ℓ : Loc nD τ sig) → Buf (Elt Ideal) ℓ) (c : Dev nD)

/-- The words the kernel returns. -/
def kWords : IVec S33024x512 32 := fun i => wordAt (cd (W m c (i 0).val)) (i 1).val

/-- The largest magnitudes the kernel returns. -/
def kAbs : FVec Ideal S3x64x11008 .f32 := fun i => bm (W m c (11008 * (i 0).val + (i 2).val)) (i 1).val

theorem flush_35 : ∀ t : Fin cfg0.N, (cfg0.win 35).flush t = true → t.val ≠ 0 :=
  (by decide +kernel : ∀ t : Fin grid0.N, (cfg0.win 35).flush t = true → t.val ≠ 0)

theorem flush_36 : ∀ t : Fin cfg0.N, (cfg0.win 36).flush t = true → t.val ≠ 0 :=
  (by decide +kernel : ∀ t : Fin grid0.N, (cfg0.win 36).flush t = true → t.val ≠ 0)

theorem arr_words : (dats m 0 c).arrAt 35 cfg0.N = kWords m c := by
  refine (dats m 0 c).arrAt_eq_of_covers 35 _ (by decide +kernel) fun t hf y => ?_
  have ht := flush_35 t hf
  have hi := idx_35 t
  have hw := after_words m c t ht
  generalize (dats m 0 c).after 35 t = A at hw ⊢
  unfold kWords
  generalize W m c = f at hw ⊢
  blk_simp [hi]
  have hy : y = (ix2 (y 0) (y 1) : S256x512.Idx) := by
    funext a
    fin_cases a <;> rfl
  refine (congrArg A hy).trans ((hw (y 0) (y 1)).trans ?_)
  exact congrArg (fun n => wordAt (cd (f n)) (y 1).val) (by omega)

theorem arr_abs : (dats m 0 c).arrAt 36 cfg0.N = kAbs m c := by
  refine (dats m 0 c).arrAt_eq_of_covers 36 _ (by decide +kernel) fun t hf y => ?_
  have ht := flush_36 t hf
  have hi := idx_36 t
  have hw := after_abs m c t ht
  generalize (dats m 0 c).after 36 t = A at hw ⊢
  unfold kAbs
  generalize W m c = f at hw ⊢
  blk_simp [hi]
  have hy : y = (ix3 0 (y 1) (y 2) : S1x64x256.Idx) := by
    funext a
    fin_cases a
    · exact Fin.ext (Nat.lt_one_iff.mp (y 0).isLt)
    · rfl
    · rfl
  refine (congrArg A hy).trans ((hw (y 1) (y 2)).trans ?_)
  exact congrArg (fun n => bm (f n) (y 1).val) (by omega)

end Cert.Proof.Point

end
-- ==== Proof.RefEq.lean ====
/- The reference's two results, in named steps. -/
module

public import proofs.«01_k».proof.Proof.Encode
public import proofs.«01_k».proof.Proof.Gen.ReferenceIdeal.Run
public import Idealize.ShloMosaic.Lib.Pipeline.ValueKit

@[expose] public section

set_option maxRecDepth 65536

noncomputable section

namespace Cert.Proof.Ref

open Idealize.ShloMosaic Idealize.ShloMosaic.TcCoe Idealize.ShloMosaic.Tactic Cert.ReferenceIdeal Cert.ReferenceIdeal.Gen Cert.Proof.Math
open Cert.Proof.Stage (bm bmax cd wordAt)

/-- The weights block by block. -/
def wf (w : FVec Ideal S3x11008x4096 .bf16) : FVec Ideal S3x11008x64x64 .f32 :=
  shapeCast S3x11008x64x64 (extf .f32 w bitsLt_bf16_f32) shapeCasts_S3x11008x4096_S3x11008x64x64

/-- The blocks' largest magnitudes. -/
def am (w : FVec Ideal S3x11008x4096 .bf16) : FVec Ideal S3x11008x64 .f32 :=
  Host.reduce FloatOps.maximumf (Host.absf (wf w)) (constant S_ .f32 0xFF800000#32) reducesTo_S3x11008x64x64_S3x11008x64_d3 h_S_

/-- The reciprocals. -/
def inv (w : FVec Ideal S3x11008x4096 .bf16) : FVec Ideal S3x11008x64 .f32 :=
  Host.divf (broadcastInDim S3x11008x64 ![] bcast_S_S3x11008x64 (constant S_ .f32 0x3F800000#32)) (select (cmpf .oeq (am w) (broadcastInDim S3x11008x64 ![] bcast_S_S3x11008x64 (constant S_ .f32 0x00000000#32))) (broadcastInDim S3x11008x64 ![] bcast_S_S3x11008x64 (constant S_ .f32 0x3F800000#32)) (am w))

/-- The normalized weights, eight to a word. -/
def xn (w : FVec Ideal S3x11008x4096 .bf16) : FVec Ideal S3x11008x512x8 .f32 :=
  shapeCast S3x11008x512x8 (mulf (wf w) (broadcastInDim S3x11008x64x64 ![0, 1, 2, 3] bcast_S3x11008x64x1_S3x11008x64x64_0_1_2_3 (broadcastInDim S3x11008x64x1 ![0, 1, 2] bcast_S3x11008x64_S3x11008x64x1_0_1_2 (inv w)))) shapeCasts_S3x11008x64x64_S3x11008x512x8

/-- The code's bits. -/
def b3 (x : FVec Ideal S3x11008x512x8 .f32) : IVec S3x11008x512x8 1 := cmpf .ogt x (broadcastInDim S3x11008x512x8 ![] bcast_S_S3x11008x512x8 (constant S_ .f32 0x3D22FAFF#32))
def b2 (x : FVec Ideal S3x11008x512x8 .f32) : IVec S3x11008x512x8 1 := cmpf .ogt x (select (b3 x) (broadcastInDim S3x11008x512x8 ![] bcast_S_S3x11008x512x8 (constant S_ .f32 0x3EC753F9#32)) (broadcastInDim S3x11008x512x8 ![] bcast_S_S3x11008x512x8 (constant S_ .f32 0xBEADEA76#32)))
def b1 (x : FVec Ideal S3x11008x512x8 .f32) : IVec S3x11008x512x8 1 := cmpf .ogt x (select (b3 x) (select (b2 x) (broadcastInDim S3x11008x512x8 ![] bcast_S_S3x11008x512x8 (constant S_ .f32 0x3F248DAF#32)) (broadcastInDim S3x11008x512x8 ![] bcast_S_S3x11008x512x8 (constant S_ .f32 0x3E5067E0#32))) (select (b2 x) (broadcastInDim S3x11008x512x8 ![] bcast_S_S3x11008x512x8 (constant S_ .f32 0xBE0D38BC#32)) (broadcastInDim S3x11008x512x8 ![] bcast_S_S3x11008x512x8 (constant S_ .f32 0xBF1C5270#32))))
def b0 (x : FVec Ideal S3x11008x512x8 .f32) : IVec S3x11008x512x8 1 := cmpf .ogt x (select (b3 x) (select (b2 x) (select (b1 x) (broadcastInDim S3x11008x512x8 ![] bcast_S_S3x11008x512x8 (constant S_ .f32 0x3F5C89DA#32)) (broadcastInDim S3x11008x512x8 ![] bcast_S_S3x11008x512x8 (constant S_ .f32 0x3F006D04#32))) (select (b1 x) (broadcastInDim S3x11008x512x8 ![] bcast_S_S3x11008x512x8 (constant S_ .f32 0x3E9582D4#32)) (broadcastInDim S3x11008x512x8 ![] bcast_S_S3x11008x512x8 (constant S_ .f32 0x3DF64862#32))))
  (select (b2 x) (select (b1 x) (broadcastInDim S3x11008x512x8 ![] bcast_S_S3x11008x512x8 (constant S_ .f32 0xBD3A7871#32)) (broadcastInDim S3x11008x512x8 ![] bcast_S_S3x11008x512x8 (constant S_ .f32 0xBE703CEC#32))) (select (b1 x) (broadcastInDim S3x11008x512x8 ![] bcast_S_S3x11008x512x8 (constant S_ .f32 0xBEEB8480#32)) (broadcastInDim S3x11008x512x8 ![] bcast_S_S3x11008x512x8 (constant S_ .f32 0xBF591CD8#32)))))

/-- The codes. -/
def codes (x : FVec Ideal S3x11008x512x8 .f32) : IVec S3x11008x512x8 32 :=
  addi (addi (addi (muli (extui 32 (b3 x) natLt_1_32) (broadcastInDim S3x11008x512x8 ![] bcast_S_S3x11008x512x8 (constantI S_ 32 8#32))) (muli (extui 32 (b2 x) natLt_1_32) (broadcastInDim S3x11008x512x8 ![] bcast_S_S3x11008x512x8 (constantI S_ 32 4#32)))) (muli (extui 32 (b1 x) natLt_1_32) (broadcastInDim S3x11008x512x8 ![] bcast_S_S3x11008x512x8 (constantI S_ 32 2#32)))) (extui 32 (b0 x) natLt_1_32)

/-- The words. -/
def pack (k : IVec S3x11008x512x8 32) : IVec S33024x512 32 :=
  shapeCast S33024x512 (id (Host.reduce IntOp.addi (Host.shli k (broadcastInDim S3x11008x512x8 ![0, 1, 2, 3] bcast_S1x1x1x8_S3x11008x512x8_0_1_2_3 (broadcastInDim S1x1x1x8 ![3] bcast_S8_S1x1x1x8_3 (muli (iotaInDim S8 32 0) (broadcastInDim S8 ![] bcast_S_S8 (constantI S_ 32 4#32)))))) (constantI S_ 32 0#32) reducesTo_S3x11008x512x8_S3x11008x512_d3 h_S_)) shapeCasts_S3x11008x512_S33024x512

theorem res_eq (m : (ℓ : Loc nD τ sig) → Buf (Elt Ideal) ℓ) (c : Dev nD) :
    Cert.ReferenceIdeal.Value.res_main_v50 m c = pack (codes (xn (m ((c.tc : Thread nD τ).loc main_arg0)))) := by
  unfold Cert.ReferenceIdeal.Value.res_main_v50 pack codes b0 b1 b2 b3 xn inv am wf
  rfl

end Cert.Proof.Ref

end
-- ==== Proof.RefVal.lean ====
/- The reference's two results, element by element. -/
module

public import proofs.«01_k».proof.Proof.Encode
public import proofs.«01_k».proof.Proof.RefEq
public import Idealize.ShloMosaic.Lib.Pipeline.ValueKit

@[expose] public section

set_option maxRecDepth 65536

noncomputable section

namespace Cert.Proof.Ref

open Idealize.ShloMosaic Idealize.ShloMosaic.TcCoe Idealize.ShloMosaic.Tactic Cert.ReferenceIdeal Cert.ReferenceIdeal.Gen Cert.Proof.Math
open Cert.Proof.Stage (bm bmax cd wordAt)

theorem ninf_eq : Ideal.ofBits .f32 0xFF800000#32 = (⊥ : EReal) := by
  simp [Ideal.ofBits, Ideal.ieee]

theorem inv_of (A C1 C0 : FVec Ideal S3x11008x64 .f32) (j : S3x11008x64.Idx) (e1 : C1 j = Ideal.ofBits .f32 0x3F800000#32) (e0 : C0 j = Ideal.ofBits .f32 0x00000000#32) :
   Host.divf C1 (select (cmpf .oeq A C0) C1 A) j = Ideal.div 1 (safe (A j)) := by
  pointwise [e1, e0]
  unfold safe
  simp

section
variable (w : FVec Ideal S3x11008x4096 .bf16) (y : ℕ → EReal) (e : Fin 3) (r : Fin 11008) (hy : ∀ k : Fin 4096, w (ix3 e r k) = y k.val)
include hy

theorem wf_apply (q f : Fin 64) : wf w (ix4 e r q f) = y (64 * q.val + f.val) := by
  have := q.isLt
  have := f.isLt
  unfold wf
  pointwise
  refine Eq.trans ?_ (hy ⟨64 * q.val + f.val, by omega⟩)
  exact congrArg (fun k => w (ix3 e r k)) (Fin.ext (by show q.val * 64 + f.val = 64 * q.val + f.val; omega))

theorem am_apply (q : Fin 64) : am w (ix3 e r q) = bm y q.val := by
  have h := wf_apply w y e r hy
  unfold am
  generalize wf w = W at h ⊢
  pointwise
  simp only [h]
  rw [ninf_eq]
  rfl

theorem inv_apply (q : Fin 64) : inv w (ix3 e r q) = Ideal.div 1 (safe (bm y q.val)) := by
  have h := am_apply w y e r hy q
  unfold inv
  exact (inv_of _ _ _ _ rfl rfl).trans (congrArg (fun a => Ideal.div 1 (safe a)) h)

theorem xn_apply (u : Fin 512) (i : Fin 8) : xn w (ix4 e r u i) = y (8 * u.val + i.val) * Ideal.div 1 (safe (bm y ((8 * u.val + i.val) / 64))) := by
  have h := inv_apply w y e r hy ⟨u.val / 8, by omega⟩
  have h2 := wf_apply w y e r hy ⟨u.val / 8, by omega⟩ ⟨u.val % 8 * 8 + i.val, by omega⟩
  unfold xn
  generalize inv w = A at h ⊢
  generalize wf w = W at h2 ⊢
  pointwise
  refine congrArg₂ (fun a b : EReal => a * b) (h2.trans (congrArg y ?_)) (h.trans (congrArg (fun q => Ideal.div 1 (safe (bm y q))) ?_))
  · show 64 * (u.val / 8) + (u.val % 8 * 8 + i.val) = 8 * u.val + i.val
    omega
  · show u.val / 8 = (8 * u.val + i.val) / 64
    omega

end

end Cert.Proof.Ref

end
-- ==== Proof.RefCode.lean ====
/- The reference's two results, element by element. -/
module

public import proofs.«01_k».proof.Proof.Encode
public import proofs.«01_k».proof.Proof.RefEq
public import Idealize.ShloMosaic.Lib.Pipeline.ValueKit

@[expose] public section

set_option maxRecDepth 65536

noncomputable section

namespace Cert.Proof.Ref

open Idealize.ShloMosaic Idealize.ShloMosaic.TcCoe Idealize.ShloMosaic.Tactic Cert.ReferenceIdeal Cert.ReferenceIdeal.Gen Cert.Proof.Math
open Cert.Proof.Stage (bm bmax cd wordAt)

theorem b3_apply (x : FVec Ideal S3x11008x512x8 .f32) (j : S3x11008x512x8.Idx) :
    b3 x j = BitVec.ofBool (decide (((t7 : ℝ) : EReal) < x j)) := by
  have e7 : ∀ j, (broadcastInDim S3x11008x512x8 ![] bcast_S_S3x11008x512x8 (constant S_ .f32 0x3D22FAFF#32) : FVec Ideal S3x11008x512x8 .f32) j = ((t7 : ℝ) : EReal) := fun _ => t7_eq
  unfold b3
  generalize (broadcastInDim S3x11008x512x8 ![] bcast_S_S3x11008x512x8 (constant S_ .f32 0x3D22FAFF#32) : FVec Ideal S3x11008x512x8 .f32) = C7 at e7 ⊢
  pointwise [e7]

theorem b2_apply (x : FVec Ideal S3x11008x512x8 .f32) (j : S3x11008x512x8.Idx) (p : Bool) (h : b3 x j = BitVec.ofBool p) :
    b2 x j = BitVec.ofBool (decide (((bif p then t11 else t3 : ℝ) : EReal) < x j)) := by
  have e11 : ∀ j, (broadcastInDim S3x11008x512x8 ![] bcast_S_S3x11008x512x8 (constant S_ .f32 0x3EC753F9#32) : FVec Ideal S3x11008x512x8 .f32) j = ((t11 : ℝ) : EReal) := fun _ => t11_eq
  have e3 : ∀ j, (broadcastInDim S3x11008x512x8 ![] bcast_S_S3x11008x512x8 (constant S_ .f32 0xBEADEA76#32) : FVec Ideal S3x11008x512x8 .f32) j = ((t3 : ℝ) : EReal) := fun _ => t3_eq
  unfold b2
  generalize b3 x = c at h ⊢
  generalize (broadcastInDim S3x11008x512x8 ![] bcast_S_S3x11008x512x8 (constant S_ .f32 0x3EC753F9#32) : FVec Ideal S3x11008x512x8 .f32) = C11 at e11 ⊢
  generalize (broadcastInDim S3x11008x512x8 ![] bcast_S_S3x11008x512x8 (constant S_ .f32 0xBEADEA76#32) : FVec Ideal S3x11008x512x8 .f32) = C3 at e3 ⊢
  pointwise [h, e11, e3]
  cases p <;> simp

theorem b1_apply (x : FVec Ideal S3x11008x512x8 .f32) (j : S3x11008x512x8.Idx) (p q : Bool) (h : b3 x j = BitVec.ofBool p) (h2 : b2 x j = BitVec.ofBool q) :
    b1 x j = BitVec.ofBool (decide (((bif p then (bif q then t13 else t9) else (bif q then t5 else t1) : ℝ) : EReal) < x j)) := by
  have e13 : ∀ j, (broadcastInDim S3x11008x512x8 ![] bcast_S_S3x11008x512x8 (constant S_ .f32 0x3F248DAF#32) : FVec Ideal S3x11008x512x8 .f32) j = ((t13 : ℝ) : EReal) := fun _ => t13_eq
  have e9 : ∀ j, (broadcastInDim S3x11008x512x8 ![] bcast_S_S3x11008x512x8 (constant S_ .f32 0x3E5067E0#32) : FVec Ideal S3x11008x512x8 .f32) j = ((t9 : ℝ) : EReal) := fun _ => t9_eq
  have e5 : ∀ j, (broadcastInDim S3x11008x512x8 ![] bcast_S_S3x11008x512x8 (constant S_ .f32 0xBE0D38BC#32) : FVec Ideal S3x11008x512x8 .f32) j = ((t5 : ℝ) : EReal) := fun _ => t5_eq
  have e1 : ∀ j, (broadcastInDim S3x11008x512x8 ![] bcast_S_S3x11008x512x8 (constant S_ .f32 0xBF1C5270#32) : FVec Ideal S3x11008x512x8 .f32) j = ((t1 : ℝ) : EReal) := fun _ => t1_eq
  unfold b1
  generalize b3 x = c at h ⊢
  generalize b2 x = c2 at h2 ⊢
  generalize (broadcastInDim S3x11008x512x8 ![] bcast_S_S3x11008x512x8 (constant S_ .f32 0x3F248DAF#32) : FVec Ideal S3x11008x512x8 .f32) = C13 at e13 ⊢
  generalize (broadcastInDim S3x11008x512x8 ![] bcast_S_S3x11008x512x8 (constant S_ .f32 0x3E5067E0#32) : FVec Ideal S3x11008x512x8 .f32) = C9 at e9 ⊢
  generalize (broadcastInDim S3x11008x512x8 ![] bcast_S_S3x11008x512x8 (constant S_ .f32 0xBE0D38BC#32) : FVec Ideal S3x11008x512x8 .f32) = C5 at e5 ⊢
  generalize (broadcastInDim S3x11008x512x8 ![] bcast_S_S3x11008x512x8 (constant S_ .f32 0xBF1C5270#32) : FVec Ideal S3x11008x512x8 .f32) = C1 at e1 ⊢
  pointwise [h, h2, e13, e9, e5, e1]
  cases p <;> cases q <;> simp

theorem b0_apply (x : FVec Ideal S3x11008x512x8 .f32) (j : S3x11008x512x8.Idx) (p q r : Bool) (h : b3 x j = BitVec.ofBool p) (h2 : b2 x j = BitVec.ofBool q)
    (h1 : b1 x j = BitVec.ofBool r) :
    b0 x j = BitVec.ofBool (decide (((bif p then (bif q then (bif r then t14 else t12) else (bif r then t10 else t8)) else
      (bif q then (bif r then t6 else t4) else (bif r then t2 else t0)) : ℝ) : EReal) < x j)) := by
  have e14 : ∀ j, (broadcastInDim S3x11008x512x8 ![] bcast_S_S3x11008x512x8 (constant S_ .f32 0x3F5C89DA#32) : FVec Ideal S3x11008x512x8 .f32) j = ((t14 : ℝ) : EReal) := fun _ => t14_eq
  have e12 : ∀ j, (broadcastInDim S3x11008x512x8 ![] bcast_S_S3x11008x512x8 (constant S_ .f32 0x3F006D04#32) : FVec Ideal S3x11008x512x8 .f32) j = ((t12 : ℝ) : EReal) := fun _ => t12_eq
  have e10 : ∀ j, (broadcastInDim S3x11008x512x8 ![] bcast_S_S3x11008x512x8 (constant S_ .f32 0x3E9582D4#32) : FVec Ideal S3x11008x512x8 .f32) j = ((t10 : ℝ) : EReal) := fun _ => t10_eq
  have e8 : ∀ j, (broadcastInDim S3x11008x512x8 ![] bcast_S_S3x11008x512x8 (constant S_ .f32 0x3DF64862#32) : FVec Ideal S3x11008x512x8 .f32) j = ((t8 : ℝ) : EReal) := fun _ => t8_eq
  have e6 : ∀ j, (broadcastInDim S3x11008x512x8 ![] bcast_S_S3x11008x512x8 (constant S_ .f32 0xBD3A7871#32) : FVec Ideal S3x11008x512x8 .f32) j = ((t6 : ℝ) : EReal) := fun _ => t6_eq
  have e4 : ∀ j, (broadcastInDim S3x11008x512x8 ![] bcast_S_S3x11008x512x8 (constant S_ .f32 0xBE703CEC#32) : FVec Ideal S3x11008x512x8 .f32) j = ((t4 : ℝ) : EReal) := fun _ => t4_eq
  have e2 : ∀ j, (broadcastInDim S3x11008x512x8 ![] bcast_S_S3x11008x512x8 (constant S_ .f32 0xBEEB8480#32) : FVec Ideal S3x11008x512x8 .f32) j = ((t2 : ℝ) : EReal) := fun _ => t2_eq
  have e0 : ∀ j, (broadcastInDim S3x11008x512x8 ![] bcast_S_S3x11008x512x8 (constant S_ .f32 0xBF591CD8#32) : FVec Ideal S3x11008x512x8 .f32) j = ((t0 : ℝ) : EReal) := fun _ => t0_eq
  unfold b0
  generalize b3 x = c at h ⊢
  generalize b2 x = c2 at h2 ⊢
  generalize b1 x = c1 at h1 ⊢
  generalize (broadcastInDim S3x11008x512x8 ![] bcast_S_S3x11008x512x8 (constant S_ .f32 0x3F5C89DA#32) : FVec Ideal S3x11008x512x8 .f32) = C14 at e14 ⊢
  generalize (broadcastInDim S3x11008x512x8 ![] bcast_S_S3x11008x512x8 (constant S_ .f32 0x3F006D04#32) : FVec Ideal S3x11008x512x8 .f32) = C12 at e12 ⊢
  generalize (broadcastInDim S3x11008x512x8 ![] bcast_S_S3x11008x512x8 (constant S_ .f32 0x3E9582D4#32) : FVec Ideal S3x11008x512x8 .f32) = C10 at e10 ⊢
  generalize (broadcastInDim S3x11008x512x8 ![] bcast_S_S3x11008x512x8 (constant S_ .f32 0x3DF64862#32) : FVec Ideal S3x11008x512x8 .f32) = C8 at e8 ⊢
  generalize (broadcastInDim S3x11008x512x8 ![] bcast_S_S3x11008x512x8 (constant S_ .f32 0xBD3A7871#32) : FVec Ideal S3x11008x512x8 .f32) = C6 at e6 ⊢
  generalize (broadcastInDim S3x11008x512x8 ![] bcast_S_S3x11008x512x8 (constant S_ .f32 0xBE703CEC#32) : FVec Ideal S3x11008x512x8 .f32) = C4 at e4 ⊢
  generalize (broadcastInDim S3x11008x512x8 ![] bcast_S_S3x11008x512x8 (constant S_ .f32 0xBEEB8480#32) : FVec Ideal S3x11008x512x8 .f32) = C2 at e2 ⊢
  generalize (broadcastInDim S3x11008x512x8 ![] bcast_S_S3x11008x512x8 (constant S_ .f32 0xBF591CD8#32) : FVec Ideal S3x11008x512x8 .f32) = C0 at e0 ⊢
  pointwise [h, h2, h1, e14, e12, e10, e8, e6, e4, e2, e0]
  cases p <;> cases q <;> cases r <;> simp

theorem codes_apply (x : FVec Ideal S3x11008x512x8 .f32) (j : S3x11008x512x8.Idx) :
    codes x j = BitVec.ofNat 32 (bisect fun t => decide ((t : EReal) < x j)) := by
  have h3 := b3_apply x j
  have h2 := b2_apply x j _ h3
  have h1 := b1_apply x j _ _ h3 h2
  have h0 := b0_apply x j _ _ _ h3 h2 h1
  have e8 : ∀ j, (broadcastInDim S3x11008x512x8 ![] bcast_S_S3x11008x512x8 (constantI S_ 32 8#32) : IVec S3x11008x512x8 32) j = 8#32 := fun _ => rfl
  have e4 : ∀ j, (broadcastInDim S3x11008x512x8 ![] bcast_S_S3x11008x512x8 (constantI S_ 32 4#32) : IVec S3x11008x512x8 32) j = 4#32 := fun _ => rfl
  have e2 : ∀ j, (broadcastInDim S3x11008x512x8 ![] bcast_S_S3x11008x512x8 (constantI S_ 32 2#32) : IVec S3x11008x512x8 32) j = 2#32 := fun _ => rfl
  have key : ∀ (c3 c2 c1 c0 : IVec S3x11008x512x8 1) (p3 p2 p1 p0 : Bool), c3 j = BitVec.ofBool p3 → c2 j = BitVec.ofBool p2 → c1 j = BitVec.ofBool p1 → c0 j = BitVec.ofBool p0 →
      addi (addi (addi (muli (extui 32 c3 natLt_1_32) (broadcastInDim S3x11008x512x8 ![] bcast_S_S3x11008x512x8 (constantI S_ 32 8#32))) (muli (extui 32 c2 natLt_1_32) (broadcastInDim S3x11008x512x8 ![] bcast_S_S3x11008x512x8 (constantI S_ 32 4#32)))) (muli (extui 32 c1 natLt_1_32) (broadcastInDim S3x11008x512x8 ![] bcast_S_S3x11008x512x8 (constantI S_ 32 2#32)))) (extui 32 c0 natLt_1_32) j
        = BitVec.ofNat 32 (p3.toNat * 8 + p2.toNat * 4 + p1.toNat * 2 + p0.toNat) := by
    intro c3 c2 c1 c0 p3 p2 p1 p0 h3 h2 h1 h0
    generalize (broadcastInDim S3x11008x512x8 ![] bcast_S_S3x11008x512x8 (constantI S_ 32 8#32) : IVec S3x11008x512x8 32) = C8 at e8 ⊢
    generalize (broadcastInDim S3x11008x512x8 ![] bcast_S_S3x11008x512x8 (constantI S_ 32 4#32) : IVec S3x11008x512x8 32) = C4 at e4 ⊢
    generalize (broadcastInDim S3x11008x512x8 ![] bcast_S_S3x11008x512x8 (constantI S_ 32 2#32) : IVec S3x11008x512x8 32) = C2 at e2 ⊢
    pointwise [h3, h2, h1, h0, e8, e4, e2]
    cases p3 <;> cases p2 <;> cases p1 <;> cases p0 <;> rfl
  exact key _ _ _ _ _ _ _ _ h3 h2 h1 h0

theorem pack_sum (d : ℕ → ℕ) (u : ℕ) :
    Finset.fold IntOp.addi (0#32) (fun x : Fin 8 => IntOp.shli ArithUnit.host (BitVec.ofNat 32 (d (8 * u + x.val))) (BitVec.ofNat 32 x.val * 4#32)) Finset.univ =
    wordAt d u := by
  have key : ∀ f : Fin 8 → BitVec 32, Finset.fold IntOp.addi (0#32) f Finset.univ = f 0 + (f 1 + (f 2 + (f 3 + (f 4 + (f 5 + (f 6 + (f 7 + 0#32))))))) := by
    intro f
    rfl
  rw [key]
  have s : ∀ (a n : ℕ), n < 8 → IntOp.shli ArithUnit.host (BitVec.ofNat 32 a) (BitVec.ofNat 32 n * 4#32) = BitVec.ofNat 32 (a * 2 ^ (4 * n)) := by
    intro a n hn
    have e : (BitVec.ofNat 32 n * 4#32).toNat = 4 * n := by
      simp only [BitVec.toNat_mul, BitVec.toNat_ofNat]; omega
    unfold IntOp.shli
    rw [e, if_pos (by omega)]
    apply BitVec.eq_of_toNat_eq
    show ((BitVec.ofNat 32 a) <<< (BitVec.ofNat 32 n * 4#32).toNat).toNat = _
    rw [e, BitVec.toNat_shiftLeft, BitVec.toNat_ofNat, BitVec.toNat_ofNat, Nat.shiftLeft_eq, Nat.mod_mul_mod]
  simp only [s _ (Fin.val _) (Fin.isLt _)]
  show BitVec.ofNat 32 (d (8 * u + 0) * 2 ^ (4 * 0)) + (BitVec.ofNat 32 (d (8 * u + 1) * 2 ^ (4 * 1)) + (BitVec.ofNat 32 (d (8 * u + 2) * 2 ^ (4 * 2))
    + (BitVec.ofNat 32 (d (8 * u + 3) * 2 ^ (4 * 3)) + (BitVec.ofNat 32 (d (8 * u + 4) * 2 ^ (4 * 4)) + (BitVec.ofNat 32 (d (8 * u + 5) * 2 ^ (4 * 5))
    + (BitVec.ofNat 32 (d (8 * u + 6) * 2 ^ (4 * 6)) + (BitVec.ofNat 32 (d (8 * u + 7) * 2 ^ (4 * 7)) + BitVec.ofNat 32 0))))))) = _
  unfold wordAt
  simp only [← BitVec.ofNat_add]
  refine congrArg (BitVec.ofNat 32) ?_
  simp only [Nat.add_zero, Nat.mul_zero, Nat.pow_zero, Nat.mul_one]
  norm_num
  ring

theorem pack_apply (k : IVec S3x11008x512x8 32) (d : ℕ → ℕ) (i : Fin 33024) (u : Fin 512)
    (hk : ∀ j : Fin 8, k (ix4 ⟨i.val / 11008, by omega⟩ ⟨i.val % 11008, by omega⟩ u j) = BitVec.ofNat 32 (d (8 * u.val + j.val))) :
    pack k (ix2 i u) = wordAt d u.val := by
  have es : ∀ (a : Fin 3) (b : Fin 11008) (c : Fin 512) (j : Fin 8), (broadcastInDim S3x11008x512x8 ![0, 1, 2, 3] bcast_S1x1x1x8_S3x11008x512x8_0_1_2_3 (broadcastInDim S1x1x1x8 ![3] bcast_S8_S1x1x1x8_3 (muli (iotaInDim S8 32 0) (broadcastInDim S8 ![] bcast_S_S8 (constantI S_ 32 4#32)))) : IVec S3x11008x512x8 32) (ix4 a b c j) = BitVec.ofNat 32 j.val * 4#32 := by
    intro a b c j
    rfl
  unfold pack
  generalize (broadcastInDim S3x11008x512x8 ![0, 1, 2, 3] bcast_S1x1x1x8_S3x11008x512x8_0_1_2_3 (broadcastInDim S1x1x1x8 ![3] bcast_S8_S1x1x1x8_3 (muli (iotaInDim S8 32 0) (broadcastInDim S8 ![] bcast_S_S8 (constantI S_ 32 4#32)))) : IVec S3x11008x512x8 32) = C at es ⊢
  unfold id
  pointwise
  simp only [hk, es]
  exact pack_sum d u.val

end Cert.Proof.Ref

end
-- ==== Proof.RefFin.lean ====
/- The reference's two results, element by element. -/
module

public import proofs.«01_k».proof.Proof.Encode
public import proofs.«01_k».proof.Proof.RefVal
public import proofs.«01_k».proof.Proof.RefCode
public import Idealize.ShloMosaic.Lib.Pipeline.ValueKit

@[expose] public section

set_option maxRecDepth 65536

noncomputable section

namespace Cert.Proof.Ref

open Idealize.ShloMosaic Idealize.ShloMosaic.TcCoe Idealize.ShloMosaic.Tactic Cert.ReferenceIdeal Cert.ReferenceIdeal.Gen Cert.Proof.Math
open Cert.Proof.Stage (bm bmax cd wordAt)

variable (w : FVec Ideal S3x11008x4096 .bf16)

theorem words_apply (f : ℕ → ℕ → EReal) (hf : ∀ (e : Fin 3) (r : Fin 11008) (k : Fin 4096), w (ix3 e r k) = f (11008 * e.val + r.val) k.val) (i : Fin 33024) (u : Fin 512) :
    pack (codes (xn w)) (ix2 i u) = wordAt (cd (f i.val)) u.val := by
  have hi := i.isLt
  have hu := u.isLt
  refine pack_apply _ (cd (f i.val)) i u fun j => (codes_apply _ _).trans ?_
  have hj := j.isLt
  rw [xn_apply w (f i.val) ⟨i.val / 11008, by omega⟩ ⟨i.val % 11008, by omega⟩ (fun k => (hf _ _ k).trans (congrArg (fun n => f n k.val) (by show 11008 * (i.val / 11008) + i.val % 11008 = i.val; omega))) u j]
  rfl

theorem abs_apply (f : ℕ → ℕ → EReal) (hf : ∀ (e : Fin 3) (r : Fin 11008) (k : Fin 4096), w (ix3 e r k) = f (11008 * e.val + r.val) k.val) (e : Fin 3) (q : Fin 64) (r : Fin 11008) :
    transpose S3x64x11008 [0, 2, 1] (am w) transposes_S3x11008x64_S3x64x11008_0_2_1 (ix3 e q r) = bm (f (11008 * e.val + r.val)) q.val := by
  have h := am_apply w (f (11008 * e.val + r.val)) e r (hf e r) q
  generalize am w = A at h ⊢
  pointwise [h]

theorem words_eq (f : ℕ → ℕ → EReal) (hf : ∀ (e : Fin 3) (r : Fin 11008) (k : Fin 4096), w (ix3 e r k) = f (11008 * e.val + r.val) k.val) :
    pack (codes (xn w)) = (fun i => wordAt (cd (f (i 0).val)) (i 1).val : IVec S33024x512 32) := by
  funext i
  have hi : i = (ix2 (i 0) (i 1) : S33024x512.Idx) := by
    funext a
    fin_cases a <;> rfl
  rw [hi]
  exact words_apply w f hf (i 0) (i 1)

theorem abs_eq (f : ℕ → ℕ → EReal) (hf : ∀ (e : Fin 3) (r : Fin 11008) (k : Fin 4096), w (ix3 e r k) = f (11008 * e.val + r.val) k.val) :
    transpose S3x64x11008 [0, 2, 1] (am w) transposes_S3x11008x64_S3x64x11008_0_2_1 = (fun i => bm (f (11008 * (i 0).val + (i 2).val)) (i 1).val : FVec Ideal S3x64x11008 .f32) := by
  funext i
  have hi : i = (ix3 (i 0) (i 1) (i 2) : S3x64x11008.Idx) := by
    funext a
    fin_cases a <;> rfl
  rw [hi]
  exact abs_apply w f hf (i 0) (i 1) (i 2)

end Cert.Proof.Ref

end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Ideal.Launch
public import proofs.«01_k».proof.Proof.Arrays
public import proofs.«01_k».proof.Proof.RefFin
public import Idealize.ShloMosaic.Lib.Bf16Pair
public import Idealize.ShloMosaic.Lib.Bf16PairInverse
public import Idealize.ShloMosaic.Lib.Quiescent
public import Idealize.ShloMosaic.Lib.Claim
public import Idealize.ShloMosaic.Lib.Pipeline.ValueKit
public import Idealize.ShloMosaic.Adequacy
public import Idealize.ShloMosaic.Init

@[expose] public section

set_option maxRecDepth 65536

noncomputable section

namespace Cert.Proof

open Idealize.ShloMosaic Idealize.ShloMosaic.TcCoe Idealize.ShloMosaic.Tactic Idealize.SL.Sem

/-- The reference's frame: its run read at the argument; the program declares no semaphore. -/
theorem frame_ri : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- The weights over flattened rows are the argument's. -/
theorem weights (m : (ℓ : Loc Cert.KernelIdeal.nD Cert.KernelIdeal.τ Cert.KernelIdeal.sig) → Buf (Elt Ideal) ℓ) (c : Dev Cert.KernelIdeal.nD) (e : Fin 3) (r : Fin 11008) (k : Fin 4096) :
    (m ((c.tc : Thread Cert.KernelIdeal.nD Cert.KernelIdeal.τ).loc Cert.KernelIdeal.main_arg0) : Vec Ideal Cert.KernelIdeal.S3x11008x4096 .bf16) (ix3 e r k)
      = Blocks.W m c (11008 * e.val + r.val) k.val := by
  have he := e.isLt
  have hr := r.isLt
  refine ((Blocks.W_of m c (11008 * e.val + r.val) k.val (by omega) k.isLt).trans ?_).symm
  have e1 : (⟨(11008 * e.val + r.val) / 11008, by omega⟩ : Fin 3) = e := Fin.ext (by show (11008 * e.val + r.val) / 11008 = e.val; omega)
  have e2 : (⟨(11008 * e.val + r.val) % 11008, by omega⟩ : Fin 11008) = r := Fin.ext (by show (11008 * e.val + r.val) % 11008 = r.val; omega)
  rw [e1, e2]

/-- Both programs run, and from equal arguments the results are equal. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Point.kWords m c, fun c => Point.kAbs m c, ?_, ?_⟩
  · exact (θ_run (Cert.KernelIdeal.defs (F := Ideal)) _ _).mono
      (fun r h c => ⟨(h c).1.trans (Point.arr_words m c), (h c).2.1.trans (Point.arr_abs m c), (h c).2.2.2⟩) (Cert.KernelIdeal.Hand.run_blocks (F := Ideal) m g)
  · refine (θ_run (Cert.ReferenceIdeal.defs (F := Ideal)) _ _).mono (fun r h c => ⟨(h c).1.trans ?_, (h c).2.1.trans ?_, (h c).2.2⟩) (Cert.ReferenceIdeal.Value.run (F := Ideal) m' g')
    · rw [Ref.res_eq, hargs c]
      exact Ref.words_eq _ (Blocks.W m c) (weights m c)
    · rw [hargs c]
      exact Ref.abs_eq _ (Blocks.W m c) (weights m c)

theorem claim : Cert.Claim :=
  ⟨Cert.KernelIdeal.Gen.facts, Cert.ReferenceIdeal.Gen.facts, fun m ρ _ => Cert.KernelIdeal.Hand.frame m ρ, frame_ri, algebraic⟩

end Cert.Proof

end
